-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_rope [hPre_finite_rope : Cert.Pre_finite_rope.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_rope.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_rope [hPre_finite_rope : Cert.Pre_finite_rope.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_rope.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ropes [hPre_finite_ropes : Cert.Pre_finite_ropes.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ropes.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ropes [hPre_finite_ropes : Cert.Pre_finite_ropes.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ropes.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite_rope [hKernel5Ideal : Cert.Kernel5Ideal.Facts] [hPre_finite_rope : Cert.Pre_finite_rope.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_rope m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite_rope [hReference5Ideal : Cert.Reference5Ideal.Facts] [hPre_finite_rope : Cert.Pre_finite_rope.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_rope m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite_ropes [hKernel7Ideal : Cert.Kernel7Ideal.Facts] [hPre_finite_ropes : Cert.Pre_finite_ropes.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ropes m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite_ropes [hReference7Ideal : Cert.Reference7Ideal.Facts] [hPre_finite_ropes : Cert.Pre_finite_ropes.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ropes m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v6_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v31_2)) (v1 : (c : Dev Cert.Kernel4Ideal.nD) → Buf (Elt Ideal) ((c.tc : Thread Cert.Kernel4Ideal.nD Cert.Kernel4Ideal.τ).loc Cert.Kernel4Ideal.main_v31_3)) (v2 : (c : Dev Cert.Kernel4Ideal.nD) → Buf (Elt Ideal) ((c.tc : Thread Cert.Kernel4Ideal.nD Cert.Kernel4Ideal.τ).loc Cert.Kernel4Ideal.main_v31_5)) (v3 : (c : Dev Cert.Kernel4Ideal.nD) → Buf (Elt Ideal) ((c.tc : Thread Cert.Kernel4Ideal.nD Cert.Kernel4Ideal.τ).loc Cert.Kernel4Ideal.main_v31_6)) (v4 : (c : Dev Cert.Kernel4Ideal.nD) → Buf (Elt Ideal) ((c.tc : Thread Cert.Kernel4Ideal.nD Cert.Kernel4Ideal.τ).loc Cert.Kernel4Ideal.main_v31_7)) (v5 : (c : Dev Cert.Kernel4Ideal.nD) → Buf (Elt Ideal) ((c.tc : Thread Cert.Kernel4Ideal.nD Cert.Kernel4Ideal.τ).loc Cert.Kernel4Ideal.main_v31_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_2) = v0 c
          ∧ r.2.mem ((c.tc : Thread Cert.Kernel4Ideal.nD Cert.Kernel4Ideal.τ).loc Cert.Kernel4Ideal.main_v31_3) = v1 c
          ∧ r.2.mem ((c.tc : Thread Cert.Kernel4Ideal.nD Cert.Kernel4Ideal.τ).loc Cert.Kernel4Ideal.main_v31_5) = v2 c
          ∧ r.2.mem ((c.tc : Thread Cert.Kernel4Ideal.nD Cert.Kernel4Ideal.τ).loc Cert.Kernel4Ideal.main_v31_6) = v3 c
          ∧ r.2.mem ((c.tc : Thread Cert.Kernel4Ideal.nD Cert.Kernel4Ideal.τ).loc Cert.Kernel4Ideal.main_v31_7) = v4 c
          ∧ r.2.mem ((c.tc : Thread Cert.Kernel4Ideal.nD Cert.Kernel4Ideal.τ).loc Cert.Kernel4Ideal.main_v31_9) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v21) = v4 c
          ∧ r.2.mem ((c.tc : Thread Cert.Reference4Ideal.nD Cert.Reference4Ideal.τ).loc Cert.Reference4Ideal.main_v23) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal_pre_finite_rope [hKernel5Ideal : Cert.Kernel5Ideal.Facts] [hReference5Ideal : Cert.Reference5Ideal.Facts] [hPre_finite_rope : Cert.Pre_finite_rope.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_rope m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v44_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44_4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v31_2)) (v1 : (c : Dev Cert.Kernel6Ideal.nD) → Buf (Elt Ideal) ((c.tc : Thread Cert.Kernel6Ideal.nD Cert.Kernel6Ideal.τ).loc Cert.Kernel6Ideal.main_v31_4)) (v2 : (c : Dev Cert.Kernel6Ideal.nD) → Buf (Elt Ideal) ((c.tc : Thread Cert.Kernel6Ideal.nD Cert.Kernel6Ideal.τ).loc Cert.Kernel6Ideal.main_v31_5)) (v3 : (c : Dev Cert.Kernel6Ideal.nD) → Buf (Elt Ideal) ((c.tc : Thread Cert.Kernel6Ideal.nD Cert.Kernel6Ideal.τ).loc Cert.Kernel6Ideal.main_v31_6)) (v4 : (c : Dev Cert.Kernel6Ideal.nD) → Buf (Elt Ideal) ((c.tc : Thread Cert.Kernel6Ideal.nD Cert.Kernel6Ideal.τ).loc Cert.Kernel6Ideal.main_v31_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_2) = v0 c
          ∧ r.2.mem ((c.tc : Thread Cert.Kernel6Ideal.nD Cert.Kernel6Ideal.τ).loc Cert.Kernel6Ideal.main_v31_4) = v1 c
          ∧ r.2.mem ((c.tc : Thread Cert.Kernel6Ideal.nD Cert.Kernel6Ideal.τ).loc Cert.Kernel6Ideal.main_v31_5) = v2 c
          ∧ r.2.mem ((c.tc : Thread Cert.Kernel6Ideal.nD Cert.Kernel6Ideal.τ).loc Cert.Kernel6Ideal.main_v31_6) = v3 c
          ∧ r.2.mem ((c.tc : Thread Cert.Kernel6Ideal.nD Cert.Kernel6Ideal.τ).loc Cert.Kernel6Ideal.main_v31_8) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_v23) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal_pre_finite_ropes [hKernel7Ideal : Cert.Kernel7Ideal.Facts] [hReference7Ideal : Cert.Reference7Ideal.Facts] [hPre_finite_ropes : Cert.Pre_finite_ropes.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ropes m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v44_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v44_3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v12_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v12_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v64) = v1 c
          ∧ r.2.mem ((c.tc : Thread Cert.Reference8Ideal.nD Cert.Reference8Ideal.τ).loc Cert.Reference8Ideal.main_v66) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_rope : Cert.Pre_finite_rope.Facts) (hPre_finite_ropes : Cert.Pre_finite_ropes.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_rope (hKernel5Ideal := hKernel5Ideal) (hPre_finite_rope := hPre_finite_rope)
    ∧ quiescent_Reference5Ideal (hReference5Ideal := hReference5Ideal)
    ∧ quiescent_Reference5Ideal_pre_finite_rope (hReference5Ideal := hReference5Ideal) (hPre_finite_rope := hPre_finite_rope)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_ropes (hKernel7Ideal := hKernel7Ideal) (hPre_finite_ropes := hPre_finite_ropes)
    ∧ quiescent_Reference7Ideal (hReference7Ideal := hReference7Ideal)
    ∧ quiescent_Reference7Ideal_pre_finite_ropes (hReference7Ideal := hReference7Ideal) (hPre_finite_ropes := hPre_finite_ropes)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_rope (hKernel5Ideal := hKernel5Ideal) (hReference5Ideal := hReference5Ideal) (hPre_finite_rope := hPre_finite_rope)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_ropes (hKernel7Ideal := hKernel7Ideal) (hReference7Ideal := hReference7Ideal) (hPre_finite_ropes := hPre_finite_ropes)
    ∧ preserves_Kernel8_Kernel8Ideal
    ∧ algebraic_Kernel8Ideal_Reference8Ideal (hKernel8Ideal := hKernel8Ideal) (hReference8Ideal := hReference8Ideal)
-- ==== Pre_finite.lean ====
abbrev S8192x512 : Shape := ⟨2, ![8192, 512]⟩
abbrev S8192x1024 : Shape := ⟨2, ![8192, 1024]⟩
abbrev S1x256 : Shape := ⟨2, ![1, 256]⟩
abbrev S8192x2560 : Shape := ⟨2, ![8192, 2560]⟩
abbrev S_ : Shape := ⟨0, ![]⟩

class Facts : Prop where
  concatenates_S8192x512_S8192x512_S8192x1024_S8192x512_S8192x2560_d1 : Shape.Concatenates [S8192x512, S8192x512, S8192x1024, S8192x512] S8192x2560 1
  bcast_S_S8192x2560 : S_.BroadcastsInDim S8192x2560 (![] : Fin 0 → Fin S8192x2560.rank)

variable [Facts]

def fn {F : FTy → Type} [FloatOps F] (main_arg0 : FVec F S8192x512 .f32) (main_arg1 : FVec F S8192x512 .f32) (main_arg2 : FVec F S8192x1024 .f32) (main_arg3 : FVec F S8192x512 .f32) (main_arg4 : FVec F S8192x1024 .f32) (main_arg5 : FVec F S1x256 .f32) : IVec S8192x2560 1 :=
  let main_v0 : FVec F S8192x2560 .f32 := concatenate S8192x2560 1 [⟨S8192x512, main_arg0⟩, ⟨S8192x512, main_arg1⟩, ⟨S8192x1024, main_arg2⟩, ⟨S8192x512, main_arg3⟩] concatenates_S8192x512_S8192x512_S8192x1024_S8192x512_S8192x2560_d1
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  main_v3
-- ==== Pre_finite_rope.lean ====
abbrev S8192x2048 : Shape := ⟨2, ![8192, 2048]⟩
abbrev S8192x32 : Shape := ⟨2, ![8192, 32]⟩
abbrev S1x2048 : Shape := ⟨2, ![1, 2048]⟩
abbrev S1x2048x4176 : Shape := ⟨3, ![1, 2048, 4176]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S1x2048x64 : Shape := ⟨3, ![1, 2048, 64]⟩
abbrev S2048x64 : Shape := ⟨2, ![2048, 64]⟩
abbrev S64x2048 : Shape := ⟨2, ![64, 2048]⟩
abbrev S8257x2048 : Shape := ⟨2, ![8257, 2048]⟩
abbrev S_ : Shape := ⟨0, ![]⟩

class Facts : Prop where
  slices_S1x2048x4176_S1x2048x64_0_0_1024 : S1x2048x4176.Slices ![0, 0, 1024] S1x2048x64
  shapeCasts_S1x2048x64_S2048x64 : S1x2048x64.ShapeCasts S2048x64
  transposes_S2048x64_S64x2048_1_0 : S2048x64.Transposes [1, 0] S64x2048
  concatenates_S8192x2048_S1x2048_S64x2048_S8257x2048_d0 : Shape.Concatenates [S8192x2048, S1x2048, S64x2048] S8257x2048 0
  bcast_S_S8257x2048 : S_.BroadcastsInDim S8257x2048 (![] : Fin 0 → Fin S8257x2048.rank)

variable [Facts]

def fn {F : FTy → Type} [FloatOps F] (main_arg0 : FVec F S8192x2048 .f32) (main_arg1 : FVec F S8192x32 .f32) (main_arg2 : FVec F S8192x32 .f32) (main_arg3 : FVec F S1x2048 .f32) (main_arg4 : FVec F S1x2048x4176 .f32) (main_arg5 : FVec F S1x512 .f32) (main_arg6 : FVec F S1x512 .f32) (main_arg7 : FVec F S512x3072 .f32) (main_arg8 : FVec F S1x512x8x128 .f32) (main_arg9 : FVec F S1x512x8x128 .f32) (main_arg10 : FVec F S128x512 .f32) (main_arg11 : FVec F S1x512 .f32) : IVec S8257x2048 1 :=
  let main_v0 : FVec F S1x2048x64 .f32 := (extractStridedSlice S1x2048x64 ![0, 0, 1024] · slices_S1x2048x4176_S1x2048x64_0_0_1024) main_arg4
  let main_v1 : FVec F S2048x64 .f32 := shapeCast S2048x64 main_v0 shapeCasts_S1x2048x64_S2048x64
  let main_v2 : FVec F S64x2048 .f32 := (transpose S64x2048 [1, 0] · transposes_S2048x64_S64x2048_1_0) main_v1
  let main_v3 : FVec F S8257x2048 .f32 := concatenate S8257x2048 0 [⟨S8192x2048, main_arg0⟩, ⟨S1x2048, main_arg3⟩, ⟨S64x2048, main_v2⟩] concatenates_S8192x2048_S1x2048_S64x2048_S8257x2048_d0
  let main_v4 : FVec F S8257x2048 .f32 := Host.absf main_v3
  let main_cst : FVec F S_ .f32 := constant S_ .f32 0x7F800000#32
  let main_v5 : FVec F S8257x2048 .f32 := broadcastInDim S8257x2048 ![] bcast_S_S8257x2048 main_cst
  let main_v6 : IVec S8257x2048 1 := cmpf .olt main_v4 main_v5
  main_v6
-- ==== Pre_finite_ropes.lean ====
abbrev S128x2048 : Shape := ⟨2, ![128, 2048]⟩
abbrev S128x32 : Shape := ⟨2, ![128, 32]⟩
abbrev S1x2048 : Shape := ⟨2, ![1, 2048]⟩
abbrev S1x2048x4176 : Shape := ⟨3, ![1, 2048, 4176]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S1x2048x64 : Shape := ⟨3, ![1, 2048, 64]⟩
abbrev S2048x64 : Shape := ⟨2, ![2048, 64]⟩
abbrev S64x2048 : Shape := ⟨2, ![64, 2048]⟩
abbrev S193x2048 : Shape := ⟨2, ![193, 2048]⟩
abbrev S_ : Shape := ⟨0, ![]⟩

class Facts : Prop where
  slices_S1x2048x4176_S1x2048x64_0_0_1024 : S1x2048x4176.Slices ![0, 0, 1024] S1x2048x64
  shapeCasts_S1x2048x64_S2048x64 : S1x2048x64.ShapeCasts S2048x64
  transposes_S2048x64_S64x2048_1_0 : S2048x64.Transposes [1, 0] S64x2048
  concatenates_S128x2048_S1x2048_S64x2048_S193x2048_d0 : Shape.Concatenates [S128x2048, S1x2048, S64x2048] S193x2048 0
  bcast_S_S193x2048 : S_.BroadcastsInDim S193x2048 (![] : Fin 0 → Fin S193x2048.rank)

variable [Facts]

def fn {F : FTy → Type} [FloatOps F] (main_arg0 : FVec F S128x2048 .f32) (main_arg1 : FVec F S128x32 .f32) (main_arg2 : FVec F S128x32 .f32) (main_arg3 : FVec F S1x2048 .f32) (main_arg4 : FVec F S1x2048x4176 .f32) (main_arg5 : FVec F S1x512 .f32) (main_arg6 : FVec F S1x512 .f32) (main_arg7 : FVec F S512x3072 .f32) (main_arg8 : FVec F S1x512x8x128 .f32) (main_arg9 : FVec F S1x512x8x128 .f32) (main_arg10 : FVec F S128x512 .f32) (main_arg11 : FVec F S1x512 .f32) : IVec S193x2048 1 :=
  let main_v0 : FVec F S1x2048x64 .f32 := (extractStridedSlice S1x2048x64 ![0, 0, 1024] · slices_S1x2048x4176_S1x2048x64_0_0_1024) main_arg4
  let main_v1 : FVec F S2048x64 .f32 := shapeCast S2048x64 main_v0 shapeCasts_S1x2048x64_S2048x64
  let main_v2 : FVec F S64x2048 .f32 := (transpose S64x2048 [1, 0] · transposes_S2048x64_S64x2048_1_0) main_v1
  let main_v3 : FVec F S193x2048 .f32 := concatenate S193x2048 0 [⟨S128x2048, main_arg0⟩, ⟨S1x2048, main_arg3⟩, ⟨S64x2048, main_v2⟩] concatenates_S128x2048_S1x2048_S64x2048_S193x2048_d0
  let main_v4 : FVec F S193x2048 .f32 := Host.absf main_v3
  let main_cst : FVec F S_ .f32 := constant S_ .f32 0x7F800000#32
  let main_v5 : FVec F S193x2048 .f32 := broadcastInDim S193x2048 ![] bcast_S_S193x2048 main_cst
  let main_v6 : IVec S193x2048 1 := cmpf .olt main_v4 main_v5
  main_v6
-- ==== Kernel.lean ====
abbrev S8192x512 : Shape := ⟨2, ![8192, 512]⟩
abbrev S8192x1024 : Shape := ⟨2, ![8192, 1024]⟩
abbrev S1x256 : Shape := ⟨2, ![1, 256]⟩
abbrev S4x128x256 : Shape := ⟨3, ![4, 128, 256]⟩
abbrev S128x512 : Shape := ⟨2, ![128, 512]⟩
abbrev S128x1024 : Shape := ⟨2, ![128, 1024]⟩
abbrev S128x128 : Shape := ⟨2, ![128, 128]⟩
abbrev S1x128 : Shape := ⟨2, ![1, 128]⟩
abbrev S128x256 : Shape := ⟨2, ![128, 256]⟩
abbrev S1x128x256 : Shape := ⟨3, ![1, 128, 256]⟩
abbrev S128x1 : Shape := ⟨2, ![128, 1]⟩
abbrev S128 : Shape := ⟨1, ![128]⟩

abbrev nBuf : Space → Nat
  | .hbm => 8
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192x1024, .f32⟩
  | .hbm, ⟨5, _⟩ => ⟨S1x256, .f32⟩
  | .hbm, ⟨6, _⟩ => ⟨S8192x1024, .bf16⟩
  | .hbm, ⟨7, _⟩ => ⟨S4x128x256, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x512, .f32⟩
  | .local _ .vmem, ⟨7, _⟩ => ⟨S128x512, .f32⟩
  | .local _ .vmem, ⟨8, _⟩ => ⟨S128x1024, .f32⟩
  | .local _ .vmem, ⟨9, _⟩ => ⟨S128x1024, .f32⟩
  | .local _ .vmem, ⟨10, _⟩ => ⟨S1x256, .f32⟩
  | .local _ .vmem, ⟨11, _⟩ => ⟨S128x1024, .bf16⟩
  | .local _ .vmem, ⟨12, _⟩ => ⟨S128x1024, .bf16⟩
  | .local _ .vmem, ⟨13, _⟩ => ⟨S4x128x256, .f32⟩
  | .local _ .vmem, ⟨14, _⟩ => ⟨S4x128x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v330 : BitVec 1 := Scalar.cmpi .eq arg0 c63_i32
  let v331 : BitVec 32 := Scalar.extui v330
  let c0_i32_117 : BitVec 32 := 0#32
  let v332 : BitVec 1 := Scalar.cmpi .ne v331 c0_i32_117
  v332

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x512 : Shape := ⟨2, ![8192, 512]⟩
abbrev S8192x1024 : Shape := ⟨2, ![8192, 1024]⟩
abbrev S1x256 : Shape := ⟨2, ![1, 256]⟩
abbrev S8192x4x128 : Shape := ⟨3, ![8192, 4, 128]⟩
abbrev S8192x4x256 : Shape := ⟨3, ![8192, 4, 256]⟩
abbrev S_ : Shape := ⟨0, ![]⟩
abbrev S4x128x256 : Shape := ⟨3, ![4, 128, 256]⟩
abbrev S1x4x128 : Shape := ⟨3, ![1, 4, 128]⟩
abbrev S4x128 : Shape := ⟨2, ![4, 128]⟩
abbrev S1x4x256 : Shape := ⟨3, ![1, 4, 256]⟩
abbrev S4x256 : Shape := ⟨2, ![4, 256]⟩
abbrev S4x128x1 : Shape := ⟨3, ![4, 128, 1]⟩
abbrev S4x1x256 : Shape := ⟨3, ![4, 1, 256]⟩
abbrev S256 : Shape := ⟨1, ![256]⟩
abbrev S8192x4 : Shape := ⟨2, ![8192, 4]⟩
abbrev S8192x4x1 : Shape := ⟨3, ![8192, 4, 1]⟩
abbrev S1x1x256 : Shape := ⟨3, ![1, 1, 256]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192x1024, .f32⟩
  | .hbm, ⟨5, _⟩ => ⟨S1x256, .f32⟩
  | .hbm, ⟨6, _⟩ => ⟨S8192x4x128, .f32⟩
  | .hbm, ⟨7, _⟩ => ⟨S8192x4x128, .f32⟩
  | .hbm, ⟨8, _⟩ => ⟨S8192x4x256, .f32⟩
  | .hbm, ⟨9, _⟩ => ⟨S8192x4x128, .f32⟩
  | .hbm, ⟨10, _⟩ => ⟨S_, .f32⟩
  | .hbm, ⟨11, _⟩ => ⟨S4x128x256, .f32⟩
  | .hbm, ⟨12, _⟩ => ⟨S_, .f32⟩
  | .hbm, ⟨13, _⟩ => ⟨S8192x4x256, .f32⟩
  | .hbm, ⟨14, _⟩ => ⟨S_, .i32⟩
  | .hbm, ⟨15, _⟩ => ⟨S8192x4x128, .f32⟩
  | .hbm, ⟨16, _⟩ => ⟨S8192x4x128, .f32⟩
  | .hbm, ⟨17, _⟩ => ⟨S8192x4x256, .f32⟩
  | .hbm, ⟨18, _⟩ => ⟨S8192x4x128, .f32⟩
  | .hbm, ⟨19, _⟩ => ⟨S_, .i32⟩
  | .hbm, ⟨20, _⟩ => ⟨S4x128x256, .f32⟩
  | .hbm, ⟨21, _⟩ => ⟨S8192x4x256, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x4x128, .f32⟩
  | .hbm, ⟨27, _⟩ => ⟨S4x128, .f32⟩
  | .hbm, ⟨28, _⟩ => ⟨S_, .i32⟩
  | .hbm, ⟨29, _⟩ => ⟨S_, .i32⟩
  | .hbm, ⟨30, _⟩ => ⟨S1x4x128, .f32⟩
  | .hbm, ⟨31, _⟩ => ⟨S4x128, .f32⟩
  | .hbm, ⟨32, _⟩ => ⟨S_, .i32⟩
  | .hbm, ⟨33, _⟩ => ⟨S_, .i32⟩
  | .hbm, ⟨34, _⟩ => ⟨S1x4x256, .f32⟩
  | .hbm, ⟨35, _⟩ => ⟨S4x256, .f32⟩
  | .hbm, ⟨36, _⟩ => ⟨S_, .i32⟩
  | .hbm, ⟨37, _⟩ => ⟨S_, .i32⟩
  | .hbm, ⟨38, _⟩ => ⟨S1x4x128, .f32⟩
  | .hbm, ⟨39, _⟩ => ⟨S4x128, .f32⟩
  | .hbm, ⟨40, _⟩ => ⟨S4x128, .f32⟩
  | .hbm, ⟨41, _⟩ => ⟨S4x128x1, .f32⟩
  | .hbm, ⟨42, _⟩ => ⟨S4x128x256, .f32⟩
  | .hbm, ⟨43, _⟩ => ⟨S4x128x256, .f32⟩
  | .hbm, ⟨44, _⟩ => ⟨S4x128x1, .f32⟩
  | .hbm, ⟨45, _⟩ => ⟨S4x1x256, .f32⟩
  | .hbm, ⟨46, _⟩ => ⟨S4x128x256, .f32⟩
  | .hbm, ⟨47, _⟩ => ⟨S4x128x256, .f32⟩
  | .hbm, ⟨48, _⟩ => ⟨S4x128x256, .f32⟩
  | .hbm, ⟨49, _⟩ => ⟨S4x128x256, .f32⟩
  | .hbm, ⟨50, _⟩ => ⟨S4x256, .f32⟩
  | .hbm, ⟨51, _⟩ => ⟨S1x4x256, .f32⟩
  | .hbm, ⟨52, _⟩ => ⟨S_, .i32⟩
  | .hbm, ⟨53, _⟩ => ⟨S_, .i32⟩
  | .hbm, ⟨54, _⟩ => ⟨S8192x4x256, .f32⟩
  | .hbm, ⟨55, _⟩ => ⟨S_, .i32⟩
  | .hbm, ⟨56, _⟩ => ⟨S_, .i32⟩
  | .hbm, ⟨57, _⟩ => ⟨S256, .f32⟩
  | .hbm, ⟨58, _⟩ => ⟨S8192x4x256, .f32⟩
  | .hbm, ⟨59, _⟩ => ⟨S_, .f32⟩
  | .hbm, ⟨60, _⟩ => ⟨S8192x4, .f32⟩
  | .hbm, ⟨61, _⟩ => ⟨S8192x4x1, .f32⟩
  | .hbm, ⟨62, _⟩ => ⟨S_, .f32⟩
  | .hbm, ⟨63, _⟩ => ⟨S8192x4x1, .f32⟩
  | .hbm, ⟨64, _⟩ => ⟨S8192x4x1, .f32⟩
  | .hbm, ⟨65, _⟩ => ⟨S_, .f32⟩
  | .hbm, ⟨66, _⟩ => ⟨S8192x4x1, .f32⟩
  | .hbm, ⟨67, _⟩ => ⟨S8192x4x1, .f32⟩
  | .hbm, ⟨68, _⟩ => ⟨S8192x4x1, .f32⟩
  | .hbm, ⟨69, _⟩ => ⟨S8192x4x256, .f32⟩
  | .hbm, ⟨70, _⟩ => ⟨S8192x4x256, .f32⟩
  | .hbm, ⟨71, _⟩ => ⟨S1x1x256, .f32⟩
  | .hbm, ⟨72, _⟩ => ⟨S8192x4x256, .f32⟩
  | .hbm, ⟨73, _⟩ => ⟨S8192x4x256, .f32⟩
  | .hbm, ⟨74, _⟩ => ⟨S8192x4x256, .f32⟩
  | .hbm, ⟨75, _⟩ => ⟨S8192x4x256, .f32⟩
  | .hbm, ⟨76, _⟩ => ⟨S8192x4x256, .f32⟩
  | .hbm, ⟨77, _⟩ => ⟨S_, .f32⟩
  | .hbm, ⟨78, _⟩ => ⟨S8192x4x256, .f32⟩
  | .hbm, ⟨79, _⟩ => ⟨S8192x4x256, .f32⟩
  | .hbm, ⟨80, _⟩ => ⟨S_, .f32⟩
  | .hbm, ⟨81, _⟩ => ⟨S8192x4x256, .f32⟩
  | .hbm, ⟨82, _⟩ => ⟨S8192x4x256, .f32⟩
  | .hbm, ⟨83, _⟩ => ⟨S8192x4x256, .f32⟩
  | .hbm, ⟨84, _⟩ => ⟨S8192x4x256, .f32⟩
  | .hbm, ⟨85, _⟩ => ⟨S8192x1024, .f32⟩
  | .hbm, ⟨86, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_c : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_while0c_c_10 : Ref sig .tc := ⟨.hbm, 22, rfl⟩
abbrev main_while0c_v26 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v26 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_v0 : Ref sig .tc := ⟨.hbm, 30, rfl⟩
abbrev main_while0b_v27 : Ref sig .tc := ⟨.hbm, 31, rfl⟩
abbrev main_while0b_call2_c : Ref sig .tc := ⟨.hbm, 32, rfl⟩
abbrev main_while0b_call2_c_0 : Ref sig .tc := ⟨.hbm, 33, rfl⟩
abbrev main_while0b_call2_v0 : Ref sig .tc := ⟨.hbm, 34, rfl⟩
abbrev main_while0b_v28 : Ref sig .tc := ⟨.hbm, 35, rfl⟩
abbrev main_while0b_call3_c : Ref sig .tc := ⟨.hbm, 36, rfl⟩
abbrev main_while0b_call3_c_0 : Ref sig .tc := ⟨.hbm, 37, rfl⟩
abbrev main_while0b_call3_v0 : Ref sig .tc := ⟨.hbm, 38, rfl⟩
abbrev main_while0b_v29 : Ref sig .tc := ⟨.hbm, 39, rfl⟩
abbrev main_while0b_v30 : Ref sig .tc := ⟨.hbm, 40, rfl⟩
abbrev main_while0b_v31 : Ref sig .tc := ⟨.hbm, 41, rfl⟩
abbrev main_while0b_v32 : Ref sig .tc := ⟨.hbm, 42, rfl⟩
abbrev main_while0b_v33 : Ref sig .tc := ⟨.hbm, 43, rfl⟩
abbrev main_while0b_v34 : Ref sig .tc := ⟨.hbm, 44, rfl⟩
abbrev main_while0b_v35 : Ref sig .tc := ⟨.hbm, 45, rfl⟩
abbrev main_while0b_v36 : Ref sig .tc := ⟨.hbm, 46, rfl⟩
abbrev main_while0b_v37 : Ref sig .tc := ⟨.hbm, 47, rfl⟩
abbrev main_while0b_v38 : Ref sig .tc := ⟨.hbm, 48, rfl⟩
abbrev main_while0b_v39 : Ref sig .tc := ⟨.hbm, 49, rfl⟩
abbrev main_while0b_v40 : Ref sig .tc := ⟨.hbm, 50, rfl⟩
abbrev main_while0b_call4_v0 : Ref sig .tc := ⟨.hbm, 51, rfl⟩
abbrev main_while0b_call4_c : Ref sig .tc := ⟨.hbm, 52, rfl⟩
abbrev main_while0b_call4_c_0 : Ref sig .tc := ⟨.hbm, 53, rfl⟩
abbrev main_while0b_v41 : Ref sig .tc := ⟨.hbm, 54, rfl⟩
abbrev main_while0b_c_10 : Ref sig .tc := ⟨.hbm, 55, rfl⟩
abbrev main_while0b_v42 : Ref sig .tc := ⟨.hbm, 56, rfl⟩
abbrev main_v7 : Ref sig .tc := ⟨.hbm, 57, rfl⟩
abbrev main_v8 : Ref sig .tc := ⟨.hbm, 58, rfl⟩
abbrev main_cst_1 : Ref sig .tc := ⟨.hbm, 59, rfl⟩
abbrev main_v9 : Ref sig .tc := ⟨.hbm, 60, rfl⟩
abbrev main_v10 : Ref sig .tc := ⟨.hbm, 61, rfl⟩
abbrev main_cst_2 : Ref sig .tc := ⟨.hbm, 62, rfl⟩
abbrev main_v11 : Ref sig .tc := ⟨.hbm, 63, rfl⟩
abbrev main_v12 : Ref sig .tc := ⟨.hbm, 64, rfl⟩
abbrev main_cst_3 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_call5_v0 : Ref sig .tc := ⟨.hbm, 75, rfl⟩
abbrev main_call5_v1 : Ref sig .tc := ⟨.hbm, 76, rfl⟩
abbrev main_call5_cst : Ref sig .tc := ⟨.hbm, 77, rfl⟩
abbrev main_call5_v2 : Ref sig .tc := ⟨.hbm, 78, rfl⟩
abbrev main_call5_v3 : Ref sig .tc := ⟨.hbm, 79, rfl⟩
abbrev main_call5_cst_0 : Ref sig .tc := ⟨.hbm, 80, rfl⟩
abbrev main_call5_v4 : Ref sig .tc := ⟨.hbm, 81, rfl⟩
abbrev main_call5_v5 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x2048 : Shape := ⟨2, ![8192, 2048]⟩
abbrev S8192x1024 : Shape := ⟨2, ![8192, 1024]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S8192x1024, .bf16⟩
  | .hbm, ⟨9, _⟩ => ⟨S8192x1024, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x2048 : Shape := ⟨2, ![8192, 2048]⟩
abbrev S8192x1024 : Shape := ⟨2, ![8192, 1024]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel3.lean ====
abbrev S8192x2048 : Shape := ⟨2, ![8192, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S3x11264 : Shape := ⟨2, ![3, 11264]⟩
abbrev S11264 : Shape := ⟨1, ![11264]⟩
abbrev S2048 : Shape := ⟨1, ![2048]⟩
abbrev S128x5632 : Shape := ⟨2, ![128, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S8x512 : Shape := ⟨2, ![8, 512]⟩
abbrev S520x512 : Shape := ⟨2, ![520, 512]⟩
abbrev S11x8x512 : Shape := ⟨3, ![11, 8, 512]⟩
abbrev S1x8x512 : Shape := ⟨3, ![1, 8, 512]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x11264, .f32⟩
  | .hbm, ⟨3, _⟩ => ⟨S1x3x11264, .f32⟩
  | .hbm, ⟨4, _⟩ => ⟨S1x11264, .f32⟩
  | .hbm, ⟨5, _⟩ => ⟨S1x5632x2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S8192x2048, .bf16⟩
  | .hbm, ⟨12, _⟩ => ⟨S3x11264, .f32⟩
  | .hbm, ⟨13, _⟩ => ⟨S11264, .f32⟩
  | .hbm, ⟨14, _⟩ => ⟨S2048, .f32⟩
  | .hbm, ⟨15, _⟩ => ⟨S1x2048, .f32⟩
  | .hbm, ⟨16, _⟩ => ⟨S1x11264, .f32⟩
  | .hbm, ⟨17, _⟩ => ⟨S8192x2048, .f32⟩
  | .hbm, ⟨18, _⟩ => ⟨S128x5632, .f32⟩
  | .hbm, ⟨19, _⟩ => ⟨S128x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S512x2048, .f32⟩
  | .local _ .vmem, ⟨26, _⟩ => ⟨S520x512, .f32⟩
  | .local _ .vmem, ⟨27, _⟩ => ⟨S520x512, .f32⟩
  | .local _ .vmem, ⟨28, _⟩ => ⟨S11x8x512, .f32⟩
  | .local _ .vmem, ⟨29, _⟩ => ⟨S11x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v111 : Index := Scalar.indexCast arg1
  let c0_61 : Index := 0#32
  let c0_62 : Index := 0#32
  ![v111.toNat, 0, 0]
def k0_off2 (i : grid0.Coords) : Fin 3 → Nat :=
  let arg1 : BitVec 32 := BitVec.ofNat 32 (i 1).val
  let v8 : Index := Scalar.indexCast arg1
  let c0_4 : Index := 0#32
  let c0_5 : Index := 0#32
  ![v8.toNat, 0, 0]
def k0_cond3 (i : grid0.Coords) : BitVec 1 :=
  let arg1 : BitVec 32 := BitVec.ofNat 32 (i 1).val
  let c10_i32 : BitVec 32 := 10#32
  let v107 : BitVec 1 := Scalar.cmpi .eq arg1 c10_i32
  let v108 : BitVec 32 := Scalar.extui v107
  let c0_i32_59 : BitVec 32 := 0#32
  let v109 : BitVec 1 := Scalar.cmpi .ne v108 c0_i32_59
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8192x2048 : Shape := ⟨2, ![8192, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S1x2048 : Shape := ⟨2, ![1, 2048]⟩
abbrev S2048x11264 : Shape := ⟨2, ![2048, 11264]⟩
abbrev S8192x11264 : Shape := ⟨2, ![8192, 11264]⟩
abbrev S_ : Shape := ⟨0, ![]⟩
abbrev S2x11264 : Shape := ⟨2, ![2, 11264]⟩
abbrev S8194x11264 : Shape := ⟨2, ![8194, 11264]⟩
abbrev S11264 : Shape := ⟨1, ![11264]⟩
abbrev S1x1x11264 : Shape := ⟨3, ![1, 1, 11264]⟩
abbrev S8192x5632 : Shape := ⟨2, ![8192, 5632]⟩
abbrev S5632x2048 : Shape := ⟨2, ![5632, 2048]⟩
abbrev S16x512x11264 : Shape := ⟨3, ![16, 512, 11264]⟩
abbrev S16x8x11264 : Shape := ⟨3, ![16, 8, 11264]⟩
abbrev S128x11264 : Shape := ⟨2, ![128, 11264]⟩
abbrev S2048 : Shape := ⟨1, ![2048]⟩
abbrev S8192 : Shape := ⟨1, ![8192]⟩
abbrev S8192x1 : Shape := ⟨2, ![8192, 1]⟩
abbrev S128x5632 : Shape := ⟨2, ![128, 5632]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x11264, .f32⟩
  | .hbm, ⟨3, _⟩ => ⟨S1x3x11264, .f32⟩
  | .hbm, ⟨4, _⟩ => ⟨S1x11264, .f32⟩
  | .hbm, ⟨5, _⟩ => ⟨S1x5632x2048, .f32⟩
  | .hbm, ⟨6, _⟩ => ⟨S1x2048, .f32⟩
  | .hbm, ⟨7, _⟩ => ⟨S2048x11264, .f32⟩
  | .hbm, ⟨8, _⟩ => ⟨S8192x11264, .f32⟩
  | .hbm, ⟨9, _⟩ => ⟨S_, .f32⟩
  | .hbm, ⟨10, _⟩ => ⟨S2x11264, .f32⟩
  | .hbm, ⟨11, _⟩ => ⟨S8194x11264, .f32⟩
  | .hbm, ⟨12, _⟩ => ⟨S11264, .f32⟩
  | .hbm, ⟨13, _⟩ => ⟨S8192x11264, .f32⟩
  | .hbm, ⟨14, _⟩ => ⟨S1x1x11264, .f32⟩
  | .hbm, ⟨15, _⟩ => ⟨S11264, .f32⟩
  | .hbm, ⟨16, _⟩ => ⟨S1x11264, .f32⟩
  | .hbm, ⟨17, _⟩ => ⟨S8192x11264, .f32⟩
  | .hbm, ⟨18, _⟩ => ⟨S8192x11264, .f32⟩
  | .hbm, ⟨19, _⟩ => ⟨S1x11264, .f32⟩
  | .hbm, ⟨20, _⟩ => ⟨S8192x11264, .f32⟩
  | .hbm, ⟨21, _⟩ => ⟨S8192x11264, .f32⟩
  | .hbm, ⟨22, _⟩ => ⟨S8192x11264, .f32⟩
  | .hbm, ⟨23, _⟩ => ⟨S1x1x11264, .f32⟩
  | .hbm, ⟨24, _⟩ => ⟨S11264, .f32⟩
  | .hbm, ⟨25, _⟩ => ⟨S1x11264, .f32⟩
  | .hbm, ⟨26, _⟩ => ⟨S8192x11264, .f32⟩
  | .hbm, ⟨27, _⟩ => ⟨S8192x11264, .f32⟩
  | .hbm, ⟨28, _⟩ => ⟨S8192x11264, .f32⟩
  | .hbm, ⟨29, _⟩ => ⟨S8192x11264, .f32⟩
  | .hbm, ⟨30, _⟩ => ⟨S1x1x11264, .f32⟩
  | .hbm, ⟨31, _⟩ => ⟨S11264, .f32⟩
  | .hbm, ⟨32, _⟩ => ⟨S1x11264, .f32⟩
  | .hbm, ⟨33, _⟩ => ⟨S8192x11264, .f32⟩
  | .hbm, ⟨34, _⟩ => ⟨S8192x11264, .f32⟩
  | .hbm, ⟨35, _⟩ => ⟨S8192x11264, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S_, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S_, .f32⟩
  | .hbm, ⟨49, _⟩ => ⟨S8192x5632, .f32⟩
  | .hbm, ⟨50, _⟩ => ⟨S8192x5632, .f32⟩
  | .hbm, ⟨51, _⟩ => ⟨S_, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S5632x2048, .f32⟩
  | .hbm, ⟨57, _⟩ => ⟨S8192x2048, .f32⟩
  | .hbm, ⟨58, _⟩ => ⟨S16x512x11264, .f32⟩
  | .hbm, ⟨59, _⟩ => ⟨S16x8x11264, .f32⟩
  | .hbm, ⟨60, _⟩ => ⟨S128x11264, .f32⟩
  | .hbm, ⟨61, _⟩ => ⟨S2048, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x2048, .f32⟩
  | .hbm, ⟨74, _⟩ => ⟨S8192x2048, .f32⟩
  | .hbm, ⟨75, _⟩ => ⟨S1x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S128x5632, .f32⟩
  | .hbm, ⟨80, _⟩ => ⟨S128x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Kernel4.lean ====
abbrev S8192x2048 : Shape := ⟨2, ![8192, 2048]⟩
abbrev S8192x128 : Shape := ⟨2, ![8192, 128]⟩
abbrev S1x2048 : Shape := ⟨2, ![1, 2048]⟩
abbrev S1x2048x4176 : Shape := ⟨3, ![1, 2048, 4176]⟩
abbrev S2048x256 : Shape := ⟨2, ![2048, 256]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S1x2048x512 : Shape := ⟨3, ![1, 2048, 512]⟩
abbrev S2048x512 : Shape := ⟨2, ![2048, 512]⟩
abbrev S1x2048x1024 : Shape := ⟨3, ![1, 2048, 1024]⟩
abbrev S2048x1024 : Shape := ⟨2, ![2048, 1024]⟩
abbrev S2048x4096 : Shape := ⟨2, ![2048, 4096]⟩
abbrev S512x8x128 : Shape := ⟨3, ![512, 8, 128]⟩
abbrev S512x1024 : Shape := ⟨2, ![512, 1024]⟩
abbrev S2048 : Shape := ⟨1, ![2048]⟩
abbrev S512 : Shape := ⟨1, ![512]⟩
abbrev S8192x1024 : Shape := ⟨2, ![8192, 1024]⟩
abbrev S8192x512 : Shape := ⟨2, ![8192, 512]⟩
abbrev S8192x64 : Shape := ⟨2, ![8192, 64]⟩
abbrev S256x2048 : Shape := ⟨2, ![256, 2048]⟩
abbrev S256x128 : Shape := ⟨2, ![256, 128]⟩
abbrev S256x1024 : Shape := ⟨2, ![256, 1024]⟩
abbrev S256x512 : Shape := ⟨2, ![256, 512]⟩
abbrev S256x64 : Shape := ⟨2, ![256, 64]⟩
abbrev S256 : Shape := ⟨1, ![256]⟩
abbrev S256x1 : Shape := ⟨2, ![256, 1]⟩
abbrev S2048x128 : Shape := ⟨2, ![2048, 128]⟩

abbrev nBuf : Space → Nat
  | .hbm => 54
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S8192x128, .f32⟩
  | .hbm, ⟨3, _⟩ => ⟨S1x2048, .f32⟩
  | .hbm, ⟨4, _⟩ => ⟨S1x2048x4176, .f32⟩
  | .hbm, ⟨5, _⟩ => ⟨S2048x256, .f32⟩
  | .hbm, ⟨6, _⟩ => ⟨S1x512, .f32⟩
  | .hbm, ⟨7, _⟩ => ⟨S1x512, .f32⟩
  | .hbm, ⟨8, _⟩ => ⟨S512x3072, .f32⟩
  | .hbm, ⟨9, _⟩ => ⟨S1x512x8x128, .f32⟩
  | .hbm, ⟨10, _⟩ => ⟨S1x512x8x128, .f32⟩
  | .hbm, ⟨11, _⟩ => ⟨S128x512, .f32⟩
  | .hbm, ⟨12, _⟩ => ⟨S1x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S1x2048x512, .f32⟩
  | .hbm, ⟨18, _⟩ => ⟨S2048x512, .f32⟩
  | .hbm, ⟨19, _⟩ => ⟨S1x2048x512, .f32⟩
  | .hbm, ⟨20, _⟩ => ⟨S2048x512, .f32⟩
  | .hbm, ⟨21, _⟩ => ⟨S1x2048x1024, .f32⟩
  | .hbm, ⟨22, _⟩ => ⟨S2048x1024, .f32⟩
  | .hbm, ⟨23, _⟩ => ⟨S1x2048x1024, .f32⟩
  | .hbm, ⟨24, _⟩ => ⟨S2048x1024, .f32⟩
  | .hbm, ⟨25, _⟩ => ⟨S2048x4096, .f32⟩
  | .hbm, ⟨26, _⟩ => ⟨S512x8x128, .f32⟩
  | .hbm, ⟨27, _⟩ => ⟨S512x1024, .f32⟩
  | .hbm, ⟨28, _⟩ => ⟨S512x1024, .bf16⟩
  | .hbm, ⟨29, _⟩ => ⟨S512x8x128, .f32⟩
  | .hbm, ⟨30, _⟩ => ⟨S512x1024, .f32⟩
  | .hbm, ⟨31, _⟩ => ⟨S512x1024, .bf16⟩
  | .hbm, ⟨32, _⟩ => ⟨S2048, .f32⟩
  | .hbm, ⟨33, _⟩ => ⟨S1x2048, .f32⟩
  | .hbm, ⟨34, _⟩ => ⟨S2048x4096, .bf16⟩
  | .hbm, ⟨35, _⟩ => ⟨S2048x256, .bf16⟩
  | .hbm, ⟨36, _⟩ => ⟨S512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S512x3072, .bf16⟩
  | .hbm, ⟨41, _⟩ => ⟨S128x512, .bf16⟩
  | .hbm, ⟨42, _⟩ => ⟨S512, .f32⟩
  | .hbm, ⟨43, _⟩ => ⟨S1x512, .f32⟩
  | .hbm, ⟨44, _⟩ => ⟨S8192x2048, .bf16⟩
  | .hbm, ⟨45, _⟩ => ⟨S8192x2048, .bf16⟩
  | .hbm, ⟨46, _⟩ => ⟨S8192x1024, .bf16⟩
  | .hbm, ⟨47, _⟩ => ⟨S8192x512, .f32⟩
  | .hbm, ⟨48, _⟩ => ⟨S8192x64, .f32⟩
  | .hbm, ⟨49, _⟩ => ⟨S8192x512, .f32⟩
  | .hbm, ⟨50, _⟩ => ⟨S8192x512, .f32⟩
  | .hbm, ⟨51, _⟩ => ⟨S8192x1024, .f32⟩
  | .hbm, ⟨52, _⟩ => ⟨S8192x512, .f32⟩
  | .hbm, ⟨53, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x2048, .f32⟩
  | .local _ .vmem, ⟨7, _⟩ => ⟨S2048x4096, .bf16⟩
  | .local _ .vmem, ⟨8, _⟩ => ⟨S2048x256, .bf16⟩
  | .local _ .vmem, ⟨9, _⟩ => ⟨S1x512, .f32⟩
  | .local _ .vmem, ⟨10, _⟩ => ⟨S1x512, .f32⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S128x512, .bf16⟩
  | .local _ .vmem, ⟨15, _⟩ => ⟨S1x512, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .bf16⟩
  | .local _ .vmem, ⟨21, _⟩ => ⟨S256x1024, .bf16⟩
  | .local _ .vmem, ⟨22, _⟩ => ⟨S256x512, .f32⟩
  | .local _ .vmem, ⟨23, _⟩ => ⟨S256x512, .f32⟩
  | .local _ .vmem, ⟨24, _⟩ => ⟨S256x64, .f32⟩
  | .local _ .vmem, ⟨25, _⟩ => ⟨S256x64, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x1024, .f32⟩
  | .local _ .vmem, ⟨31, _⟩ => ⟨S256x1024, .f32⟩
  | .local _ .vmem, ⟨32, _⟩ => ⟨S256x512, .f32⟩
  | .local _ .vmem, ⟨33, _⟩ => ⟨S256x512, .f32⟩
  | .local _ .vmem, ⟨34, _⟩ => ⟨S256x1024, .f32⟩
  | .local _ .vmem, ⟨35, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v31_6 : Ref sig .tc := ⟨.hbm, 50, rfl⟩
abbrev main_v31_7 : Ref sig .tc := ⟨.hbm, 51, rfl⟩
abbrev main_v31_8 : Ref sig .tc := ⟨.hbm, 52, rfl⟩
abbrev main_v31_9 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S8192x2048 : Shape := ⟨2, ![8192, 2048]⟩
abbrev S8192x128 : Shape := ⟨2, ![8192, 128]⟩
abbrev S1x2048 : Shape := ⟨2, ![1, 2048]⟩
abbrev S1x2048x4176 : Shape := ⟨3, ![1, 2048, 4176]⟩
abbrev S2048x256 : Shape := ⟨2, ![2048, 256]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x4176 : Shape := ⟨2, ![2048, 4176]⟩
abbrev S8192x4176 : Shape := ⟨2, ![8192, 4176]⟩
abbrev S8192x512 : Shape := ⟨2, ![8192, 512]⟩
abbrev S8192x64 : Shape := ⟨2, ![8192, 64]⟩
abbrev S8192x1024 : Shape := ⟨2, ![8192, 1024]⟩
abbrev S8192x16 : Shape := ⟨2, ![8192, 16]⟩
abbrev S512 : Shape := ⟨1, ![512]⟩
abbrev S512x8x128 : Shape := ⟨3, ![512, 8, 128]⟩
abbrev S8192x8x128 : Shape := ⟨3, ![8192, 8, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S8192x128, .f32⟩
  | .hbm, ⟨3, _⟩ => ⟨S1x2048, .f32⟩
  | .hbm, ⟨4, _⟩ => ⟨S1x2048x4176, .f32⟩
  | .hbm, ⟨5, _⟩ => ⟨S2048x256, .f32⟩
  | .hbm, ⟨6, _⟩ => ⟨S1x512, .f32⟩
  | .hbm, ⟨7, _⟩ => ⟨S1x512, .f32⟩
  | .hbm, ⟨8, _⟩ => ⟨S512x3072, .f32⟩
  | .hbm, ⟨9, _⟩ => ⟨S1x512x8x128, .f32⟩
  | .hbm, ⟨10, _⟩ => ⟨S1x512x8x128, .f32⟩
  | .hbm, ⟨11, _⟩ => ⟨S128x512, .f32⟩
  | .hbm, ⟨12, _⟩ => ⟨S1x512, .f32⟩
  | .hbm, ⟨13, _⟩ => ⟨S2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S2048x4176, .f32⟩
  | .hbm, ⟨31, _⟩ => ⟨S8192x4176, .f32⟩
  | .hbm, ⟨32, _⟩ => ⟨S8192x512, .f32⟩
  | .hbm, ⟨33, _⟩ => ⟨S8192x512, .f32⟩
  | .hbm, ⟨34, _⟩ => ⟨S8192x64, .f32⟩
  | .hbm, ⟨35, _⟩ => ⟨S8192x512, .f32⟩
  | .hbm, ⟨36, _⟩ => ⟨S8192x512, .f32⟩
  | .hbm, ⟨37, _⟩ => ⟨S8192x1024, .f32⟩
  | .hbm, ⟨38, _⟩ => ⟨S8192x16, .f32⟩
  | .hbm, ⟨39, _⟩ => ⟨S8192x1024, .f32⟩
  | .hbm, ⟨40, _⟩ => ⟨S512, .f32⟩
  | .hbm, ⟨41, _⟩ => ⟨S8192x512, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S512x8x128, .f32⟩
  | .hbm, ⟨58, _⟩ => ⟨S8192x8x128, .f32⟩
  | .hbm, ⟨59, _⟩ => ⟨S8192x1024, .f32⟩
  | .hbm, ⟨60, _⟩ => ⟨S8192x1024, .bf16⟩
  | .hbm, ⟨61, _⟩ => ⟨S_, .f32⟩
  | .hbm, ⟨62, _⟩ => ⟨S8192x512, .f32⟩
  | .hbm, ⟨63, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel5.lean ====
abbrev S8192x2048 : Shape := ⟨2, ![8192, 2048]⟩
abbrev S8192x32 : Shape := ⟨2, ![8192, 32]⟩
abbrev S1x2048 : Shape := ⟨2, ![1, 2048]⟩
abbrev S1x2048x4176 : Shape := ⟨3, ![1, 2048, 4176]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S1x2048x512 : Shape := ⟨3, ![1, 2048, 512]⟩
abbrev S2048x512 : Shape := ⟨2, ![2048, 512]⟩
abbrev S1x2048x1024 : Shape := ⟨3, ![1, 2048, 1024]⟩
abbrev S2048x1024 : Shape := ⟨2, ![2048, 1024]⟩
abbrev S2048x4096 : Shape := ⟨2, ![2048, 4096]⟩
abbrev S1x2048x64 : Shape := ⟨3, ![1, 2048, 64]⟩
abbrev S2048x64 : Shape := ⟨2, ![2048, 64]⟩
abbrev S1x2048x16 : Shape := ⟨3, ![1, 2048, 16]⟩
abbrev S2048x16 : Shape := ⟨2, ![2048, 16]⟩
abbrev S_ : Shape := ⟨0, ![]⟩
abbrev S2048x48 : Shape := ⟨2, ![2048, 48]⟩
abbrev S2048x32 : Shape := ⟨2, ![2048, 32]⟩
abbrev S2048x256 : Shape := ⟨2, ![2048, 256]⟩
abbrev S8192x64 : Shape := ⟨2, ![8192, 64]⟩
abbrev S8192x128 : Shape := ⟨2, ![8192, 128]⟩
abbrev S512x8x128 : Shape := ⟨3, ![512, 8, 128]⟩
abbrev S512x1024 : Shape := ⟨2, ![512, 1024]⟩
abbrev S2048 : Shape := ⟨1, ![2048]⟩
abbrev S512 : Shape := ⟨1, ![512]⟩
abbrev S8192x1024 : Shape := ⟨2, ![8192, 1024]⟩
abbrev S8192x512 : Shape := ⟨2, ![8192, 512]⟩
abbrev S256x2048 : Shape := ⟨2, ![256, 2048]⟩
abbrev S256x128 : Shape := ⟨2, ![256, 128]⟩
abbrev S256x1024 : Shape := ⟨2, ![256, 1024]⟩
abbrev S256x512 : Shape := ⟨2, ![256, 512]⟩
abbrev S256x64 : Shape := ⟨2, ![256, 64]⟩
abbrev S256 : Shape := ⟨1, ![256]⟩
abbrev S256x1 : Shape := ⟨2, ![256, 1]⟩
abbrev S2048x128 : Shape := ⟨2, ![2048, 128]⟩

abbrev nBuf : Space → Nat
  | .hbm => 69
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x32, .f32⟩
  | .hbm, ⟨2, _⟩ => ⟨S8192x32, .f32⟩
  | .hbm, ⟨3, _⟩ => ⟨S1x2048, .f32⟩
  | .hbm, ⟨4, _⟩ => ⟨S1x2048x4176, .f32⟩
  | .hbm, ⟨5, _⟩ => ⟨S1x512, .f32⟩
  | .hbm, ⟨6, _⟩ => ⟨S1x512, .f32⟩
  | .hbm, ⟨7, _⟩ => ⟨S512x3072, .f32⟩
  | .hbm, ⟨8, _⟩ => ⟨S1x512x8x128, .f32⟩
  | .hbm, ⟨9, _⟩ => ⟨S1x512x8x128, .f32⟩
  | .hbm, ⟨10, _⟩ => ⟨S128x512, .f32⟩
  | .hbm, ⟨11, _⟩ => ⟨S1x512, .f32⟩
  | .hbm, ⟨12, _⟩ => ⟨S1x2048x512, .f32⟩
  | .hbm, ⟨13, _⟩ => ⟨S2048x512, .f32⟩
  | .hbm, ⟨14, _⟩ => ⟨S1x2048x512, .f32⟩
  | .hbm, ⟨15, _⟩ => ⟨S2048x512, .f32⟩
  | .hbm, ⟨16, _⟩ => ⟨S1x2048x512, .f32⟩
  | .hbm, ⟨17, _⟩ => ⟨S2048x512, .f32⟩
  | .hbm, ⟨18, _⟩ => ⟨S1x2048x512, .f32⟩
  | .hbm, ⟨19, _⟩ => ⟨S2048x512, .f32⟩
  | .hbm, ⟨20, _⟩ => ⟨S1x2048x1024, .f32⟩
  | .hbm, ⟨21, _⟩ => ⟨S2048x1024, .f32⟩
  | .hbm, ⟨22, _⟩ => ⟨S1x2048x1024, .f32⟩
  | .hbm, ⟨23, _⟩ => ⟨S2048x1024, .f32⟩
  | .hbm, ⟨24, _⟩ => ⟨S2048x4096, .f32⟩
  | .hbm, ⟨25, _⟩ => ⟨S1x2048x64, .f32⟩
  | .hbm, ⟨26, _⟩ => ⟨S2048x64, .f32⟩
  | .hbm, ⟨27, _⟩ => ⟨S1x2048x16, .f32⟩
  | .hbm, ⟨28, _⟩ => ⟨S2048x16, .f32⟩
  | .hbm, ⟨29, _⟩ => ⟨S_, .f32⟩
  | .hbm, ⟨30, _⟩ => ⟨S2048x48, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S_, .f32⟩
  | .hbm, ⟨35, _⟩ => ⟨S2048x64, .f32⟩
  | .hbm, ⟨36, _⟩ => ⟨S2048x256, .f32⟩
  | .hbm, ⟨37, _⟩ => ⟨S_, .f32⟩
  | .hbm, ⟨38, _⟩ => ⟨S8192x64, .f32⟩
  | .hbm, ⟨39, _⟩ => ⟨S8192x128, .f32⟩
  | .hbm, ⟨40, _⟩ => ⟨S8192x128, .f32⟩
  | .hbm, ⟨41, _⟩ => ⟨S512x8x128, .f32⟩
  | .hbm, ⟨42, _⟩ => ⟨S512x1024, .f32⟩
  | .hbm, ⟨43, _⟩ => ⟨S512x1024, .bf16⟩
  | .hbm, ⟨44, _⟩ => ⟨S512x8x128, .f32⟩
  | .hbm, ⟨45, _⟩ => ⟨S512x1024, .f32⟩
  | .hbm, ⟨46, _⟩ => ⟨S512x1024, .bf16⟩
  | .hbm, ⟨47, _⟩ => ⟨S2048, .f32⟩
  | .hbm, ⟨48, _⟩ => ⟨S1x2048, .f32⟩
  | .hbm, ⟨49, _⟩ => ⟨S2048x4096, .bf16⟩
  | .hbm, ⟨50, _⟩ => ⟨S2048x256, .bf16⟩
  | .hbm, ⟨51, _⟩ => ⟨S512, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S512x3072, .bf16⟩
  | .hbm, ⟨56, _⟩ => ⟨S128x512, .bf16⟩
  | .hbm, ⟨57, _⟩ => ⟨S512, .f32⟩
  | .hbm, ⟨58, _⟩ => ⟨S1x512, .f32⟩
  | .hbm, ⟨59, _⟩ => ⟨S8192x2048, .bf16⟩
  | .hbm, ⟨60, _⟩ => ⟨S8192x2048, .bf16⟩
  | .hbm, ⟨61, _⟩ => ⟨S8192x1024, .bf16⟩
  | .hbm, ⟨62, _⟩ => ⟨S8192x512, .f32⟩
  | .hbm, ⟨63, _⟩ => ⟨S8192x64, .f32⟩
  | .hbm, ⟨64, _⟩ => ⟨S8192x512, .f32⟩
  | .hbm, ⟨65, _⟩ => ⟨S8192x512, .f32⟩
  | .hbm, ⟨66, _⟩ => ⟨S8192x1024, .f32⟩
  | .hbm, ⟨67, _⟩ => ⟨S8192x512, .f32⟩
  | .hbm, ⟨68, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x2048, .f32⟩
  | .local _ .vmem, ⟨7, _⟩ => ⟨S2048x4096, .bf16⟩
  | .local _ .vmem, ⟨8, _⟩ => ⟨S2048x256, .bf16⟩
  | .local _ .vmem, ⟨9, _⟩ => ⟨S1x512, .f32⟩
  | .local _ .vmem, ⟨10, _⟩ => ⟨S1x512, .f32⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S128x512, .bf16⟩
  | .local _ .vmem, ⟨15, _⟩ => ⟨S1x512, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .bf16⟩
  | .local _ .vmem, ⟨21, _⟩ => ⟨S256x1024, .bf16⟩
  | .local _ .vmem, ⟨22, _⟩ => ⟨S256x512, .f32⟩
  | .local _ .vmem, ⟨23, _⟩ => ⟨S256x512, .f32⟩
  | .local _ .vmem, ⟨24, _⟩ => ⟨S256x64, .f32⟩
  | .local _ .vmem, ⟨25, _⟩ => ⟨S256x64, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x1024, .f32⟩
  | .local _ .vmem, ⟨31, _⟩ => ⟨S256x1024, .f32⟩
  | .local _ .vmem, ⟨32, _⟩ => ⟨S256x512, .f32⟩
  | .local _ .vmem, ⟨33, _⟩ => ⟨S256x512, .f32⟩
  | .local _ .vmem, ⟨34, _⟩ => ⟨S256x1024, .f32⟩
  | .local _ .vmem, ⟨35, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev main_v44_4 : Ref sig .tc := ⟨.hbm, 63, rfl⟩
abbrev main_v44_5 : Ref sig .tc := ⟨.hbm, 64, rfl⟩
abbrev main_v44_6 : Ref sig .tc := ⟨.hbm, 65, rfl⟩
abbrev main_v44_7 : Ref sig .tc := ⟨.hbm, 66, rfl⟩
abbrev main_v44_8 : Ref sig .tc := ⟨.hbm, 67, rfl⟩
abbrev main_v44_9 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference5Ideal.lean ====
abbrev S8192x2048 : Shape := ⟨2, ![8192, 2048]⟩
abbrev S8192x32 : Shape := ⟨2, ![8192, 32]⟩
abbrev S1x2048 : Shape := ⟨2, ![1, 2048]⟩
abbrev S1x2048x4176 : Shape := ⟨3, ![1, 2048, 4176]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x4176 : Shape := ⟨2, ![2048, 4176]⟩
abbrev S8192x4176 : Shape := ⟨2, ![8192, 4176]⟩
abbrev S8192x512 : Shape := ⟨2, ![8192, 512]⟩
abbrev S8192x64 : Shape := ⟨2, ![8192, 64]⟩
abbrev S8192x1024 : Shape := ⟨2, ![8192, 1024]⟩
abbrev S8192x16 : Shape := ⟨2, ![8192, 16]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x32, .f32⟩
  | .hbm, ⟨2, _⟩ => ⟨S8192x32, .f32⟩
  | .hbm, ⟨3, _⟩ => ⟨S1x2048, .f32⟩
  | .hbm, ⟨4, _⟩ => ⟨S1x2048x4176, .f32⟩
  | .hbm, ⟨5, _⟩ => ⟨S1x512, .f32⟩
  | .hbm, ⟨6, _⟩ => ⟨S1x512, .f32⟩
  | .hbm, ⟨7, _⟩ => ⟨S512x3072, .f32⟩
  | .hbm, ⟨8, _⟩ => ⟨S1x512x8x128, .f32⟩
  | .hbm, ⟨9, _⟩ => ⟨S1x512x8x128, .f32⟩
  | .hbm, ⟨10, _⟩ => ⟨S128x512, .f32⟩
  | .hbm, ⟨11, _⟩ => ⟨S1x512, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S2048x4176, .f32⟩
  | .hbm, ⟨30, _⟩ => ⟨S8192x4176, .f32⟩
  | .hbm, ⟨31, _⟩ => ⟨S8192x512, .f32⟩
  | .hbm, ⟨32, _⟩ => ⟨S8192x512, .f32⟩
  | .hbm, ⟨33, _⟩ => ⟨S8192x64, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x16, .f32⟩
  | .hbm, ⟨38, _⟩ => ⟨S8192x1024, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel6.lean ====
abbrev S128x2048 : Shape := ⟨2, ![128, 2048]⟩
abbrev S128x128 : Shape := ⟨2, ![128, 128]⟩
abbrev S1x2048 : Shape := ⟨2, ![1, 2048]⟩
abbrev S1x2048x4176 : Shape := ⟨3, ![1, 2048, 4176]⟩
abbrev S2048x256 : Shape := ⟨2, ![2048, 256]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S1x2048x512 : Shape := ⟨3, ![1, 2048, 512]⟩
abbrev S2048x512 : Shape := ⟨2, ![2048, 512]⟩
abbrev S1x2048x1024 : Shape := ⟨3, ![1, 2048, 1024]⟩
abbrev S2048x1024 : Shape := ⟨2, ![2048, 1024]⟩
abbrev S2048x4096 : Shape := ⟨2, ![2048, 4096]⟩
abbrev S512x8x128 : Shape := ⟨3, ![512, 8, 128]⟩
abbrev S8x128x512 : Shape := ⟨3, ![8, 128, 512]⟩
abbrev S512x1024 : Shape := ⟨2, ![512, 1024]⟩
abbrev S2048 : Shape := ⟨1, ![2048]⟩
abbrev S512 : Shape := ⟨1, ![512]⟩
abbrev S128x4096 : Shape := ⟨2, ![128, 4096]⟩
abbrev S128x1024 : Shape := ⟨2, ![128, 1024]⟩
abbrev S128x64 : Shape := ⟨2, ![128, 64]⟩
abbrev S128 : Shape := ⟨1, ![128]⟩
abbrev S128x1 : Shape := ⟨2, ![128, 1]⟩
abbrev S2048x128 : Shape := ⟨2, ![2048, 128]⟩
abbrev S1x128x512 : Shape := ⟨3, ![1, 128, 512]⟩

abbrev nBuf : Space → Nat
  | .hbm => 53
  | .vmem => 22
  | .smem => 0
  | _ => 0

abbrev bufTy : (tb : Table) → Fin (tcTables nBuf tb) → BufTy
  | .hbm, ⟨0, _⟩ => ⟨S128x2048, .f32⟩
  | .hbm, ⟨1, _⟩ => ⟨S128x128, .f32⟩
  | .hbm, ⟨2, _⟩ => ⟨S128x128, .f32⟩
  | .hbm, ⟨3, _⟩ => ⟨S1x2048, .f32⟩
  | .hbm, ⟨4, _⟩ => ⟨S1x2048x4176, .f32⟩
  | .hbm, ⟨5, _⟩ => ⟨S2048x256, .f32⟩
  | .hbm, ⟨6, _⟩ => ⟨S1x512, .f32⟩
  | .hbm, ⟨7, _⟩ => ⟨S1x512, .f32⟩
  | .hbm, ⟨8, _⟩ => ⟨S512x3072, .f32⟩
  | .hbm, ⟨9, _⟩ => ⟨S1x512x8x128, .f32⟩
  | .hbm, ⟨10, _⟩ => ⟨S1x512x8x128, .f32⟩
  | .hbm, ⟨11, _⟩ => ⟨S128x512, .f32⟩
  | .hbm, ⟨12, _⟩ => ⟨S1x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S1x2048x512, .f32⟩
  | .hbm, ⟨18, _⟩ => ⟨S2048x512, .f32⟩
  | .hbm, ⟨19, _⟩ => ⟨S1x2048x512, .f32⟩
  | .hbm, ⟨20, _⟩ => ⟨S2048x512, .f32⟩
  | .hbm, ⟨21, _⟩ => ⟨S1x2048x1024, .f32⟩
  | .hbm, ⟨22, _⟩ => ⟨S2048x1024, .f32⟩
  | .hbm, ⟨23, _⟩ => ⟨S1x2048x1024, .f32⟩
  | .hbm, ⟨24, _⟩ => ⟨S2048x1024, .f32⟩
  | .hbm, ⟨25, _⟩ => ⟨S2048x4096, .f32⟩
  | .hbm, ⟨26, _⟩ => ⟨S512x8x128, .f32⟩
  | .hbm, ⟨27, _⟩ => ⟨S8x128x512, .f32⟩
  | .hbm, ⟨28, _⟩ => ⟨S8x128x512, .bf16⟩
  | .hbm, ⟨29, _⟩ => ⟨S512x8x128, .f32⟩
  | .hbm, ⟨30, _⟩ => ⟨S512x1024, .f32⟩
  | .hbm, ⟨31, _⟩ => ⟨S512x1024, .bf16⟩
  | .hbm, ⟨32, _⟩ => ⟨S2048, .f32⟩
  | .hbm, ⟨33, _⟩ => ⟨S1x2048, .f32⟩
  | .hbm, ⟨34, _⟩ => ⟨S2048x4096, .bf16⟩
  | .hbm, ⟨35, _⟩ => ⟨S2048x256, .bf16⟩
  | .hbm, ⟨36, _⟩ => ⟨S512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S512x3072, .bf16⟩
  | .hbm, ⟨41, _⟩ => ⟨S128x512, .bf16⟩
  | .hbm, ⟨42, _⟩ => ⟨S512, .f32⟩
  | .hbm, ⟨43, _⟩ => ⟨S1x512, .f32⟩
  | .hbm, ⟨44, _⟩ => ⟨S128x4096, .bf16⟩
  | .hbm, ⟨45, _⟩ => ⟨S128x1024, .bf16⟩
  | .hbm, ⟨46, _⟩ => ⟨S128x512, .f32⟩
  | .hbm, ⟨47, _⟩ => ⟨S128x64, .f32⟩
  | .hbm, ⟨48, _⟩ => ⟨S128x512, .f32⟩
  | .hbm, ⟨49, _⟩ => ⟨S128x512, .f32⟩
  | .hbm, ⟨50, _⟩ => ⟨S128x1024, .f32⟩
  | .hbm, ⟨51, _⟩ => ⟨S128x512, .f32⟩
  | .hbm, ⟨52, _⟩ => ⟨S128x1024, .f32⟩
  | .local _ .vmem, ⟨0, _⟩ => ⟨S128x2048, .f32⟩
  | .local _ .vmem, ⟨1, _⟩ => ⟨S128x128, .f32⟩
  | .local _ .vmem, ⟨2, _⟩ => ⟨S128x128, .f32⟩
  | .local _ .vmem, ⟨3, _⟩ => ⟨S1x2048, .f32⟩
  | .local _ .vmem, ⟨4, _⟩ => ⟨S2048x4096, .bf16⟩
  | .local _ .vmem, ⟨5, _⟩ => ⟨S2048x256, .bf16⟩
  | .local _ .vmem, ⟨6, _⟩ => ⟨S1x512, .f32⟩
  | .local _ .vmem, ⟨7, _⟩ => ⟨S1x512, .f32⟩
  | .local _ .vmem, ⟨8, _⟩ => ⟨S512x3072, .bf16⟩
  | .local _ .vmem, ⟨9, _⟩ => ⟨S8x128x512, .bf16⟩
  | .local _ .vmem, ⟨10, _⟩ => ⟨S512x1024, .bf16⟩
  | .local _ .vmem, ⟨11, _⟩ => ⟨S128x512, .bf16⟩
  | .local _ .vmem, ⟨12, _⟩ => ⟨S1x512, .f32⟩
  | .local _ .vmem, ⟨13, _⟩ => ⟨S128x4096, .bf16⟩
  | .local _ .vmem, ⟨14, _⟩ => ⟨S128x1024, .bf16⟩
  | .local _ .vmem, ⟨15, _⟩ => ⟨S128x512, .f32⟩
  | .local _ .vmem, ⟨16, _⟩ => ⟨S128x64, .f32⟩
  | .local _ .vmem, ⟨17, _⟩ => ⟨S128x512, .f32⟩
  | .local _ .vmem, ⟨18, _⟩ => ⟨S128x512, .f32⟩
  | .local _ .vmem, ⟨19, _⟩ => ⟨S128x1024, .f32⟩
  | .local _ .vmem, ⟨20, _⟩ => ⟨S128x512, .f32⟩
  | .local _ .vmem, ⟨21, _⟩ => ⟨S128x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v31_6 : Ref sig .tc := ⟨.hbm, 50, rfl⟩
abbrev main_v31_7 : Ref sig .tc := ⟨.hbm, 51, rfl⟩
abbrev main_v31_8 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== Reference6Ideal.lean ====
abbrev S128x2048 : Shape := ⟨2, ![128, 2048]⟩
abbrev S128x128 : Shape := ⟨2, ![128, 128]⟩
abbrev S1x2048 : Shape := ⟨2, ![1, 2048]⟩
abbrev S1x2048x4176 : Shape := ⟨3, ![1, 2048, 4176]⟩
abbrev S2048x256 : Shape := ⟨2, ![2048, 256]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S2048 : Shape := ⟨1, ![2048]⟩
abbrev S_ : Shape := ⟨0, ![]⟩
abbrev S128 : Shape := ⟨1, ![128]⟩
abbrev S128x1 : Shape := ⟨2, ![128, 1]⟩
abbrev S2048x4176 : Shape := ⟨2, ![2048, 4176]⟩
abbrev S128x4176 : Shape := ⟨2, ![128, 4176]⟩
abbrev S128x64 : Shape := ⟨2, ![128, 64]⟩
abbrev S128x1024 : Shape := ⟨2, ![128, 1024]⟩
abbrev S128x16 : Shape := ⟨2, ![128, 16]⟩
abbrev S512 : Shape := ⟨1, ![512]⟩

abbrev nBuf : Space → Nat
  | .hbm => 60
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x128, .f32⟩
  | .hbm, ⟨2, _⟩ => ⟨S128x128, .f32⟩
  | .hbm, ⟨3, _⟩ => ⟨S1x2048, .f32⟩
  | .hbm, ⟨4, _⟩ => ⟨S1x2048x4176, .f32⟩
  | .hbm, ⟨5, _⟩ => ⟨S2048x256, .f32⟩
  | .hbm, ⟨6, _⟩ => ⟨S1x512, .f32⟩
  | .hbm, ⟨7, _⟩ => ⟨S1x512, .f32⟩
  | .hbm, ⟨8, _⟩ => ⟨S512x3072, .f32⟩
  | .hbm, ⟨9, _⟩ => ⟨S1x512x8x128, .f32⟩
  | .hbm, ⟨10, _⟩ => ⟨S1x512x8x128, .f32⟩
  | .hbm, ⟨11, _⟩ => ⟨S128x512, .f32⟩
  | .hbm, ⟨12, _⟩ => ⟨S1x512, .f32⟩
  | .hbm, ⟨13, _⟩ => ⟨S2048, .f32⟩
  | .hbm, ⟨14, _⟩ => ⟨S128x2048, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x2048, .f32⟩
  | .hbm, ⟨26, _⟩ => ⟨S128x2048, .f32⟩
  | .hbm, ⟨27, _⟩ => ⟨S1x2048, .f32⟩
  | .hbm, ⟨28, _⟩ => ⟨S128x2048, .f32⟩
  | .hbm, ⟨29, _⟩ => ⟨S128x2048, .f32⟩
  | .hbm, ⟨30, _⟩ => ⟨S2048x4176, .f32⟩
  | .hbm, ⟨31, _⟩ => ⟨S128x4176, .f32⟩
  | .hbm, ⟨32, _⟩ => ⟨S128x512, .f32⟩
  | .hbm, ⟨33, _⟩ => ⟨S128x512, .f32⟩
  | .hbm, ⟨34, _⟩ => ⟨S128x64, .f32⟩
  | .hbm, ⟨35, _⟩ => ⟨S128x512, .f32⟩
  | .hbm, ⟨36, _⟩ => ⟨S128x512, .f32⟩
  | .hbm, ⟨37, _⟩ => ⟨S128x1024, .f32⟩
  | .hbm, ⟨38, _⟩ => ⟨S128x16, .f32⟩
  | .hbm, ⟨39, _⟩ => ⟨S128x1024, .f32⟩
  | .hbm, ⟨40, _⟩ => ⟨S512, .f32⟩
  | .hbm, ⟨41, _⟩ => ⟨S128x512, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x1, .f32⟩
  | .hbm, ⟨52, _⟩ => ⟨S128x512, .f32⟩
  | .hbm, ⟨53, _⟩ => ⟨S128x512, .f32⟩
  | .hbm, ⟨54, _⟩ => ⟨S1x512, .f32⟩
  | .hbm, ⟨55, _⟩ => ⟨S128x512, .f32⟩
  | .hbm, ⟨56, _⟩ => ⟨S128x512, .f32⟩
  | .hbm, ⟨57, _⟩ => ⟨S_, .f32⟩
  | .hbm, ⟨58, _⟩ => ⟨S128x512, .f32⟩
  | .hbm, ⟨59, _⟩ => ⟨S128x512, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel7.lean ====
abbrev S128x2048 : Shape := ⟨2, ![128, 2048]⟩
abbrev S128x32 : Shape := ⟨2, ![128, 32]⟩
abbrev S1x2048 : Shape := ⟨2, ![1, 2048]⟩
abbrev S1x2048x4176 : Shape := ⟨3, ![1, 2048, 4176]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S1x2048x512 : Shape := ⟨3, ![1, 2048, 512]⟩
abbrev S2048x512 : Shape := ⟨2, ![2048, 512]⟩
abbrev S1x2048x1024 : Shape := ⟨3, ![1, 2048, 1024]⟩
abbrev S2048x1024 : Shape := ⟨2, ![2048, 1024]⟩
abbrev S2048x4096 : Shape := ⟨2, ![2048, 4096]⟩
abbrev S1x2048x64 : Shape := ⟨3, ![1, 2048, 64]⟩
abbrev S2048x64 : Shape := ⟨2, ![2048, 64]⟩
abbrev S1x2048x16 : Shape := ⟨3, ![1, 2048, 16]⟩
abbrev S2048x16 : Shape := ⟨2, ![2048, 16]⟩
abbrev S_ : Shape := ⟨0, ![]⟩
abbrev S2048x48 : Shape := ⟨2, ![2048, 48]⟩
abbrev S2048x32 : Shape := ⟨2, ![2048, 32]⟩
abbrev S2048x256 : Shape := ⟨2, ![2048, 256]⟩
abbrev S128x64 : Shape := ⟨2, ![128, 64]⟩
abbrev S128x128 : Shape := ⟨2, ![128, 128]⟩
abbrev S512x8x128 : Shape := ⟨3, ![512, 8, 128]⟩
abbrev S8x128x512 : Shape := ⟨3, ![8, 128, 512]⟩
abbrev S512x1024 : Shape := ⟨2, ![512, 1024]⟩
abbrev S2048 : Shape := ⟨1, ![2048]⟩
abbrev S512 : Shape := ⟨1, ![512]⟩
abbrev S128x4096 : Shape := ⟨2, ![128, 4096]⟩
abbrev S128x1024 : Shape := ⟨2, ![128, 1024]⟩
abbrev S128 : Shape := ⟨1, ![128]⟩
abbrev S128x1 : Shape := ⟨2, ![128, 1]⟩
abbrev S2048x128 : Shape := ⟨2, ![2048, 128]⟩
abbrev S1x128x512 : Shape := ⟨3, ![1, 128, 512]⟩

abbrev nBuf : Space → Nat
  | .hbm => 68
  | .vmem => 22
  | .smem => 0
  | _ => 0

abbrev bufTy : (tb : Table) → Fin (tcTables nBuf tb) → BufTy
  | .hbm, ⟨0, _⟩ => ⟨S128x2048, .f32⟩
  | .hbm, ⟨1, _⟩ => ⟨S128x32, .f32⟩
  | .hbm, ⟨2, _⟩ => ⟨S128x32, .f32⟩
  | .hbm, ⟨3, _⟩ => ⟨S1x2048, .f32⟩
  | .hbm, ⟨4, _⟩ => ⟨S1x2048x4176, .f32⟩
  | .hbm, ⟨5, _⟩ => ⟨S1x512, .f32⟩
  | .hbm, ⟨6, _⟩ => ⟨S1x512, .f32⟩
  | .hbm, ⟨7, _⟩ => ⟨S512x3072, .f32⟩
  | .hbm, ⟨8, _⟩ => ⟨S1x512x8x128, .f32⟩
  | .hbm, ⟨9, _⟩ => ⟨S1x512x8x128, .f32⟩
  | .hbm, ⟨10, _⟩ => ⟨S128x512, .f32⟩
  | .hbm, ⟨11, _⟩ => ⟨S1x512, .f32⟩
  | .hbm, ⟨12, _⟩ => ⟨S1x2048x512, .f32⟩
  | .hbm, ⟨13, _⟩ => ⟨S2048x512, .f32⟩
  | .hbm, ⟨14, _⟩ => ⟨S1x2048x512, .f32⟩
  | .hbm, ⟨15, _⟩ => ⟨S2048x512, .f32⟩
  | .hbm, ⟨16, _⟩ => ⟨S1x2048x512, .f32⟩
  | .hbm, ⟨17, _⟩ => ⟨S2048x512, .f32⟩
  | .hbm, ⟨18, _⟩ => ⟨S1x2048x512, .f32⟩
  | .hbm, ⟨19, _⟩ => ⟨S2048x512, .f32⟩
  | .hbm, ⟨20, _⟩ => ⟨S1x2048x1024, .f32⟩
  | .hbm, ⟨21, _⟩ => ⟨S2048x1024, .f32⟩
  | .hbm, ⟨22, _⟩ => ⟨S1x2048x1024, .f32⟩
  | .hbm, ⟨23, _⟩ => ⟨S2048x1024, .f32⟩
  | .hbm, ⟨24, _⟩ => ⟨S2048x4096, .f32⟩
  | .hbm, ⟨25, _⟩ => ⟨S1x2048x64, .f32⟩
  | .hbm, ⟨26, _⟩ => ⟨S2048x64, .f32⟩
  | .hbm, ⟨27, _⟩ => ⟨S1x2048x16, .f32⟩
  | .hbm, ⟨28, _⟩ => ⟨S2048x16, .f32⟩
  | .hbm, ⟨29, _⟩ => ⟨S_, .f32⟩
  | .hbm, ⟨30, _⟩ => ⟨S2048x48, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S_, .f32⟩
  | .hbm, ⟨35, _⟩ => ⟨S2048x64, .f32⟩
  | .hbm, ⟨36, _⟩ => ⟨S2048x256, .f32⟩
  | .hbm, ⟨37, _⟩ => ⟨S_, .f32⟩
  | .hbm, ⟨38, _⟩ => ⟨S128x64, .f32⟩
  | .hbm, ⟨39, _⟩ => ⟨S128x128, .f32⟩
  | .hbm, ⟨40, _⟩ => ⟨S128x128, .f32⟩
  | .hbm, ⟨41, _⟩ => ⟨S512x8x128, .f32⟩
  | .hbm, ⟨42, _⟩ => ⟨S8x128x512, .f32⟩
  | .hbm, ⟨43, _⟩ => ⟨S8x128x512, .bf16⟩
  | .hbm, ⟨44, _⟩ => ⟨S512x8x128, .f32⟩
  | .hbm, ⟨45, _⟩ => ⟨S512x1024, .f32⟩
  | .hbm, ⟨46, _⟩ => ⟨S512x1024, .bf16⟩
  | .hbm, ⟨47, _⟩ => ⟨S2048, .f32⟩
  | .hbm, ⟨48, _⟩ => ⟨S1x2048, .f32⟩
  | .hbm, ⟨49, _⟩ => ⟨S2048x4096, .bf16⟩
  | .hbm, ⟨50, _⟩ => ⟨S2048x256, .bf16⟩
  | .hbm, ⟨51, _⟩ => ⟨S512, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S512x3072, .bf16⟩
  | .hbm, ⟨56, _⟩ => ⟨S128x512, .bf16⟩
  | .hbm, ⟨57, _⟩ => ⟨S512, .f32⟩
  | .hbm, ⟨58, _⟩ => ⟨S1x512, .f32⟩
  | .hbm, ⟨59, _⟩ => ⟨S128x4096, .bf16⟩
  | .hbm, ⟨60, _⟩ => ⟨S128x1024, .bf16⟩
  | .hbm, ⟨61, _⟩ => ⟨S128x512, .f32⟩
  | .hbm, ⟨62, _⟩ => ⟨S128x64, .f32⟩
  | .hbm, ⟨63, _⟩ => ⟨S128x512, .f32⟩
  | .hbm, ⟨64, _⟩ => ⟨S128x512, .f32⟩
  | .hbm, ⟨65, _⟩ => ⟨S128x1024, .f32⟩
  | .hbm, ⟨66, _⟩ => ⟨S128x512, .f32⟩
  | .hbm, ⟨67, _⟩ => ⟨S128x1024, .f32⟩
  | .local _ .vmem, ⟨0, _⟩ => ⟨S128x2048, .f32⟩
  | .local _ .vmem, ⟨1, _⟩ => ⟨S128x128, .f32⟩
  | .local _ .vmem, ⟨2, _⟩ => ⟨S128x128, .f32⟩
  | .local _ .vmem, ⟨3, _⟩ => ⟨S1x2048, .f32⟩
  | .local _ .vmem, ⟨4, _⟩ => ⟨S2048x4096, .bf16⟩
  | .local _ .vmem, ⟨5, _⟩ => ⟨S2048x256, .bf16⟩
  | .local _ .vmem, ⟨6, _⟩ => ⟨S1x512, .f32⟩
  | .local _ .vmem, ⟨7, _⟩ => ⟨S1x512, .f32⟩
  | .local _ .vmem, ⟨8, _⟩ => ⟨S512x3072, .bf16⟩
  | .local _ .vmem, ⟨9, _⟩ => ⟨S8x128x512, .bf16⟩
  | .local _ .vmem, ⟨10, _⟩ => ⟨S512x1024, .bf16⟩
  | .local _ .vmem, ⟨11, _⟩ => ⟨S128x512, .bf16⟩
  | .local _ .vmem, ⟨12, _⟩ => ⟨S1x512, .f32⟩
  | .local _ .vmem, ⟨13, _⟩ => ⟨S128x4096, .bf16⟩
  | .local _ .vmem, ⟨14, _⟩ => ⟨S128x1024, .bf16⟩
  | .local _ .vmem, ⟨15, _⟩ => ⟨S128x512, .f32⟩
  | .local _ .vmem, ⟨16, _⟩ => ⟨S128x64, .f32⟩
  | .local _ .vmem, ⟨17, _⟩ => ⟨S128x512, .f32⟩
  | .local _ .vmem, ⟨18, _⟩ => ⟨S128x512, .f32⟩
  | .local _ .vmem, ⟨19, _⟩ => ⟨S128x1024, .f32⟩
  | .local _ .vmem, ⟨20, _⟩ => ⟨S128x512, .f32⟩
  | .local _ .vmem, ⟨21, _⟩ => ⟨S128x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev main_v44_4 : Ref sig .tc := ⟨.hbm, 63, rfl⟩
abbrev main_v44_5 : Ref sig .tc := ⟨.hbm, 64, rfl⟩
abbrev main_v44_6 : Ref sig .tc := ⟨.hbm, 65, rfl⟩
abbrev main_v44_7 : Ref sig .tc := ⟨.hbm, 66, rfl⟩
abbrev main_v44_8 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]
-- ==== Reference7Ideal.lean ====
abbrev S128x2048 : Shape := ⟨2, ![128, 2048]⟩
abbrev S128x32 : Shape := ⟨2, ![128, 32]⟩
abbrev S1x2048 : Shape := ⟨2, ![1, 2048]⟩
abbrev S1x2048x4176 : Shape := ⟨3, ![1, 2048, 4176]⟩
abbrev S1x512 : Shape := ⟨2, ![1, 512]⟩
abbrev S512x3072 : Shape := ⟨2, ![512, 3072]⟩
abbrev S1x512x8x128 : Shape := ⟨4, ![1, 512, 8, 128]⟩
abbrev S128x512 : Shape := ⟨2, ![128, 512]⟩
abbrev S2048 : Shape := ⟨1, ![2048]⟩
abbrev S_ : Shape := ⟨0, ![]⟩
abbrev S128 : Shape := ⟨1, ![128]⟩
abbrev S128x1 : Shape := ⟨2, ![128, 1]⟩
abbrev S2048x4176 : Shape := ⟨2, ![2048, 4176]⟩
abbrev S128x4176 : Shape := ⟨2, ![128, 4176]⟩
abbrev S128x64 : Shape := ⟨2, ![128, 64]⟩
abbrev S128x1024 : Shape := ⟨2, ![128, 1024]⟩
abbrev S128x16 : Shape := ⟨2, ![128, 16]⟩

abbrev nBuf : Space → Nat
  | .hbm => 48
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x32, .f32⟩
  | .hbm, ⟨2, _⟩ => ⟨S128x32, .f32⟩
  | .hbm, ⟨3, _⟩ => ⟨S1x2048, .f32⟩
  | .hbm, ⟨4, _⟩ => ⟨S1x2048x4176, .f32⟩
  | .hbm, ⟨5, _⟩ => ⟨S1x512, .f32⟩
  | .hbm, ⟨6, _⟩ => ⟨S1x512, .f32⟩
  | .hbm, ⟨7, _⟩ => ⟨S512x3072, .f32⟩
  | .hbm, ⟨8, _⟩ => ⟨S1x512x8x128, .f32⟩
  | .hbm, ⟨9, _⟩ => ⟨S1x512x8x128, .f32⟩
  | .hbm, ⟨10, _⟩ => ⟨S128x512, .f32⟩
  | .hbm, ⟨11, _⟩ => ⟨S1x512, .f32⟩
  | .hbm, ⟨12, _⟩ => ⟨S2048, .f32⟩
  | .hbm, ⟨13, _⟩ => ⟨S128x2048, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x2048, .f32⟩
  | .hbm, ⟨25, _⟩ => ⟨S128x2048, .f32⟩
  | .hbm, ⟨26, _⟩ => ⟨S1x2048, .f32⟩
  | .hbm, ⟨27, _⟩ => ⟨S128x2048, .f32⟩
  | .hbm, ⟨28, _⟩ => ⟨S128x2048, .f32⟩
  | .hbm, ⟨29, _⟩ => ⟨S2048x4176, .f32⟩
  | .hbm, ⟨30, _⟩ => ⟨S128x4176, .f32⟩
  | .hbm, ⟨31, _⟩ => ⟨S128x512, .f32⟩
  | .hbm, ⟨32, _⟩ => ⟨S128x512, .f32⟩
  | .hbm, ⟨33, _⟩ => ⟨S128x64, .f32⟩
  | .hbm, ⟨34, _⟩ => ⟨S128x512, .f32⟩
  | .hbm, ⟨35, _⟩ => ⟨S128x512, .f32⟩
  | .hbm, ⟨36, _⟩ => ⟨S128x1024, .f32⟩
  | .hbm, ⟨37, _⟩ => ⟨S128x16, .f32⟩
  | .hbm, ⟨38, _⟩ => ⟨S128x1024, .f32⟩
  | .hbm, ⟨39, _⟩ => ⟨S128x32, .f32⟩
  | .hbm, ⟨40, _⟩ => ⟨S128x32, .f32⟩
  | .hbm, ⟨41, _⟩ => ⟨S128x32, .f32⟩
  | .hbm, ⟨42, _⟩ => ⟨S128x32, .f32⟩
  | .hbm, ⟨43, _⟩ => ⟨S128x32, .f32⟩
  | .hbm, ⟨44, _⟩ => ⟨S128x32, .f32⟩
  | .hbm, ⟨45, _⟩ => ⟨S128x32, .f32⟩
  | .hbm, ⟨46, _⟩ => ⟨S128x32, .f32⟩
  | .hbm, ⟨47, _⟩ => ⟨S128x64, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel8.lean ====
abbrev S128x2048 : Shape := ⟨2, ![128, 2048]⟩
abbrev S1x128x2x11264 : Shape := ⟨4, ![1, 128, 2, 11264]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S1x2048 : Shape := ⟨2, ![1, 2048]⟩
abbrev S2048x11264 : Shape := ⟨2, ![2048, 11264]⟩
abbrev S5632x2048 : Shape := ⟨2, ![5632, 2048]⟩
abbrev S128x2x11264 : Shape := ⟨3, ![128, 2, 11264]⟩
abbrev S2x128x11264 : Shape := ⟨3, ![2, 128, 11264]⟩
abbrev S3x11264 : Shape := ⟨2, ![3, 11264]⟩
abbrev S11264 : Shape := ⟨1, ![11264]⟩
abbrev S2048 : Shape := ⟨1, ![2048]⟩
abbrev S128x5632 : Shape := ⟨2, ![128, 5632]⟩
abbrev S1x128x512 : Shape := ⟨3, ![1, 128, 512]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S128x512 : Shape := ⟨2, ![128, 512]⟩
abbrev S128 : Shape := ⟨1, ![128]⟩
abbrev S128x1 : Shape := ⟨2, ![128, 1]⟩

abbrev nBuf : Space → Nat
  | .hbm => 23
  | .vmem => 31
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x128x2x11264, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S128x2x11264, .f32⟩
  | .hbm, ⟨13, _⟩ => ⟨S2x128x11264, .f32⟩
  | .hbm, ⟨14, _⟩ => ⟨S128x2048, .bf16⟩
  | .hbm, ⟨15, _⟩ => ⟨S3x11264, .f32⟩
  | .hbm, ⟨16, _⟩ => ⟨S11264, .f32⟩
  | .hbm, ⟨17, _⟩ => ⟨S2048, .f32⟩
  | .hbm, ⟨18, _⟩ => ⟨S1x2048, .f32⟩
  | .hbm, ⟨19, _⟩ => ⟨S1x11264, .f32⟩
  | .hbm, ⟨20, _⟩ => ⟨S128x2048, .f32⟩
  | .hbm, ⟨21, _⟩ => ⟨S128x5632, .f32⟩
  | .hbm, ⟨22, _⟩ => ⟨S128x5632, .f32⟩
  | .local _ .vmem, ⟨0, _⟩ => ⟨S128x2048, .bf16⟩
  | .local _ .vmem, ⟨1, _⟩ => ⟨S128x2048, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x512, .f32⟩
  | .local _ .vmem, ⟨15, _⟩ => ⟨S3x512, .f32⟩
  | .local _ .vmem, ⟨16, _⟩ => ⟨S3x512, .f32⟩
  | .local _ .vmem, ⟨17, _⟩ => ⟨S3x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S512x2048, .bf16⟩
  | .local _ .vmem, ⟨23, _⟩ => ⟨S512x2048, .bf16⟩
  | .local _ .vmem, ⟨24, _⟩ => ⟨S1x2048, .f32⟩
  | .local _ .vmem, ⟨25, _⟩ => ⟨S128x2048, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v80 : BitVec 1 := Scalar.cmpi .eq arg0 c10_i32
  let v81 : BitVec 32 := Scalar.extui v80
  let c0_i32_48 : BitVec 32 := 0#32
  let v82 : BitVec 1 := Scalar.cmpi .ne v81 c0_i32_48
  v82

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 3 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference8Ideal.lean ====
abbrev S128x2048 : Shape := ⟨2, ![128, 2048]⟩
abbrev S1x128x2x11264 : Shape := ⟨4, ![1, 128, 2, 11264]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S1x2048 : Shape := ⟨2, ![1, 2048]⟩
abbrev S2048x11264 : Shape := ⟨2, ![2048, 11264]⟩
abbrev S128x11264 : Shape := ⟨2, ![128, 11264]⟩
abbrev S128x1x11264 : Shape := ⟨3, ![128, 1, 11264]⟩
abbrev S128x2x11264 : Shape := ⟨3, ![128, 2, 11264]⟩
abbrev S128x3x11264 : Shape := ⟨3, ![128, 3, 11264]⟩
abbrev S11264 : Shape := ⟨1, ![11264]⟩
abbrev S1x1x11264 : Shape := ⟨3, ![1, 1, 11264]⟩
abbrev S128x5632 : Shape := ⟨2, ![128, 5632]⟩
abbrev S_ : Shape := ⟨0, ![]⟩
abbrev S5632x2048 : Shape := ⟨2, ![5632, 2048]⟩
abbrev S2048 : Shape := ⟨1, ![2048]⟩
abbrev S128 : Shape := ⟨1, ![128]⟩
abbrev S128x1 : Shape := ⟨2, ![128, 1]⟩
abbrev S128x1x5632 : Shape := ⟨3, ![128, 1, 5632]⟩

abbrev nBuf : Space → Nat
  | .hbm => 82
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x128x2x11264, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S1x2048, .f32⟩
  | .hbm, ⟨8, _⟩ => ⟨S2048x11264, .f32⟩
  | .hbm, ⟨9, _⟩ => ⟨S128x11264, .f32⟩
  | .hbm, ⟨10, _⟩ => ⟨S128x1x11264, .f32⟩
  | .hbm, ⟨11, _⟩ => ⟨S128x2x11264, .f32⟩
  | .hbm, ⟨12, _⟩ => ⟨S128x3x11264, .f32⟩
  | .hbm, ⟨13, _⟩ => ⟨S11264, .f32⟩
  | .hbm, ⟨14, _⟩ => ⟨S128x1x11264, .f32⟩
  | .hbm, ⟨15, _⟩ => ⟨S1x1x11264, .f32⟩
  | .hbm, ⟨16, _⟩ => ⟨S11264, .f32⟩
  | .hbm, ⟨17, _⟩ => ⟨S1x1x11264, .f32⟩
  | .hbm, ⟨18, _⟩ => ⟨S128x1x11264, .f32⟩
  | .hbm, ⟨19, _⟩ => ⟨S128x1x11264, .f32⟩
  | .hbm, ⟨20, _⟩ => ⟨S1x1x11264, .f32⟩
  | .hbm, ⟨21, _⟩ => ⟨S128x1x11264, .f32⟩
  | .hbm, ⟨22, _⟩ => ⟨S128x1x11264, .f32⟩
  | .hbm, ⟨23, _⟩ => ⟨S128x1x11264, .f32⟩
  | .hbm, ⟨24, _⟩ => ⟨S1x1x11264, .f32⟩
  | .hbm, ⟨25, _⟩ => ⟨S11264, .f32⟩
  | .hbm, ⟨26, _⟩ => ⟨S1x1x11264, .f32⟩
  | .hbm, ⟨27, _⟩ => ⟨S128x1x11264, .f32⟩
  | .hbm, ⟨28, _⟩ => ⟨S128x1x11264, .f32⟩
  | .hbm, ⟨29, _⟩ => ⟨S128x1x11264, .f32⟩
  | .hbm, ⟨30, _⟩ => ⟨S128x1x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S128x1x11264, .f32⟩
  | .hbm, ⟨35, _⟩ => ⟨S128x1x11264, .f32⟩
  | .hbm, ⟨36, _⟩ => ⟨S128x1x11264, .f32⟩
  | .hbm, ⟨37, _⟩ => ⟨S128x11264, .f32⟩
  | .hbm, ⟨38, _⟩ => ⟨S128x5632, .f32⟩
  | .hbm, ⟨39, _⟩ => ⟨S128x5632, .f32⟩
  | .hbm, ⟨40, _⟩ => ⟨S128x5632, .f32⟩
  | .hbm, ⟨41, _⟩ => ⟨S128x5632, .f32⟩
  | .hbm, ⟨42, _⟩ => ⟨S_, .f32⟩
  | .hbm, ⟨43, _⟩ => ⟨S128x5632, .f32⟩
  | .hbm, ⟨44, _⟩ => ⟨S128x5632, .f32⟩
  | .hbm, ⟨45, _⟩ => ⟨S128x5632, .f32⟩
  | .hbm, ⟨46, _⟩ => ⟨S_, .f32⟩
  | .hbm, ⟨47, _⟩ => ⟨S128x5632, .f32⟩
  | .hbm, ⟨48, _⟩ => ⟨S128x5632, .f32⟩
  | .hbm, ⟨49, _⟩ => ⟨S128x5632, .f32⟩
  | .hbm, ⟨50, _⟩ => ⟨S_, .f32⟩
  | .hbm, ⟨51, _⟩ => ⟨S128x5632, .f32⟩
  | .hbm, ⟨52, _⟩ => ⟨S128x5632, .f32⟩
  | .hbm, ⟨53, _⟩ => ⟨S_, .f32⟩
  | .hbm, ⟨54, _⟩ => ⟨S128x5632, .f32⟩
  | .hbm, ⟨55, _⟩ => ⟨S128x5632, .f32⟩
  | .hbm, ⟨56, _⟩ => ⟨S128x5632, .f32⟩
  | .hbm, ⟨57, _⟩ => ⟨S128x5632, .f32⟩
  | .hbm, ⟨58, _⟩ => ⟨S5632x2048, .f32⟩
  | .hbm, ⟨59, _⟩ => ⟨S128x2048, .f32⟩
  | .hbm, ⟨60, _⟩ => ⟨S2048, .f32⟩
  | .hbm, ⟨61, _⟩ => ⟨S128x2048, .f32⟩
  | .hbm, ⟨62, _⟩ => ⟨S_, .f32⟩
  | .hbm, ⟨63, _⟩ => ⟨S128, .f32⟩
  | .hbm, ⟨64, _⟩ => ⟨S128x1, .f32⟩
  | .hbm, ⟨65, _⟩ => ⟨S_, .f32⟩
  | .hbm, ⟨66, _⟩ => ⟨S128x1, .f32⟩
  | .hbm, ⟨67, _⟩ => ⟨S128x1, .f32⟩
  | .hbm, ⟨68, _⟩ => ⟨S_, .f32⟩
  | .hbm, ⟨69, _⟩ => ⟨S128x1, .f32⟩
  | .hbm, ⟨70, _⟩ => ⟨S128x1, .f32⟩
  | .hbm, ⟨71, _⟩ => ⟨S128x1, .f32⟩
  | .hbm, ⟨72, _⟩ => ⟨S128x2048, .f32⟩
  | .hbm, ⟨73, _⟩ => ⟨S128x2048, .f32⟩
  | .hbm, ⟨74, _⟩ => ⟨S1x2048, .f32⟩
  | .hbm, ⟨75, _⟩ => ⟨S128x2048, .f32⟩
  | .hbm, ⟨76, _⟩ => ⟨S128x2048, .f32⟩
  | .hbm, ⟨77, _⟩ => ⟨S128x2048, .f32⟩
  | .hbm, ⟨78, _⟩ => ⟨S128x1x5632, .f32⟩
  | .hbm, ⟨79, _⟩ => ⟨S128x5632, .f32⟩
  | .hbm, ⟨80, _⟩ => ⟨S128x1x5632, .f32⟩
  | .hbm, ⟨81, _⟩ => ⟨S128x5632, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Proof.GlaMath.lean ====
/- The chunked form of a gated linear recurrence over the reals: the state after a chunk, and the
   readout inside a chunk, in closed form. -/
module

public import Mathlib.Analysis.SpecialFunctions.Exp
public import Mathlib.Algebra.BigOperators.Intervals
public import Mathlib.Tactic.Ring

@[expose] public section

noncomputable section

namespace Cert.Proof.GlaMath

open Finset

variable {A B : Type}

/-- The state after `n` tokens: each token decays row `a` by `exp (g n a)` and adds `k n a * v n b`. -/
def S (g k : ℕ → A → ℝ) (v : ℕ → B → ℝ) : ℕ → A → B → ℝ
  | 0, _, _ => 0
  | n + 1, a, b => Real.exp (g n a) * S g k v n a b + k n a * v n b

/-- The log-decay gathered from token `n0` through `m` tokens. -/
def L (g : ℕ → A → ℝ) (n0 m : ℕ) (a : A) : ℝ := ∑ j ∈ range m, g (n0 + j) a

theorem L_succ (g : ℕ → A → ℝ) (n0 m : ℕ) (a : A) : L g n0 (m + 1) a = L g n0 m a + g (n0 + m) a := by
  unfold L; rw [sum_range_succ]

/-- The state `m` tokens after `n0`, from the state at `n0`. -/
theorem S_add (g k : ℕ → A → ℝ) (v : ℕ → B → ℝ) (n0 m : ℕ) (a : A) (b : B) :
    S g k v (n0 + m) a b = Real.exp (L g n0 m a) * S g k v n0 a b
      + ∑ j ∈ range m, (k (n0 + j) a * Real.exp (L g n0 m a - L g n0 (j + 1) a)) * v (n0 + j) b := by
  induction m with
  | zero => simp [L]
  | succ m ih =>
    rw [show n0 + (m + 1) = (n0 + m) + 1 from rfl, S, ih, sum_range_succ, L_succ, sub_self, Real.exp_zero, mul_one,
      mul_add, Finset.mul_sum, Real.exp_add]
    have h : ∀ j ∈ range m, Real.exp (g (n0 + m) a) * ((k (n0 + j) a * Real.exp (L g n0 m a - L g n0 (j + 1) a)) * v (n0 + j) b)
        = (k (n0 + j) a * Real.exp (L g n0 m a + g (n0 + m) a - L g n0 (j + 1) a)) * v (n0 + j) b := by
      intro j _
      rw [show L g n0 m a + g (n0 + m) a - L g n0 (j + 1) a = g (n0 + m) a + (L g n0 m a - L g n0 (j + 1) a) by ring,
        Real.exp_add]
      ring
    rw [Finset.sum_congr rfl h]
    ring

/-- The readout at token `n0 + i`, split into what the state at `n0` gives and what the tokens of the chunk
    give, the scores taken about a middle row of log-decay `M`. -/
theorem readout [Fintype A] (g k q : ℕ → A → ℝ) (v : ℕ → B → ℝ) (n0 i : ℕ) (M : A → ℝ) (b : B) :
    ∑ a, q (n0 + i) a * S g k v (n0 + i + 1) a b
      = ∑ a, (q (n0 + i) a * Real.exp (L g n0 (i + 1) a)) * S g k v n0 a b
        + ∑ j ∈ range (i + 1), (∑ a, (q (n0 + i) a * Real.exp (L g n0 (i + 1) a - M a))
            * (k (n0 + j) a * Real.exp (M a - L g n0 (j + 1) a))) * v (n0 + j) b := by
  simp_rw [Finset.sum_mul]
  rw [Finset.sum_comm, ← Finset.sum_add_distrib]
  refine Finset.sum_congr rfl fun a _ => ?_
  rw [show n0 + i + 1 = n0 + (i + 1) from rfl, S_add, mul_add, Finset.mul_sum]
  congr 1
  · ring
  · refine Finset.sum_congr rfl fun j _ => ?_
    rw [show L g n0 (i + 1) a - L g n0 (j + 1) a = (L g n0 (i + 1) a - M a) + (M a - L g n0 (j + 1) a) by ring,
      Real.exp_add]
    ring

end Cert.Proof.GlaMath

end
-- ==== Proof.GlaHead.lean ====
/- One head of one chunk of the gated linear attention kernel at the exact instance: the values its body
   stores for finite blocks, as the token-by-token recurrence gives them. -/
module

public import proofs.«01_k».proof.Proof.Gen.KernelIdeal.Skeleton
public import proofs.«01_k».proof.Proof.Gen.KernelIdeal
public import Idealize.ShloMosaic.Lib.Pointwise
public import proofs.«01_k».proof.Proof.GlaMath

@[expose] public section

set_option maxRecDepth 16384

noncomputable section

namespace Cert.Proof.GlaHead

open Idealize.ShloMosaic Cert.KernelIdeal Cert.KernelIdeal.Gen Finset
open Cert.Proof.GlaMath (S L)

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over 128 positions cut at `i` is the sum over the first `i + 1`. -/
theorem sum_cut (f : ℕ → ℝ) (i : Fin 128) :
    ∑ x : Fin 128, (if (x : ℕ) ≤ i then f x else 0) = ∑ j ∈ range (i + 1), f j := by
  rw [Fin.sum_univ_eq_sum_range (fun x => if x ≤ (i : ℕ) then f x else 0) 128, ← sum_filter]
  refine Finset.sum_congr ?_ fun _ _ => rfl
  ext x
  simp only [mem_filter, mem_range]
  have := i.isLt
  omega

/-- The causal mask at a position. -/
theorem mask_apply (i j : Fin 128) : k0_pay2 (ix2 i j) = if (j : ℕ) ≤ i then 1#1 else 0#1 := by
  pointwise [k0_pay2]
  revert i j
  decide +kernel

/-- The lower triangle of ones at a position. -/
theorem tri_apply (i j : Fin 128) : k0_pay3 (F := Ideal) (ix2 i j) = if (j : ℕ) ≤ i then 1 else 0 := by
  have h : k0_pay3 (F := Ideal) (ix2 i j) = FloatOps.sitofp (F := Ideal) FTy.f32 (BitVec.setWidth 32 (k0_pay2 (ix2 i j))) := by
    pointwise [k0_pay3]
  rw [h, mask_apply]
  split
  · show (((1 : BitVec 32).toInt : ℝ) : EReal) = 1
    rw [show (1 : BitVec 32).toInt = 1 by decide]; norm_num
  · show (((0 : BitVec 32).toInt : ℝ) : EReal) = 0
    rw [show (0 : BitVec 32).toInt = 0 by decide]; norm_num

section
variable (g' k' q' : ℕ → Fin 128 → ℝ) (v' : ℕ → Fin 256 → ℝ) (n0 : ℕ)
variable (g k q : Vec Ideal S128x128 .f32) (v : Vec Ideal S128x256 .f32) (s : Vec Ideal S1x128x256 .f32)

/-- The chunk's running log-decay. -/
theorem cum_apply (hg : ∀ i a, g (ix2 i a) = ((g' (n0 + i) a : ℝ) : EReal)) (i a : Fin 128) :
    k0_pay4 g (ix2 i a) = ((L g' n0 (i + 1) a : ℝ) : EReal) := by
  pointwise [k0_pay4]
  simp only [tri_apply, hg, ← EReal.coe_sub, sub_self, EReal.coe_zero, show (0 : EReal) - 0 = 0 by simp, mul_zero, sum_const_zero, add_zero]
  rw [L, ← sum_cut (fun j => g' (n0 + j) a) i, coe_sum]
  apply Finset.sum_congr rfl
  intro x _
  split <;> simp

/-- The state the chunk leaves is the recurrence's state 128 tokens on. -/
theorem state_apply (hg : ∀ i a, g (ix2 i a) = ((g' (n0 + i) a : ℝ) : EReal))
    (hk : ∀ i a, k (ix2 i a) = ((k' (n0 + i) a : ℝ) : EReal)) (hv : ∀ i b, v (ix2 i b) = ((v' (n0 + i) b : ℝ) : EReal))
    (hs : ∀ a b, s (ix3 0 a b) = ((S g' k' v' n0 a b : ℝ) : EReal)) (a : Fin 128) (b : Fin 256) :
    k0_pay12 (k0_pay4 g) (k0_pay5 g) k v s (ix3 0 a b) = ((S g' k' v' (n0 + 128) a b : ℝ) : EReal) := by
  have h5 : k0_pay5 g (ix2 0 a) = k0_pay4 g (ix2 127 a) := by pointwise [k0_pay5]
  pointwise [k0_pay12, k0_pay10, k0_pay11]
  simp only [h5, cum_apply g' n0 g hg, hk, hv, hs, ← EReal.coe_sub, Ideal.exp_coe, ← EReal.coe_mul, ← coe_sum, ← EReal.coe_add]
  rw [GlaMath.S_add, ← Fin.sum_univ_eq_sum_range (fun j => (k' (n0 + j) a * Real.exp (L g' n0 128 a - L g' n0 (j + 1) a)) * v' (n0 + j) b) 128]
  rfl

/-- The readout of the state at token `n0 + i`, by column. -/
def oRow (i : ℕ) (b : Fin 256) : ℝ := ∑ a, q' i a * S g' k' v' (i + 1) a b

/-- The gated root-mean-square normalization of a row `o`, at column `b`. -/
def gated (o w gate : Fin 256 → EReal) (b : Fin 256) : EReal :=
  o b * Ideal.rsqrt (Ideal.div (∑ x, o x * o x) (Ideal.ofBits FTy.f32 1132462080#32) + Ideal.ofBits FTy.f32 897988541#32)
    * w b * (gate b * Ideal.logistic (gate b))

/-- The block the head stores: the normalized, gated readout of the recurrence. -/
theorem out_apply (hg : ∀ i a, g (ix2 i a) = ((g' (n0 + i) a : ℝ) : EReal))
    (hk : ∀ i a, k (ix2 i a) = ((k' (n0 + i) a : ℝ) : EReal)) (hq : ∀ i a, q (ix2 i a) = ((q' (n0 + i) a : ℝ) : EReal))
    (hv : ∀ i b, v (ix2 i b) = ((v' (n0 + i) b : ℝ) : EReal))
    (hs : ∀ a b, s (ix3 0 a b) = ((S g' k' v' n0 a b : ℝ) : EReal)) (w : Vec Ideal S1x256 .f32) (gate : Vec Ideal S128x256 .f32)
    (i : Fin 128) (b : Fin 256) :
    k0_pay15 gate (k0_pay13 k0_pay2 (k0_pay7 g q) (k0_pay8 g q) (k0_pay9 g k) v s) (k0_pay14 w) (ix2 i b)
      = gated (fun x => ((oRow g' k' q' v' (n0 + i) x : ℝ) : EReal)) (fun x => w (ix2 0 x)) (fun x => gate (ix2 i x)) b := by
  have h6 : ∀ a, k0_pay6 g (ix2 0 a) = k0_pay4 g (ix2 64 a) := fun a => by pointwise [k0_pay6]
  have h7 : ∀ j a, k0_pay7 g q (ix2 j a) = ((q' (n0 + j) a * Real.exp (L g' n0 (j + 1) a) : ℝ) : EReal) := fun j a => by
    pointwise [k0_pay7]
    simp only [cum_apply g' n0 g hg, hq, Ideal.exp_coe, ← EReal.coe_mul]
  have h8 : ∀ j a, k0_pay8 g q (ix2 j a) = ((q' (n0 + j) a * Real.exp (L g' n0 (j + 1) a - L g' n0 65 a) : ℝ) : EReal) := fun j a => by
    pointwise [k0_pay8]
    simp only [h6, cum_apply g' n0 g hg, hq, ← EReal.coe_sub, Ideal.exp_coe, ← EReal.coe_mul]
    rfl
  have h9 : ∀ j a, k0_pay9 g k (ix2 j a) = ((k' (n0 + j) a * Real.exp (L g' n0 65 a - L g' n0 (j + 1) a) : ℝ) : EReal) := fun j a => by
    pointwise [k0_pay9]
    simp only [h6, cum_apply g' n0 g hg, hk, ← EReal.coe_sub, Ideal.exp_coe, ← EReal.coe_mul]
    rfl
  have ho : ∀ b : Fin 256, (∑ x, k0_pay7 g q (ix2 i x) * s (ix3 0 x b) +
        ∑ x, Scalar.select (k0_pay2 (ix2 i x)) ((∑ x_1, k0_pay8 g q (ix2 i x_1) * k0_pay9 g k (ix2 x x_1)) * v (ix2 x b)) 0)
      = ((oRow g' k' q' v' (n0 + i) b : ℝ) : EReal) := fun b => by
    have hsel : ∀ (x : Fin 128) (r : ℝ), Scalar.select (k0_pay2 (ix2 i x)) (r : EReal) 0
        = ((if (x : ℕ) ≤ i then r else 0 : ℝ) : EReal) := fun x r => by
      rw [mask_apply]; split <;> simp [Scalar.select]
    simp only [h7, h8, h9, hs, hv, ← EReal.coe_mul, ← coe_sum, hsel, ← EReal.coe_add]
    rw [oRow, GlaMath.readout g' k' q' v' n0 i (L g' n0 65) b]
    rw [sum_cut (fun x => (∑ x_1, q' (n0 + i) x_1 * Real.exp (L g' n0 (i + 1) x_1 - L g' n0 65 x_1) *
      (k' (n0 + x) x_1 * Real.exp (L g' n0 65 x_1 - L g' n0 (x + 1) x_1))) * v' (n0 + x) b) i]
  pointwise [k0_pay15, k0_pay14, k0_pay13, k0_pay10, k0_pay11]
  simp only [ho]
  rfl

end

end Cert.Proof.GlaHead

end
-- ==== Proof.GlaCase.lean ====
module

public import proofs.«01_k».proof.Proof.Gen.KernelIdeal.Value
public import proofs.«01_k».proof.Proof.GlaHead
public import Idealize.ShloMosaic.Lib.Pipeline.ValueKit
public import Idealize.ShloMosaic.Lib.Pipeline.ReadBack

@[expose] public section

set_option maxRecDepth 16384

noncomputable section

namespace Cert.Proof.GlaCase

open Idealize.ShloMosaic Idealize.SL.Sem Cert.KernelIdeal Cert.KernelIdeal.Gen
open Cert.Proof.GlaMath (S L)

/-- Every element is a real number. -/
def IsFin {s : Shape} (X : s.Idx → EReal) : Prop := ∀ i, X i ≠ ⊤ ∧ X i ≠ ⊥

/-- Columns `off …` of a token array, as real sequences indexed by the token. -/
def seq {W : ℕ} (X : (⟨2, ![8192, W]⟩ : Shape).Idx → EReal) (off : ℕ) {w : ℕ} (n : ℕ) (a : Fin w) : ℝ :=
  if h : n < 8192 ∧ off + a.val < W then (X (ix2 ⟨n, h.1⟩ ⟨off + a.val, h.2⟩)).toReal else 0

theorem seq_coe {W : ℕ} (X : (⟨2, ![8192, W]⟩ : Shape).Idx → EReal) (hX : IsFin X) (off : ℕ) {w : ℕ} (n : ℕ) (a : Fin w)
    (i : Fin 8192) (j : Fin W) (hi : i.val = n) (hj : j.val = off + a.val) :
    X (ix2 i j) = ((seq X off n a : ℝ) : EReal) := by
  obtain ⟨i, hi'⟩ := i
  obtain ⟨j, hj'⟩ := j
  dsimp only at hi hj
  subst hi hj
  rw [seq, dif_pos ⟨hi', hj'⟩, EReal.coe_toReal (hX _).1 (hX _).2]

variable (m : (ℓ : Loc nD τ sig) → Buf (Elt Ideal) ℓ) (c : Dev nD)

/-- The kernel's six argument arrays. -/
abbrev aq : S8192x512.Idx → EReal := m ((c.tc : Thread nD τ).loc main_arg0)
abbrev ak : S8192x512.Idx → EReal := m ((c.tc : Thread nD τ).loc main_arg1)
abbrev av : S8192x1024.Idx → EReal := m ((c.tc : Thread nD τ).loc main_arg2)
abbrev ag : S8192x512.Idx → EReal := m ((c.tc : Thread nD τ).loc main_arg3)
abbrev agg : S8192x1024.Idx → EReal := m ((c.tc : Thread nD τ).loc main_arg4)
abbrev aw : S1x256.Idx → EReal := m ((c.tc : Thread nD τ).loc main_arg5)

theorem idx (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0]) t

theorem lt_row (t : Fin cfg0.N) (i : Fin 128) : 128 * t.val + i.val < 8192 := by
  have hN := lt_of_lt_of_eq t.isLt (show cfg0.N = 64 from N_0)
  omega

theorem blkq (t : Fin cfg0.N) (i : Fin 128) (a : Fin 512) : iblk m c 0 t (ix2 i a) = aq m c (ix2 ⟨128 * t.val + i.val, lt_row t i⟩ a) := by
  blk_ext [iblk, V, idx t]
theorem blkk (t : Fin cfg0.N) (i : Fin 128) (a : Fin 512) : iblk m c 1 t (ix2 i a) = ak m c (ix2 ⟨128 * t.val + i.val, lt_row t i⟩ a) := by
  blk_ext [iblk, V, idx t]
theorem blkv (t : Fin cfg0.N) (i : Fin 128) (a : Fin 1024) : iblk m c 2 t (ix2 i a) = av m c (ix2 ⟨128 * t.val + i.val, lt_row t i⟩ a) := by
  blk_ext [iblk, V, idx t]
theorem blkg (t : Fin cfg0.N) (i : Fin 128) (a : Fin 512) : iblk m c 3 t (ix2 i a) = ag m c (ix2 ⟨128 * t.val + i.val, lt_row t i⟩ a) := by
  blk_ext [iblk, V, idx t]
theorem blkgg (t : Fin cfg0.N) (i : Fin 128) (a : Fin 1024) : iblk m c 4 t (ix2 i a) = agg m c (ix2 ⟨128 * t.val + i.val, lt_row t i⟩ a) := by
  blk_ext [iblk, V, idx t]
theorem blkw (t : Fin cfg0.N) (a : Fin 256) : iblk m c 5 t (ix2 0 a) = aw m c (ix2 0 a) := by
  blk_ext [iblk, V, idx t]

/-- Head `h`'s state after `n` tokens. -/
def St (h n : ℕ) (a : Fin 128) (b : Fin 256) : ℝ := S (seq (ag m c) (128 * h)) (seq (ak m c) (128 * h)) (seq (av m c) (256 * h)) n a b

section
variable {m c}

theorem ldq (hf : IsFin (aq m c)) (t : Fin cfg0.N) (h : ℕ) (hh : h < 4) (o : ℕ) (ho : o = 128 * h) (inb) (i a : Fin 128) :
    View.ld (iblk m c 0 t) (Rect.unit (s := S128x512) ![0, o] ![128, 128] inb) (ix2 i a) = ((seq (aq m c) (128 * h) (128 * t.val + i.val) a : ℝ) : EReal) := by
  have e : 128 * h + a.val < 512 := by have := a.isLt; omega
  rw [← seq_coe (aq m c) hf (128 * h) (128 * t.val + i.val) a ⟨128 * t.val + i.val, lt_row t i⟩ ⟨128 * h + a.val, e⟩ rfl rfl, ← blkq]
  subst ho
  blk_ext [View.ld]
  · show 0 + 1 * i.val = i.val; omega
  · show 128 * h + 1 * a.val = _; omega

theorem ldk (hf : IsFin (ak m c)) (t : Fin cfg0.N) (h : ℕ) (hh : h < 4) (o : ℕ) (ho : o = 128 * h) (inb) (i a : Fin 128) :
    View.ld (iblk m c 1 t) (Rect.unit (s := S128x512) ![0, o] ![128, 128] inb) (ix2 i a) = ((seq (ak m c) (128 * h) (128 * t.val + i.val) a : ℝ) : EReal) := by
  have e : 128 * h + a.val < 512 := by have := a.isLt; omega
  rw [← seq_coe (ak m c) hf (128 * h) (128 * t.val + i.val) a ⟨128 * t.val + i.val, lt_row t i⟩ ⟨128 * h + a.val, e⟩ rfl rfl, ← blkk]
  subst ho
  blk_ext [View.ld]
  · show 0 + 1 * i.val = i.val; omega
  · show 128 * h + 1 * a.val = _; omega

theorem ldv (hf : IsFin (av m c)) (t : Fin cfg0.N) (h : ℕ) (hh : h < 4) (o : ℕ) (ho : o = 256 * h) (inb) (i : Fin 128) (b : Fin 256) :
    View.ld (iblk m c 2 t) (Rect.unit (s := S128x1024) ![0, o] ![128, 256] inb) (ix2 i b) = ((seq (av m c) (256 * h) (128 * t.val + i.val) b : ℝ) : EReal) := by
  have e : 256 * h + b.val < 1024 := by have := b.isLt; omega
  rw [← seq_coe (av m c) hf (256 * h) (128 * t.val + i.val) b ⟨128 * t.val + i.val, lt_row t i⟩ ⟨256 * h + b.val, e⟩ rfl rfl, ← blkv]
  subst ho
  blk_ext [View.ld]
  · show 0 + 1 * i.val = i.val; omega
  · show 256 * h + 1 * b.val = _; omega

theorem ldg (hf : IsFin (ag m c)) (t : Fin cfg0.N) (h : ℕ) (hh : h < 4) (o : ℕ) (ho : o = 128 * h) (inb) (i a : Fin 128) :
    View.ld (iblk m c 3 t) (Rect.unit (s := S128x512) ![0, o] ![128, 128] inb) (ix2 i a) = ((seq (ag m c) (128 * h) (128 * t.val + i.val) a : ℝ) : EReal) := by
  have e : 128 * h + a.val < 512 := by have := a.isLt; omega
  rw [← seq_coe (ag m c) hf (128 * h) (128 * t.val + i.val) a ⟨128 * t.val + i.val, lt_row t i⟩ ⟨128 * h + a.val, e⟩ rfl rfl, ← blkg]
  subst ho
  blk_ext [View.ld]
  · show 0 + 1 * i.val = i.val; omega
  · show 128 * h + 1 * a.val = _; omega

theorem ldgg (t : Fin cfg0.N) (h : ℕ) (hh : h < 4) (o : ℕ) (ho : o = 256 * h) (inb) (i : Fin 128) (b : Fin 256) :
    View.ld (iblk m c 4 t) (Rect.unit (s := S128x1024) ![0, o] ![128, 256] inb) (ix2 i b)
      = agg m c (ix2 ⟨128 * t.val + i.val, lt_row t i⟩ ⟨256 * h + b.val, by omega⟩) := by
  rw [← blkgg]
  subst ho
  blk_ext [View.ld]
  · show 0 + 1 * i.val = i.val; omega
  · show 256 * h + 1 * b.val = _; omega

theorem lds (X : Vec Ideal S4x128x256 .f32) (h : ℕ) (hh : h < 4) (inb) (a : Fin 128) (b : Fin 256) :
    View.ld X (Rect.unit (s := S4x128x256) ![h, 0, 0] ![1, 128, 256] inb) (ix3 0 a b) = X (ix3 ⟨h, hh⟩ a b) := by
  blk_ext [View.ld]
  · show h + 1 * 0 = h; omega
  · show 0 + 1 * a.val = _; omega
  · show 0 + 1 * b.val = _; omega

/-- The states of the four heads after `n` tokens, as one array. -/
def GS (m : (ℓ : Loc nD τ sig) → Buf (Elt Ideal) ℓ) (c : Dev nD) (n : ℕ) (y : S4x128x256.Idx) : EReal := ((St m c (y 0).val n (y 1) (y 2) : ℝ) : EReal)

/-- The state block head `h` stores at point `t`. -/
theorem state_piece (hg : IsFin (ag m c)) (hk : IsFin (ak m c)) (hv : IsFin (av m c)) (t : Fin cfg0.N) (h : ℕ) (hh : h < 4)
    (og ov : ℕ) (hog : og = 128 * h) (hov : ov = 256 * h) (ig iv is) (X : Vec Ideal S4x128x256 .f32) (hX : ∀ y, X y = GS m c (128 * t.val) y)
    (x : S1x128x256.Idx) :
    k0_pay12 (k0_pay4 (View.ld (iblk m c 3 t) (Rect.unit (s := S128x512) ![0, og] ![128, 128] ig)))
      (k0_pay5 (View.ld (iblk m c 3 t) (Rect.unit (s := S128x512) ![0, og] ![128, 128] ig)))
      (View.ld (iblk m c 1 t) (Rect.unit (s := S128x512) ![0, og] ![128, 128] ig))
      (View.ld (iblk m c 2 t) (Rect.unit (s := S128x1024) ![0, ov] ![128, 256] iv))
      (View.ld X (Rect.unit (s := S4x128x256) ![h, 0, 0] ![1, 128, 256] is)) x
      = GS m c (128 * (t.val + 1)) ((Rect.unit (s := S4x128x256) ![h, 0, 0] ![1, 128, 256] is).emb x) := by
  obtain ⟨z, a, b, rfl⟩ : ∃ (z : Fin 1) (a : Fin 128) (b : Fin 256), x = ix3 z a b := ⟨x 0, x 1, x 2, eq_ix3 x⟩
  obtain rfl : z = 0 := Fin.fin_one_eq_zero z
  have e : (Rect.unit (s := S4x128x256) ![h, 0, 0] ![1, 128, 256] is).emb (ix3 0 a b) = ix3 ⟨h, hh⟩ a b := by
    blk_ext []
  rw [e, GlaHead.state_apply (seq (ag m c) (128 * h)) (seq (ak m c) (128 * h)) (seq (av m c) (256 * h)) (128 * t.val) _ _ _ _
    (ldg hg t h hh og hog ig) (ldk hk t h hh og hog ig) (ldv hv t h hh ov hov iv) (fun a b => by rw [lds X h hh, hX]; rfl)]
  rfl

/-- The value of the output at a token and a column. -/
def GO (m : (ℓ : Loc nD τ sig) → Buf (Elt Ideal) ℓ) (c : Dev nD) (n h : ℕ) (b : Fin 256) : EReal :=
  GlaHead.gated (fun x => ((GlaHead.oRow (seq (ag m c) (128 * h)) (seq (ak m c) (128 * h)) (seq (aq m c) (128 * h)) (seq (av m c) (256 * h)) n x : ℝ) : EReal))
    (fun x => aw m c (ix2 0 x)) (fun x => if e : n < 8192 ∧ 256 * h + x.val < 1024 then agg m c (ix2 ⟨n, e.1⟩ ⟨256 * h + x.val, e.2⟩) else 0) b

/-- The output block of a point. -/
def GB (m : (ℓ : Loc nD τ sig) → Buf (Elt Ideal) ℓ) (c : Dev nD) (n : ℕ) (y : S128x1024.Idx) : EReal :=
  GO m c (n + (y 0).val) ((y 1).val / 256) ⟨(y 1).val % 256, Nat.mod_lt _ (by norm_num)⟩

/-- The four heads' stored blocks are one expression of their loads. -/
theorem out1 (w : Vec Ideal S1x256 .f32) (gate v : Vec Ideal S128x256 .f32) (g q k : Vec Ideal S128x128 .f32) (s : Vec Ideal S1x128x256 .f32) :
    k0_pay26 k0_pay2 w (k0_pay19 k0_pay3 g q) (k0_pay20 k0_pay3 g q) (k0_pay21 k0_pay3 g k) v s gate
      = k0_pay15 gate (k0_pay13 k0_pay2 (k0_pay7 g q) (k0_pay8 g q) (k0_pay9 g k) v s) (k0_pay14 w) := rfl
theorem out2 (w : Vec Ideal S1x256 .f32) (gate v : Vec Ideal S128x256 .f32) (g q k : Vec Ideal S128x128 .f32) (s : Vec Ideal S1x128x256 .f32) :
    k0_pay37 k0_pay2 w (k0_pay30 k0_pay3 g q) (k0_pay31 k0_pay3 g q) (k0_pay32 k0_pay3 g k) (k0_pay34 v) (k0_pay35 s) gate
      = k0_pay15 gate (k0_pay13 k0_pay2 (k0_pay7 g q) (k0_pay8 g q) (k0_pay9 g k) v s) (k0_pay14 w) := rfl
theorem out3 (w : Vec Ideal S1x256 .f32) (gate v : Vec Ideal S128x256 .f32) (g q k : Vec Ideal S128x128 .f32) (s : Vec Ideal S1x128x256 .f32) :
    k0_pay49 w (k0_pay42 k0_pay3 g (k0_pay38 g) (k0_pay39 g) q) (k0_pay44 v) (k0_pay46 k0_pay2 k0_pay3 g (k0_pay38 g) (k0_pay39 g) q k) (k0_pay47 s)
        (constant S128x256 FTy.f32 0#32) gate
      = k0_pay15 gate (k0_pay13 k0_pay2 (k0_pay7 g q) (k0_pay8 g q) (k0_pay9 g k) v s) (k0_pay14 w) := rfl

/-- The output block head `h` stores at point `t`. -/
theorem out_piece (hq : IsFin (aq m c)) (hg : IsFin (ag m c)) (hk : IsFin (ak m c)) (hv : IsFin (av m c)) (t : Fin cfg0.N) (h : ℕ) (hh : h < 4)
    (og ov : ℕ) (hog : og = 128 * h) (hov : ov = 256 * h) (ig iv is) (X : Vec Ideal S4x128x256 .f32) (hX : ∀ y, X y = GS m c (128 * t.val) y)
    (x : S128x256.Idx) :
    k0_pay15 (View.ld (iblk m c 4 t) (Rect.unit (s := S128x1024) ![0, ov] ![128, 256] iv))
      (k0_pay13 k0_pay2
        (k0_pay7 (View.ld (iblk m c 3 t) (Rect.unit (s := S128x512) ![0, og] ![128, 128] ig)) (View.ld (iblk m c 0 t) (Rect.unit (s := S128x512) ![0, og] ![128, 128] ig)))
        (k0_pay8 (View.ld (iblk m c 3 t) (Rect.unit (s := S128x512) ![0, og] ![128, 128] ig)) (View.ld (iblk m c 0 t) (Rect.unit (s := S128x512) ![0, og] ![128, 128] ig)))
        (k0_pay9 (View.ld (iblk m c 3 t) (Rect.unit (s := S128x512) ![0, og] ![128, 128] ig)) (View.ld (iblk m c 1 t) (Rect.unit (s := S128x512) ![0, og] ![128, 128] ig)))
        (View.ld (iblk m c 2 t) (Rect.unit (s := S128x1024) ![0, ov] ![128, 256] iv))
        (View.ld X (Rect.unit (s := S4x128x256) ![h, 0, 0] ![1, 128, 256] is)))
      (k0_pay14 (iblk m c 5 t)) x
      = GB m c (128 * t.val) ((Rect.unit (s := S128x1024) ![0, ov] ![128, 256] iv).emb x) := by
  obtain ⟨i, b, rfl⟩ : ∃ (i : Fin 128) (b : Fin 256), x = ix2 i b := ⟨x 0, x 1, eq_ix2 x⟩
  have e : (Rect.unit (s := S128x1024) ![0, ov] ![128, 256] iv).emb (ix2 i b) = ix2 (⟨i.val, i.isLt⟩ : Fin 128) (⟨256 * h + b.val, by omega⟩ : Fin 1024) := by
    subst hov
    blk_ext []
  rw [e, GlaHead.out_apply (seq (ag m c) (128 * h)) (seq (ak m c) (128 * h)) (seq (aq m c) (128 * h)) (seq (av m c) (256 * h)) (128 * t.val) _ _ _ _ _
    (ldg hg t h hh og hog ig) (ldk hk t h hh og hog ig) (ldq hq t h hh og hog ig) (ldv hv t h hh ov hov iv) (fun a b => by rw [lds X h hh, hX]; rfl)]
  have h1 : (256 * h + b.val) / 256 = h := by have := b.isLt; omega
  have h2 : (256 * h + b.val) % 256 = b.val := by have := b.isLt; omega
  show _ = GO m c (128 * t.val + i.val) ((256 * h + b.val) / 256) ⟨(256 * h + b.val) % 256, _⟩
  simp only [h1, h2, GO]
  congr 1
  · funext x; rw [blkw]
  · funext x
    rw [ldgg t h hh ov hov iv, dif_pos ⟨lt_row t i, by have := x.isLt; omega⟩]

/-- Four stores that are blocks of `G` and cover the buffer, over any earlier ones, leave `G`. -/
theorem canon4 {s : Shape} (G : s.Idx → Elt Ideal .f32) (p3 p2 p1 p0 : View.Piece (Elt Ideal) s .f32) (L' : List (View.Piece (Elt Ideal) s .f32))
    (h3 : ∀ x, p3.2 x = G (p3.1.emb x)) (h2 : ∀ x, p2.2 x = G (p2.1.emb x)) (h1 : ∀ x, p1.2 x = G (p1.1.emb x)) (h0 : ∀ x, p0.2 x = G (p0.1.emb x))
    (y : s.Idx) (hc : ∃ p ∈ [p3, p2, p1, p0], y ∈ p.1.set) : View.canon (p3 :: p2 :: p1 :: p0 :: L') y = G y :=
  View.canon_append_of_piecesOf G L' [p3, p2, p1, p0] ⟨h3, h2, h1, h0, trivial⟩ y hc

/-- The state before any token is zero, as the first point stores it. -/
theorem zero_state (y : S4x128x256.Idx) : k0_pay1 (F := Ideal) y = GS m c (128 * 0) y := by
  have h : k0_pay1 (F := Ideal) y = 0 := by
    idx_vars y
    pointwise [k0_pay1]
  rw [h]
  exact EReal.coe_zero.symm

theorem s_A (hg : IsFin (ag m c)) (hk : IsFin (ak m c)) (hv : IsFin (av m c)) (t : Fin cfg0.N) (h0 : t.val % 64 = 0) (h1 : ¬t.val % 64 = 63)
    (hX : ∀ y, k0_pay1 (F := Ideal) y = GS m c (128 * t.val) y) (x : S4x128x256.Idx) :
    (outsAt0 m c t.val t.isLt).2.2 x = GS m c (128 * (t.val + 1)) x := by
  rw [outsAt0_A m c t h0 h1]
  dsimp only
  frame_open
  simp (disch := decide) only [↓ View.readCov_skip, ↓ View.readCov_cons_toLoadRect, ↓ View.readCov_fill]
  frame_out
  refine canon4 (GS m c (128 * (t.val + 1))) _ _ _ _ _ ?_ ?_ ?_ ?_ x ?_
  · exact state_piece hg hk hv t 3 (by norm_num) 384 768 rfl rfl _ _ _ _ hX
  · exact state_piece hg hk hv t 2 (by norm_num) 256 512 rfl rfl _ _ _ _ hX
  · exact state_piece hg hk hv t 1 (by norm_num) 128 256 rfl rfl _ _ _ _ hX
  · exact state_piece hg hk hv t 0 (by norm_num) 0 0 rfl rfl _ _ _ _ hX
  · exact View.cover_of_tiledL _ ![1, 128, 256] (by sl_kernel_rfl) x

theorem s_B (hg : IsFin (ag m c)) (hk : IsFin (ak m c)) (hv : IsFin (av m c)) (t : Fin cfg0.N) (h0 : ¬ t.val % 64 = 0) (h1 : ¬t.val % 64 = 63)
    (hX : ∀ y, (outsAt0 m c (t.val - 1) (by omega)).2.2 y = GS m c (128 * t.val) y) (x : S4x128x256.Idx) :
    (outsAt0 m c t.val t.isLt).2.2 x = GS m c (128 * (t.val + 1)) x := by
  rw [outsAt0_B m c t h0 h1]
  dsimp only
  frame_open
  simp (disch := decide) only [↓ View.readCov_skip, ↓ View.readCov_cons_toLoadRect, ↓ View.readCov_fill]
  frame_out
  simp only [read_unread_whole]
  refine canon4 (GS m c (128 * (t.val + 1))) _ _ _ _ [] ?_ ?_ ?_ ?_ x ?_
  · exact state_piece hg hk hv t 3 (by norm_num) 384 768 rfl rfl _ _ _ _ hX
  · exact state_piece hg hk hv t 2 (by norm_num) 256 512 rfl rfl _ _ _ _ hX
  · exact state_piece hg hk hv t 1 (by norm_num) 128 256 rfl rfl _ _ _ _ hX
  · exact state_piece hg hk hv t 0 (by norm_num) 0 0 rfl rfl _ _ _ _ hX
  · exact View.cover_of_tiledL _ ![1, 128, 256] (by sl_kernel_rfl) x

theorem s_C7 (hg : IsFin (ag m c)) (hk : IsFin (ak m c)) (hv : IsFin (av m c)) (t : Fin cfg0.N) (h0 : ¬ t.val % 64 = 0) (h1 : t.val % 64 = 63)
    (hX : ∀ y, (outsAt0 m c (t.val - 1) (by omega)).2.2 y = GS m c (128 * t.val) y) (x : S4x128x256.Idx) :
    (outsAt0 m c t.val t.isLt).2.1 x = GS m c (128 * (t.val + 1)) x := by
  rw [outsAt0_C m c t h0 h1]
  dsimp only
  frame_open
  simp (disch := decide) only [↓ View.readCov_skip, ↓ View.readCov_cons_toLoadRect, ↓ View.readCov_fill]
  frame_out
  simp only [read_unread_whole]
  rw [View.readCov_eq_canon']
  have e : (Rect.unit (s := S4x128x256) ![0, 0, 0] ![4, 128, 256] inb_S4x128x256_S4x128x256_0_0_0).toLoadRect.idx x = x := by
    funext a
    refine Fin.ext ?_
    fin_cases a <;> (show 0 + 1 * _ = _; omega)
  show View.canon _ ((Rect.unit (s := S4x128x256) ![0, 0, 0] ![4, 128, 256] inb_S4x128x256_S4x128x256_0_0_0).toLoadRect.idx x) = _
  rw [e]
  refine canon4 (GS m c (128 * (t.val + 1))) _ _ _ _ [] ?_ ?_ ?_ ?_ x ?_
  · exact state_piece hg hk hv t 3 (by norm_num) 384 768 rfl rfl _ _ _ _ hX
  · exact state_piece hg hk hv t 2 (by norm_num) 256 512 rfl rfl _ _ _ _ hX
  · exact state_piece hg hk hv t 1 (by norm_num) 128 256 rfl rfl _ _ _ _ hX
  · exact state_piece hg hk hv t 0 (by norm_num) 0 0 rfl rfl _ _ _ _ hX
  · exact View.cover_of_tiledL _ ![1, 128, 256] (by sl_kernel_rfl) x

set_option maxHeartbeats 2000000 in
theorem o_A (hq : IsFin (aq m c)) (hg : IsFin (ag m c)) (hk : IsFin (ak m c)) (hv : IsFin (av m c)) (t : Fin cfg0.N) (h0 : t.val % 64 = 0) (h1 : ¬t.val % 64 = 63)
    (hX : ∀ y, k0_pay1 (F := Ideal) y = GS m c (128 * t.val) y) (x : S128x1024.Idx) :
    (outsAt0 m c t.val t.isLt).1 x = GB m c (128 * t.val) x := by
  rw [outsAt0_A m c t h0 h1]
  dsimp only
  frame_open
  simp (disch := decide) only [↓ View.readCov_skip, ↓ View.readCov_cons_toLoadRect, ↓ View.readCov_fill]
  frame_out
  refine canon4 (GB m c (128 * t.val)) _ _ _ _ [] ?_ ?_ ?_ ?_ x ?_
  · intro x; dsimp only; rw [out3]; exact out_piece hq hg hk hv t 3 (by norm_num) 384 768 rfl rfl _ _ _ _ hX x
  · intro x; dsimp only; rw [out2]; exact out_piece hq hg hk hv t 2 (by norm_num) 256 512 rfl rfl _ _ _ _ hX x
  · intro x; dsimp only; rw [out1]; exact out_piece hq hg hk hv t 1 (by norm_num) 128 256 rfl rfl _ _ _ _ hX x
  · exact out_piece hq hg hk hv t 0 (by norm_num) 0 0 rfl rfl _ _ _ _ hX
  · exact View.cover_of_tiledL _ ![128, 256] (by sl_kernel_rfl) x

set_option maxHeartbeats 2000000 in
theorem o_B (hq : IsFin (aq m c)) (hg : IsFin (ag m c)) (hk : IsFin (ak m c)) (hv : IsFin (av m c)) (t : Fin cfg0.N) (h0 : ¬ t.val % 64 = 0) (h1 : ¬t.val % 64 = 63)
    (hX : ∀ y, (outsAt0 m c (t.val - 1) (by omega)).2.2 y = GS m c (128 * t.val) y) (x : S128x1024.Idx) :
    (outsAt0 m c t.val t.isLt).1 x = GB m c (128 * t.val) x := by
  rw [outsAt0_B m c t h0 h1]
  dsimp only
  frame_open
  simp (disch := decide) only [↓ View.readCov_skip, ↓ View.readCov_cons_toLoadRect, ↓ View.readCov_fill]
  frame_out
  simp only [read_unread_whole]
  refine canon4 (GB m c (128 * t.val)) _ _ _ _ [] ?_ ?_ ?_ ?_ x ?_
  · intro x; dsimp only; rw [out3]; exact out_piece hq hg hk hv t 3 (by norm_num) 384 768 rfl rfl _ _ _ _ hX x
  · intro x; dsimp only; rw [out2]; exact out_piece hq hg hk hv t 2 (by norm_num) 256 512 rfl rfl _ _ _ _ hX x
  · intro x; dsimp only; rw [out1]; exact out_piece hq hg hk hv t 1 (by norm_num) 128 256 rfl rfl _ _ _ _ hX x
  · exact out_piece hq hg hk hv t 0 (by norm_num) 0 0 rfl rfl _ _ _ _ hX
  · exact View.cover_of_tiledL _ ![128, 256] (by sl_kernel_rfl) x

set_option maxHeartbeats 2000000 in
theorem o_C (hq : IsFin (aq m c)) (hg : IsFin (ag m c)) (hk : IsFin (ak m c)) (hv : IsFin (av m c)) (t : Fin cfg0.N) (h0 : ¬ t.val % 64 = 0) (h1 : t.val % 64 = 63)
    (hX : ∀ y, (outsAt0 m c (t.val - 1) (by omega)).2.2 y = GS m c (128 * t.val) y) (x : S128x1024.Idx) :
    (outsAt0 m c t.val t.isLt).1 x = GB m c (128 * t.val) x := by
  rw [outsAt0_C m c t h0 h1]
  dsimp only
  frame_open
  simp (disch := decide) only [↓ View.readCov_skip, ↓ View.readCov_cons_toLoadRect, ↓ View.readCov_fill]
  frame_out
  simp only [read_unread_whole]
  refine canon4 (GB m c (128 * t.val)) _ _ _ _ [] ?_ ?_ ?_ ?_ x ?_
  · intro x; dsimp only; rw [out3]; exact out_piece hq hg hk hv t 3 (by norm_num) 384 768 rfl rfl _ _ _ _ hX x
  · intro x; dsimp only; rw [out2]; exact out_piece hq hg hk hv t 2 (by norm_num) 256 512 rfl rfl _ _ _ _ hX x
  · intro x; dsimp only; rw [out1]; exact out_piece hq hg hk hv t 1 (by norm_num) 128 256 rfl rfl _ _ _ _ hX x
  · exact out_piece hq hg hk hv t 0 (by norm_num) 0 0 rfl rfl _ _ _ _ hX
  · exact View.cover_of_tiledL _ ![128, 256] (by sl_kernel_rfl) x

/-- After point `t` the scratch holds the four states after `128 (t + 1)` tokens. -/
theorem inv (hg : IsFin (ag m c)) (hk : IsFin (ak m c)) (hv : IsFin (av m c)) : ∀ (n : ℕ) (hn : n < cfg0.N), n < 63 →
    ∀ y, (outsAt0 m c n hn).2.2 y = GS m c (128 * (n + 1)) y
  | 0, hn, _ => s_A hg hk hv ⟨0, hn⟩ rfl (by show ¬ 0 % 64 = 63; omega) zero_state
  | n + 1, hn, h => s_B hg hk hv ⟨n + 1, hn⟩ (by show ¬ (n + 1) % 64 = 0; omega) (by show ¬ (n + 1) % 64 = 63; omega)
      (inv hg hk hv n (by omega) (by omega))

/-- The block point `t` writes of the output. -/
theorem out_block (hq : IsFin (aq m c)) (hg : IsFin (ag m c)) (hk : IsFin (ak m c)) (hv : IsFin (av m c)) : ∀ (n : ℕ) (hn : n < cfg0.N) (y),
    (outsAt0 m c n hn).1 y = GB m c (128 * n) y
  | 0, hn, y => o_A hq hg hk hv ⟨0, hn⟩ rfl (by show ¬ 0 % 64 = 63; omega) zero_state y
  | n + 1, hn, y => by
    have hN : n + 1 < 64 := lt_of_lt_of_eq hn N_0
    by_cases h : n + 1 = 63
    · exact o_C hq hg hk hv ⟨n + 1, hn⟩ (by show ¬ (n + 1) % 64 = 0; omega) (by show (n + 1) % 64 = 63; omega)
        (inv hg hk hv n (by omega) (by omega)) y
    · exact o_B hq hg hk hv ⟨n + 1, hn⟩ (by show ¬ (n + 1) % 64 = 0; omega) (by show ¬ (n + 1) % 64 = 63; omega)
        (inv hg hk hv n (by omega) (by omega)) y

/-- The second result: the four states after all tokens. -/
theorem G7_apply (hg : IsFin (ag m c)) (hk : IsFin (ak m c)) (hv : IsFin (av m c)) (y : S4x128x256.Idx) :
    Value.G7 m c y = GS m c 8192 y := by
  rw [Value.G7_last, ← Value.outsAt0_sweep]
  exact s_C7 hg hk hv ⟨63, lt_of_lt_of_eq (by decide) N_0.symm⟩ (by decide) (by decide)
    (inv hg hk hv 62 (lt_of_lt_of_eq (by decide) N_0.symm) (by omega)) y

/-- The first result at a token and a column. -/
theorem G6_apply (hq : IsFin (aq m c)) (hg : IsFin (ag m c)) (hk : IsFin (ak m c)) (hv : IsFin (av m c)) (i : Fin 8192) (j : Fin 1024) :
    Value.G6 m c (ix2 i j) = GO m c i.val (j.val / 256) ⟨j.val % 256, Nat.mod_lt _ (by norm_num)⟩ := by
  have hr : Value.run6Of (ix2 i j) = i.val / 128 := by
    show 1 * (i.val / 128 - 0) + 1 * (j.val / 1024 - 0) = _
    omega
  have hp : Value.pt6Of (ix2 i j) < cfg0.N := by
    rw [show cfg0.N = 64 from N_0]
    show Value.run6Of (ix2 i j) < 64
    omega
  rw [Value.G6, dif_pos hp, ← Value.outsAt0_sweep (hn := hp), out_block hq hg hk hv]
  show GO m c (128 * Value.run6Of (ix2 i j) + i.val % 128) ((j.val % 1024) / 256) ⟨(j.val % 1024) % 256, _⟩ = _
  have e1 : 128 * Value.run6Of (ix2 i j) + i.val % 128 = i.val := by omega
  have e2 : j.val % 1024 = j.val := by omega
  simp only [e1, e2]

end
end Cert.Proof.GlaCase
end
-- ==== Proof.GlaRef.lean ====
/- The reference's token-by-token recurrence at the exact instance, its loop's carried arrays after `n` trips and its two results at an index. -/
module

public import proofs.«01_k».proof.Proof.Gen.ReferenceIdeal.Run
public import Idealize.ShloMosaic.Lib.Pointwise
public import Idealize.ShloMosaic.Lib.DynamicIndex
public import proofs.«01_k».proof.Proof.GlaCase

@[expose] public section

set_option maxRecDepth 16384

noncomputable section

namespace Cert.Proof.GlaRef

open Idealize.ShloMosaic Idealize.SL.Sem Cert.ReferenceIdeal Cert.ReferenceIdeal.Gen Cert.ReferenceIdeal.Value
open Idealize.ShloMosaic.StableHlo
open Cert.Proof.GlaMath (S L)
open Cert.Proof.GlaCase (IsFin seq seq_coe)

/-- The start of a trip's slices: the counter, and zero on the other axes. -/
def start (ctr : IVec S_ 32) : Fin 3 → Int := (fun k => (((![ctr, constantI S_ 32 0#32, constantI S_ 32 0#32] : Fin 3 → (⟨S_, .i32⟩ : BufTy).Contents (Elt Ideal))) k (Shape.Idx.first h_S_)).toInt)

theorem start_eq (n : ℕ) (hn : n < 8192) : ∀ a, start (fun _ => BitVec.ofNat 32 n) a = ((![n, 0, 0] : Fin 3 → ℕ) a : ℕ) := by
  intro a
  fin_cases a
  · exact toInt_ofNat_of_lt (by omega)
  · rfl
  · rfl

/-- One trip's new state. -/
def stepS (xg xk : FVec Ideal S8192x4x128 .f32) (xv : FVec Ideal S8192x4x256 .f32) (ctr : IVec S_ 32) (s : FVec Ideal S4x128x256 .f32) : FVec Ideal S4x128x256 .f32 :=
  addf (F := Ideal) (φ := .f32) (mulf (broadcastInDim S4x128x256 ![0, 1, 2] bcast_S4x128x1_S4x128x256_0_1_2 (broadcastInDim S4x128x1 ![0, 1] bcast_S4x128_S4x128x1_0_1 (Host.exp (shapeCast S4x128 (Host.dynamicSlice S1x4x128 xg (start ctr) sliceFits_S8192x4x128_S1x4x128) shapeCasts_S1x4x128_S4x128)))) s) (mulf (broadcastInDim S4x128x256 ![0, 1, 2] bcast_S4x128x1_S4x128x256_0_1_2 (broadcastInDim S4x128x1 ![0, 1] bcast_S4x128_S4x128x1_0_1 (shapeCast S4x128 (Host.dynamicSlice S1x4x128 xk (start ctr) sliceFits_S8192x4x128_S1x4x128) shapeCasts_S1x4x128_S4x128))) (broadcastInDim S4x128x256 ![0, 1, 2] bcast_S4x1x256_S4x128x256_0_1_2 (broadcastInDim S4x1x256 ![0, 2] bcast_S4x256_S4x1x256_0_2 (shapeCast S4x256 (Host.dynamicSlice S1x4x256 xv (start ctr) sliceFits_S8192x4x256_S1x4x256) shapeCasts_S1x4x256_S4x256))))

/-- One trip's stacked output. -/
def stepO (xq : FVec Ideal S8192x4x128 .f32) (ctr : IVec S_ 32) (s' : FVec Ideal S4x128x256 .f32) (o : FVec Ideal S8192x4x256 .f32) : FVec Ideal S8192x4x256 .f32 :=
  id (Host.dynamicUpdateSlice o (broadcastInDim S1x4x256 ![1, 2] bcast_S4x256_S1x4x256_1_2 (Host.dotGeneral dot_S4x128_S4x128x256_S4x256_1_1_n_2_0_0 none (shapeCast S4x128 (Host.dynamicSlice S1x4x128 xq (start ctr) sliceFits_S8192x4x128_S1x4x128) shapeCasts_S1x4x128_S4x128) s')) (start ctr) updateFits_S8192x4x256_S1x4x256)

theorem step5 (V : Valuation τ sig (Elt Ideal)) : step_main_v6_5 V = stepS (V (Proc.devRef .tc main_v6_3)) (V (Proc.devRef .tc main_v6_1))
    (V (Proc.devRef .tc main_v6_2)) (V (Proc.devRef .tc main_v6_4)) (V (Proc.devRef .tc main_v6_5)) := rfl
theorem step6 (V : Valuation τ sig (Elt Ideal)) : step_main_v6_6 V = stepO (V (Proc.devRef .tc main_v6_0)) (V (Proc.devRef .tc main_v6_4))
    (step_main_v6_5 V) (V (Proc.devRef .tc main_v6_6)) := rfl

theorem slices1 (n : ℕ) (hn : n < 8192) : S8192x4x128.Slices ![n, 0, 0] S1x4x128 := ⟨rfl, fun a => by
  fin_cases a
  · show n + 1 ≤ 8192; omega
  · show 0 + 4 ≤ 4; omega
  · show 0 + 128 ≤ 128; omega⟩
theorem slices2 (n : ℕ) (hn : n < 8192) : S8192x4x256.Slices ![n, 0, 0] S1x4x256 := ⟨rfl, fun a => by
  fin_cases a
  · show n + 1 ≤ 8192; omega
  · show 0 + 4 ≤ 4; omega
  · show 0 + 256 ≤ 256; omega⟩

/-- A trip's slice at an index. -/
theorem slice1 (n : ℕ) (hn : n < 8192) (x : FVec Ideal S8192x4x128 .f32) (h : Fin 4) (a : Fin 128) :
    Host.dynamicSlice S1x4x128 x (start (fun _ => BitVec.ofNat 32 n)) sliceFits_S8192x4x128_S1x4x128 (ix3 0 h a) = x (ix3 ⟨n, hn⟩ h a) := by
  rw [Host.dynamicSlice_eq_extractStridedSlice _ _ _ ![n, 0, 0] _ (slices1 n hn) (start_eq n hn)]
  pointwise
theorem slice2 (n : ℕ) (hn : n < 8192) (x : FVec Ideal S8192x4x256 .f32) (h : Fin 4) (b : Fin 256) :
    Host.dynamicSlice S1x4x256 x (start (fun _ => BitVec.ofNat 32 n)) sliceFits_S8192x4x256_S1x4x256 (ix3 0 h b) = x (ix3 ⟨n, hn⟩ h b) := by
  rw [Host.dynamicSlice_eq_extractStridedSlice _ _ _ ![n, 0, 0] _ (slices2 n hn) (start_eq n hn)]
  pointwise

theorem stepS_apply (n : ℕ) (hn : n < 8192) (xg xk : FVec Ideal S8192x4x128 .f32) (xv : FVec Ideal S8192x4x256 .f32) (s : FVec Ideal S4x128x256 .f32)
    (h : Fin 4) (a : Fin 128) (b : Fin 256) :
    stepS xg xk xv (fun _ => BitVec.ofNat 32 n) s (ix3 h a b)
      = Ideal.exp (xg (ix3 ⟨n, hn⟩ h a)) * s (ix3 h a b) + xk (ix3 ⟨n, hn⟩ h a) * xv (ix3 ⟨n, hn⟩ h b) := by
  rw [← slice1 n hn xg, ← slice1 n hn xk, ← slice2 n hn xv]
  unfold stepS
  generalize Host.dynamicSlice S1x4x128 xg _ _ = yg
  generalize Host.dynamicSlice S1x4x128 xk _ _ = yk
  generalize Host.dynamicSlice S1x4x256 xv _ _ = yv
  pointwise

theorem stepO_apply (n : ℕ) (hn : n < 8192) (xq : FVec Ideal S8192x4x128 .f32) (s' : FVec Ideal S4x128x256 .f32) (o : FVec Ideal S8192x4x256 .f32)
    (i : Fin 8192) (h : Fin 4) (b : Fin 256) :
    stepO xq (fun _ => BitVec.ofNat 32 n) s' o (ix3 i h b)
      = if i.val = n then ∑ a : Fin 128, xq (ix3 ⟨n, hn⟩ h a) * s' (ix3 h a b) else o (ix3 i h b) := by
  simp only [← slice1 n hn xq]
  unfold stepO
  generalize Host.dynamicSlice S1x4x128 xq _ _ = yq
  rw [id_eq, Host.dynamicUpdateSlice_eq_updateSlice _ _ _ _ ![n, 0, 0] (fun a => by
    rw [start_eq n hn a]
    fin_cases a
    · show (min (max ((n : ℕ) : Int) 0) ((8192 - 1 : ℕ) : Int)).toNat = n
      omega
    · rfl
    · rfl) (slices2 n hn)]
  pointwise
  by_cases e : i.val = n
  · rw [dif_pos (by omega), if_pos e]
  · rw [dif_neg (by omega), if_neg e]

/-- Columns split into heads. -/
theorem cast1 (x : FVec Ideal S8192x512 .f32) (n : Fin 8192) (h : Fin 4) (a : Fin 128) :
    shapeCast S8192x4x128 x shapeCasts_S8192x512_S8192x4x128 (ix3 n h a) = x (ix2 n ⟨128 * h.val + a.val, by omega⟩) := by
  have e : h.val * 128 + a.val = 128 * h.val + a.val := by omega
  pointwise
  simp only [e]
theorem cast2 (x : FVec Ideal S8192x1024 .f32) (n : Fin 8192) (h : Fin 4) (b : Fin 256) :
    shapeCast S8192x4x256 x shapeCasts_S8192x1024_S8192x4x256 (ix3 n h b) = x (ix2 n ⟨256 * h.val + b.val, by omega⟩) := by
  have e : h.val * 256 + b.val = 256 * h.val + b.val := by omega
  pointwise
  simp only [e]

variable (m : (ℓ : Loc nD τ sig) → Buf (Elt Ideal) ℓ) (c : Dev nD)

/-- The loop's carried arrays before its first trip, at an index. -/
theorem entry_q (n : Fin 8192) (h : Fin 4) (a : Fin 128) : (entryContents preI m c (Proc.devRef .tc main_v6_0) : FVec Ideal S8192x4x128 .f32) (ix3 n h a)
    = (m ((c.tc : Thread nD τ).loc main_arg0) : FVec Ideal S8192x512 .f32) (ix2 n ⟨128 * h.val + a.val, by omega⟩) := by
  simp only [entryContents, afterL_cons, afterL_nil]
  after_reads_simp
  exact cast1 _ n h a
theorem entry_k (n : Fin 8192) (h : Fin 4) (a : Fin 128) : (entryContents preI m c (Proc.devRef .tc main_v6_1) : FVec Ideal S8192x4x128 .f32) (ix3 n h a)
    = (m ((c.tc : Thread nD τ).loc main_arg1) : FVec Ideal S8192x512 .f32) (ix2 n ⟨128 * h.val + a.val, by omega⟩) := by
  simp only [entryContents, afterL_cons, afterL_nil]
  after_reads_simp
  exact cast1 _ n h a
theorem entry_v (n : Fin 8192) (h : Fin 4) (b : Fin 256) : (entryContents preI m c (Proc.devRef .tc main_v6_2) : FVec Ideal S8192x4x256 .f32) (ix3 n h b)
    = (m ((c.tc : Thread nD τ).loc main_arg2) : FVec Ideal S8192x1024 .f32) (ix2 n ⟨256 * h.val + b.val, by omega⟩) := by
  simp only [entryContents, afterL_cons, afterL_nil]
  after_reads_simp
  exact cast2 _ n h b
theorem entry_g (n : Fin 8192) (h : Fin 4) (a : Fin 128) : (entryContents preI m c (Proc.devRef .tc main_v6_3) : FVec Ideal S8192x4x128 .f32) (ix3 n h a)
    = (m ((c.tc : Thread nD τ).loc main_arg3) : FVec Ideal S8192x512 .f32) (ix2 n ⟨128 * h.val + a.val, by omega⟩) := by
  simp only [entryContents, afterL_cons, afterL_nil]
  after_reads_simp
  exact cast1 _ n h a
theorem entry_s (h : Fin 4) (a : Fin 128) (b : Fin 256) (X : FVec Ideal S4x128x256 .f32) (hX : X = entryContents preI m c (Proc.devRef .tc main_v6_5)) :
    X (ix3 h a b) = 0 := by
  have e : X = broadcastInDim S4x128x256 ![] bcast_S_S4x128x256 (constant (F := Ideal) S_ .f32 0x00000000#32) := by
    rw [hX]
    simp only [entryContents, afterL_cons, afterL_nil]
    after_reads_simp
    rfl
  rw [e]
  pointwise

/-- The four heads' columns of the arguments. -/
abbrev q' (h : ℕ) : ℕ → Fin 128 → ℝ := seq (m ((c.tc : Thread nD τ).loc main_arg0) : FVec Ideal S8192x512 .f32) (128 * h)
abbrev k' (h : ℕ) : ℕ → Fin 128 → ℝ := seq (m ((c.tc : Thread nD τ).loc main_arg1) : FVec Ideal S8192x512 .f32) (128 * h)
abbrev v' (h : ℕ) : ℕ → Fin 256 → ℝ := seq (m ((c.tc : Thread nD τ).loc main_arg2) : FVec Ideal S8192x1024 .f32) (256 * h)
abbrev g' (h : ℕ) : ℕ → Fin 128 → ℝ := seq (m ((c.tc : Thread nD τ).loc main_arg3) : FVec Ideal S8192x512 .f32) (128 * h)

variable {m c}

/-- The carried arrays after `n` trips: the counter, the state, and the outputs of the tokens read so far. -/
theorem trips (hq : IsFin (m ((c.tc : Thread nD τ).loc main_arg0) : FVec Ideal S8192x512 .f32)) (hk : IsFin (m ((c.tc : Thread nD τ).loc main_arg1) : FVec Ideal S8192x512 .f32))
    (hv : IsFin (m ((c.tc : Thread nD τ).loc main_arg2) : FVec Ideal S8192x1024 .f32)) (hg : IsFin (m ((c.tc : Thread nD τ).loc main_arg3) : FVec Ideal S8192x512 .f32)) :
    ∀ n, n ≤ 8192 →
      (STEP^[n] (entryContents preI m c)) (Proc.devRef .tc main_v6_0) = entryContents preI m c (Proc.devRef .tc main_v6_0)
      ∧ (STEP^[n] (entryContents preI m c)) (Proc.devRef .tc main_v6_1) = entryContents preI m c (Proc.devRef .tc main_v6_1)
      ∧ (STEP^[n] (entryContents preI m c)) (Proc.devRef .tc main_v6_2) = entryContents preI m c (Proc.devRef .tc main_v6_2)
      ∧ (STEP^[n] (entryContents preI m c)) (Proc.devRef .tc main_v6_3) = entryContents preI m c (Proc.devRef .tc main_v6_3)
      ∧ (STEP^[n] (entryContents preI m c)) (Proc.devRef .tc main_v6_4) = (fun _ => BitVec.ofNat 32 n)
      ∧ (∀ (h : Fin 4) (a : Fin 128) (b : Fin 256), ((STEP^[n] (entryContents preI m c)) (Proc.devRef .tc main_v6_5) : FVec Ideal S4x128x256 .f32) (ix3 h a b)
          = ((S (g' m c h) (k' m c h) (v' m c h) n a b : ℝ) : EReal))
      ∧ (∀ (i : Fin 8192) (h : Fin 4) (b : Fin 256), i.val < n → ((STEP^[n] (entryContents preI m c)) (Proc.devRef .tc main_v6_6) : FVec Ideal S8192x4x256 .f32) (ix3 i h b)
          = ((GlaHead.oRow (g' m c h) (k' m c h) (q' m c h) (v' m c h) i b : ℝ) : EReal))
  | 0, _ => ⟨rfl, rfl, rfl, rfl, ctr_entry m c, fun h a b => (entry_s m c h a b _ rfl).trans EReal.coe_zero.symm, fun i h b hi => absurd hi (Nat.not_lt_zero _)⟩
  | n + 1, hn => by
    obtain ⟨i0, i1, i2, i3, i4, i5, i6⟩ := trips hq hk hv hg n (by omega)
    have hn' : n < 8192 := by omega
    have hs : ∀ (h : Fin 4) (a : Fin 128) (b : Fin 256), (step_main_v6_5 (STEP^[n] (entryContents preI m c)) : FVec Ideal S4x128x256 .f32) (ix3 h a b)
          = ((S (g' m c h) (k' m c h) (v' m c h) (n + 1) a b : ℝ) : EReal) := by
      intro h a b
      rw [step5, i1, i2, i3, i4]
      refine (stepS_apply n hn' _ _ _ _ h a b).trans ?_
      rw [i5, entry_g, entry_k, entry_v,
        seq_coe _ hg (128 * h.val) n a _ _ rfl rfl, seq_coe _ hk (128 * h.val) n a _ _ rfl rfl, seq_coe _ hv (256 * h.val) n b _ _ rfl rfl,
        Ideal.exp_coe, ← EReal.coe_mul, ← EReal.coe_mul, ← EReal.coe_add]
      rfl
    rw [Function.iterate_succ_apply']
    refine ⟨(STEP_main_v6_0 _).trans i0, (STEP_main_v6_1 _).trans i1, (STEP_main_v6_2 _).trans i2, (STEP_main_v6_3 _).trans i3, ?_, ?_, ?_⟩
    · rw [STEP_main_v6_4, step_main_v6_4, i4]
      funext j
      show BitVec.ofNat 32 n + 1#32 = BitVec.ofNat 32 (n + 1)
      rw [BitVec.ofNat_add]
    · intro h a b
      rw [STEP_main_v6_5, hs]
    · intro i h b hi
      rw [STEP_main_v6_6, step6, i0, i4]
      refine (stepO_apply n hn' _ _ _ i h b).trans ?_
      by_cases e : i.val = n
      · rw [if_pos e]
        refine (Finset.sum_congr rfl fun a _ => congrArg₂ (fun x y : EReal => x * y) ((entry_q m c ⟨n, hn'⟩ h a).trans (seq_coe _ hq (128 * h.val) n a _ _ rfl rfl)) (hs h a b)).trans ?_
        simp only [← EReal.coe_mul, ← GlaHead.coe_sum, e]
        rfl
      · rw [if_neg e, i6 i h b (by omega)]

/-- The second result at an index. -/
theorem ref_state (hq : IsFin (m ((c.tc : Thread nD τ).loc main_arg0) : FVec Ideal S8192x512 .f32)) (hk : IsFin (m ((c.tc : Thread nD τ).loc main_arg1) : FVec Ideal S8192x512 .f32))
    (hv : IsFin (m ((c.tc : Thread nD τ).loc main_arg2) : FVec Ideal S8192x1024 .f32)) (hg : IsFin (m ((c.tc : Thread nD τ).loc main_arg3) : FVec Ideal S8192x512 .f32))
    (h : Fin 4) (a : Fin 128) (b : Fin 256) :
    ((STEP^[8192] (entryContents preI m c)) (Proc.devRef .tc main_v6_5) : FVec Ideal S4x128x256 .f32) (ix3 h a b)
      = ((S (g' m c h) (k' m c h) (v' m c h) 8192 a b : ℝ) : EReal) :=
  (trips hq hk hv hg 8192 le_rfl).2.2.2.2.2.1 h a b

/-- The first result at a token and a column. -/
theorem ref_out (hq : IsFin (m ((c.tc : Thread nD τ).loc main_arg0) : FVec Ideal S8192x512 .f32)) (hk : IsFin (m ((c.tc : Thread nD τ).loc main_arg1) : FVec Ideal S8192x512 .f32))
    (hv : IsFin (m ((c.tc : Thread nD τ).loc main_arg2) : FVec Ideal S8192x1024 .f32)) (hg : IsFin (m ((c.tc : Thread nD τ).loc main_arg3) : FVec Ideal S8192x512 .f32))
    (i : Fin 8192) (j : Fin 1024) :
    (out_main_v25 (STEP^[8192] (entryContents preI m c)) : FVec Ideal S8192x1024 .bf16) (ix2 i j)
      = GlaHead.gated (fun x => ((GlaHead.oRow (g' m c (j.val / 256)) (k' m c (j.val / 256)) (q' m c (j.val / 256)) (v' m c (j.val / 256)) i x : ℝ) : EReal))
          (fun x => (m ((c.tc : Thread nD τ).loc main_arg5) : FVec Ideal S1x256 .f32) (ix2 0 x))
          (fun x => if e : i.val < 8192 ∧ 256 * (j.val / 256) + x.val < 1024 then (m ((c.tc : Thread nD τ).loc main_arg4) : FVec Ideal S8192x1024 .f32) (ix2 ⟨i.val, e.1⟩ ⟨256 * (j.val / 256) + x.val, e.2⟩) else 0)
          ⟨j.val % 256, Nat.mod_lt _ (by norm_num)⟩ := by
  have h6 := fun x => (trips hq hk hv hg 8192 le_rfl).2.2.2.2.2.2 i ⟨j.val / 256, by omega⟩ x i.isLt
  have a4 := iter_main_arg4 m c 8192
  have a5 := iter_main_arg5 m c 8192
  have e : 256 * (j.val / 256) + j.val % 256 = j.val := by omega
  unfold out_main_v25
  generalize STEP^[8192] (entryContents preI m c) = X at h6 a4 a5 ⊢
  rw [a4, a5]
  pointwise
  simp only [h6]
  have hx : i.val < 8192 ∧ 256 * (j.val / 256) + j.val % 256 < 1024 := ⟨i.isLt, by omega⟩
  unfold GlaHead.gated
  simp only [hx, and_self, dite_true, e, j.isLt]
  rfl

end Cert.Proof.GlaRef
end
-- ==== Proof.GlaClaim.lean ====
/- The chunked gated linear attention equals the token-by-token recurrence on finite arguments: the certificate's claims about the first program pair. -/
module

public import proofs.«01_k».proof.Defs
public import proofs.«01_k».proof.Proof.GlaRef
public import proofs.«01_k».proof.Proof.Gen.Kernel.Frame
public import proofs.«01_k».proof.Proof.Gen.KernelIdeal.Frame

@[expose] public section

noncomputable section

namespace Cert.Proof.GlaClaim

open Idealize.ShloMosaic Idealize.SL.Sem
open Cert.Proof.GlaCase (IsFin GS GO St seq)

/-- The side conditions of the precondition's two shape relations. -/
theorem preFacts : Cert.Pre_finite.Facts where
  concatenates_S8192x512_S8192x512_S8192x1024_S8192x512_S8192x2560_d1 := by decide
  bcast_S_S8192x2560 := by decide

/-- An entry whose absolute value is below plus infinity is neither infinity. -/
theorem of_lt_inf {x : EReal} (e : BitVec.ofBool (decide (FloatOps.absf (F := Ideal) (φ := .f32) x < Ideal.ofBits .f32 2139095040#32)) = 1#1) : x ≠ ⊤ ∧ x ≠ ⊥ := by
  have h : FloatOps.absf (F := Ideal) (φ := .f32) x < Ideal.ofBits .f32 2139095040#32 := by
    by_contra hn
    rw [decide_eq_false hn] at e
    exact absurd e (by decide)
  have hi : FloatOps.absf (F := Ideal) (φ := .f32) x ≠ ⊤ := ne_of_lt (lt_of_lt_of_le h le_top)
  constructor
  · rintro rfl
    exact hi (show max (⊤ : EReal) (-⊤) = ⊤ by simp)
  · rintro rfl
    exact hi (show max (⊥ : EReal) (-⊥) = ⊤ by simp)

/-- What the precondition says of the four arrays that meet in products and exponentials: every entry is finite. -/
theorem finite_of_pre (x0 x1 : FVec Ideal Cert.Pre_finite.S8192x512 .f32) (x2 : FVec Ideal Cert.Pre_finite.S8192x1024 .f32) (x3 : FVec Ideal Cert.Pre_finite.S8192x512 .f32) (x4 : FVec Ideal Cert.Pre_finite.S8192x1024 .f32)
    (x5 : FVec Ideal Cert.Pre_finite.S1x256 .f32) (h : letI := preFacts; Cert.Pre_finite.fn (F := Ideal) x0 x1 x2 x3 x4 x5 = fun _ => 1#1) :
    IsFin x0 ∧ IsFin x1 ∧ IsFin x2 ∧ IsFin x3 := by
  letI := preFacts
  refine ⟨?_, ?_, ?_, ?_⟩
  · intro i
    obtain ⟨a, b, rfl⟩ : ∃ (a : Fin 8192) (b : Fin 512), i = ix2 a b := ⟨i 0, i 1, eq_ix2 i⟩
    have e := congrFun h (ix2 a ⟨0 + b.val, by omega⟩)
    unfold Cert.Pre_finite.fn at e
    pointwise at e
    exact of_lt_inf e
  · intro i
    obtain ⟨a, b, rfl⟩ : ∃ (a : Fin 8192) (b : Fin 512), i = ix2 a b := ⟨i 0, i 1, eq_ix2 i⟩
    have e := congrFun h (ix2 a ⟨512 + b.val, by omega⟩)
    unfold Cert.Pre_finite.fn at e
    pointwise at e
    exact of_lt_inf e
  · intro i
    obtain ⟨a, b, rfl⟩ : ∃ (a : Fin 8192) (b : Fin 1024), i = ix2 a b := ⟨i 0, i 1, eq_ix2 i⟩
    have e := congrFun h (ix2 a ⟨1024 + b.val, by omega⟩)
    unfold Cert.Pre_finite.fn at e
    pointwise at e
    simp (disch := omega) only [dif_pos, dif_neg] at e
    have e' : 1024 + b.val - 512 - 512 = b.val := by omega
    simp only [e', Fin.eta] at e
    exact of_lt_inf e
  · intro i
    obtain ⟨a, b, rfl⟩ : ∃ (a : Fin 8192) (b : Fin 512), i = ix2 a b := ⟨i 0, i 1, eq_ix2 i⟩
    have e := congrFun h (ix2 a ⟨2048 + b.val, by omega⟩)
    unfold Cert.Pre_finite.fn at e
    pointwise at e
    simp (disch := omega) only [dif_pos, dif_neg] at e
    have e' : 2048 + b.val - 512 - 512 - 1024 = b.val := by omega
    simp only [e', Fin.eta] at e
    exact of_lt_inf e

section
open Cert.KernelIdeal

variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ}

/-- The kernel's gated output is the reference's. -/
theorem out_eq (c : Dev Cert.KernelIdeal.nD) (hq : IsFin (GlaCase.aq m c)) (hk : IsFin (GlaCase.ak m c)) (hv : IsFin (GlaCase.av m c)) (hg : IsFin (GlaCase.ag m c))
    (e0 : m' ((c.tc : Thread Cert.ReferenceIdeal.nD Cert.ReferenceIdeal.τ).loc Cert.ReferenceIdeal.main_arg0) = GlaCase.aq m c)
    (e1 : m' ((c.tc : Thread Cert.ReferenceIdeal.nD Cert.ReferenceIdeal.τ).loc Cert.ReferenceIdeal.main_arg1) = GlaCase.ak m c)
    (e2 : m' ((c.tc : Thread Cert.ReferenceIdeal.nD Cert.ReferenceIdeal.τ).loc Cert.ReferenceIdeal.main_arg2) = GlaCase.av m c)
    (e3 : m' ((c.tc : Thread Cert.ReferenceIdeal.nD Cert.ReferenceIdeal.τ).loc Cert.ReferenceIdeal.main_arg3) = GlaCase.ag m c)
    (e4 : m' ((c.tc : Thread Cert.ReferenceIdeal.nD Cert.ReferenceIdeal.τ).loc Cert.ReferenceIdeal.main_arg4) = GlaCase.agg m c)
    (e5 : m' ((c.tc : Thread Cert.ReferenceIdeal.nD Cert.ReferenceIdeal.τ).loc Cert.ReferenceIdeal.main_arg5) = GlaCase.aw m c) :
    Cert.ReferenceIdeal.Value.out_main_v25 (Cert.ReferenceIdeal.Value.STEP^[8192] (StableHlo.entryContents Cert.ReferenceIdeal.Value.preI m' c)) = Cert.KernelIdeal.Value.G6 m c := by
  funext x
  obtain ⟨i, j, rfl⟩ : ∃ (i : Fin 8192) (j : Fin 1024), x = ix2 i j := ⟨x 0, x 1, eq_ix2 x⟩
  refine (GlaRef.ref_out (c := c) (by rw [e0]; exact hq) (by rw [e1]; exact hk) (by rw [e2]; exact hv) (by rw [e3]; exact hg) i j).trans ?_
  refine Eq.trans ?_ (GlaCase.G6_apply hq hg hk hv i j).symm
  unfold GlaRef.g' GlaRef.k' GlaRef.q' GlaRef.v'
  rw [e0, e1, e2, e3, e4, e5]
  rfl

/-- The kernel's final state is the reference's. -/
theorem state_eq (c : Dev Cert.KernelIdeal.nD) (hq : IsFin (GlaCase.aq m c)) (hk : IsFin (GlaCase.ak m c)) (hv : IsFin (GlaCase.av m c)) (hg : IsFin (GlaCase.ag m c))
    (e0 : m' ((c.tc : Thread Cert.ReferenceIdeal.nD Cert.ReferenceIdeal.τ).loc Cert.ReferenceIdeal.main_arg0) = GlaCase.aq m c)
    (e1 : m' ((c.tc : Thread Cert.ReferenceIdeal.nD Cert.ReferenceIdeal.τ).loc Cert.ReferenceIdeal.main_arg1) = GlaCase.ak m c)
    (e2 : m' ((c.tc : Thread Cert.ReferenceIdeal.nD Cert.ReferenceIdeal.τ).loc Cert.ReferenceIdeal.main_arg2) = GlaCase.av m c)
    (e3 : m' ((c.tc : Thread Cert.ReferenceIdeal.nD Cert.ReferenceIdeal.τ).loc Cert.ReferenceIdeal.main_arg3) = GlaCase.ag m c) :
    (Cert.ReferenceIdeal.Value.STEP^[8192] (StableHlo.entryContents Cert.ReferenceIdeal.Value.preI m' c)) (Proc.devRef .tc Cert.ReferenceIdeal.main_v6_5) = Cert.KernelIdeal.Value.G7 m c := by
  funext x
  obtain ⟨h, a, b, rfl⟩ : ∃ (h : Fin 4) (a : Fin 128) (b : Fin 256), x = ix3 h a b := ⟨x 0, x 1, x 2, eq_ix3 x⟩
  refine (GlaRef.ref_state (c := c) (by rw [e0]; exact hq) (by rw [e1]; exact hk) (by rw [e2]; exact hv) (by rw [e3]; exact hg) h a b).trans ?_
  refine Eq.trans ?_ (GlaCase.G7_apply hg hk hv (ix3 h a b)).symm
  unfold GlaRef.g' GlaRef.k' GlaRef.v'
  rw [e1, e2, e3]
  rfl

end

/-- The kernel's run on the chip's floats: arguments kept, counters at zero. -/
theorem frame_kernel : Cert.quiescent_Kernel := fun m ρ _ => Cert.Kernel.Gen.frame (F := Bits) m ρ

/-- The same at the exact instance. -/
theorem frame_kernelIdeal : Cert.quiescent_KernelIdeal := fun m ρ _ => Cert.KernelIdeal.Gen.frame (F := Ideal) m ρ

/-- The reference's run: arguments kept, and it has no semaphore. -/
theorem frame_reference : Cert.quiescent_ReferenceIdeal := fun m ρ _ =>
  (θ_run Cert.ReferenceIdeal.defs _ _).mono (fun r h => ⟨fun c => (h c).2.2, sem_eq_zero_of_no_sems rfl r.2⟩) (Cert.ReferenceIdeal.Value.run (F := Ideal) m ρ)

/-- The same claims under the precondition. -/
theorem frame_kernelIdeal_pre : Cert.quiescent_KernelIdeal_pre_finite (hPre_finite := preFacts) := fun m ρ _ => Cert.KernelIdeal.Gen.frame (F := Ideal) m ρ

/-- And of the reference. -/
theorem frame_reference_pre : Cert.quiescent_ReferenceIdeal_pre_finite (hPre_finite := preFacts) := fun m ρ _ => frame_reference m ρ trivial

/-- The chunked kernel and the recurrence end with equal results on finite arguments. -/
theorem algebraic : Cert.algebraic_KernelIdeal_ReferenceIdeal_pre_finite (hPre_finite := preFacts) := by
  letI := preFacts
  intro m ρ m' ρ' hp he
  have hf := fun c => finite_of_pre _ _ _ _ _ _ (hp c)
  refine ⟨fun c => Cert.KernelIdeal.Value.G6 m c, fun c => Cert.KernelIdeal.Value.G7 m c, Cert.KernelIdeal.Value.run (F := Ideal) m ρ, ?_⟩
  refine (θ_run Cert.ReferenceIdeal.defs _ _).mono (fun r h c => ?_) (Cert.ReferenceIdeal.Value.run (F := Ideal) m' ρ')
  obtain ⟨e0, e1, e2, e3, e4, e5⟩ := he c
  obtain ⟨hq, hk, hv, hg⟩ := hf c
  obtain ⟨h6, h7, hr⟩ := h c
  exact ⟨h6.trans (out_eq c hq hk hv hg e0 e1 e2 e3 e4 e5), h7.trans (state_eq c hq hk hv hg e0 e1 e2 e3), hr⟩

end Cert.Proof.GlaClaim

end
-- ==== Proof.PostRef.lean ====
/-
  The output projection's reference at the exact instance: its results' composed terms in named steps, each read at an index.
-/
module

public import proofs.«01_k».proof.Proof.Gen.Reference2Ideal.Run
public import Idealize.ShloMosaic.Lib.Pointwise

@[expose] public section

set_option maxRecDepth 16384

noncomputable section

namespace Cert.Proof.PostRef

open Idealize.ShloMosaic Idealize.SL.Sem Cert.Reference2Ideal Cert.Reference2Ideal.Gen Cert.Reference2Ideal.Value
open Idealize.ShloMosaic.StableHlo

/-- The two mixers' outputs side by side, projected; -/
def mix (a b : FVec Ideal S8192x1024 .f32) (w : FVec Ideal S1x2048x2048 .f32) : FVec Ideal S8192x2048 .f32 :=
  Host.dotGeneral dot_S8192x2048_S2048x2048_S8192x2048_1_0_0_1_n_n none (concatenate S8192x2048 1 [⟨S8192x1024, a⟩, ⟨S8192x1024, b⟩] concatenates_S8192x1024_S8192x1024_S8192x2048_d1) (shapeCast _ w shapeCasts_S1x2048x2048_S2048x2048)

/-- the root-mean-square norm of each row; -/
def rms (x : FVec Ideal S8192x2048 .f32) (w : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x358637BD#32)))))) (broadcastInDim S8192x2048 ![0, 1] bcast_S1x2048_S8192x2048_0_1 (broadcastInDim S1x2048 ![1] bcast_S2048_S1x2048_1 (shapeCast _ w shapeCasts_S1x2048_S2048)))

/-- the residual plus the normed projection; -/
def hidden (x : FVec Ideal S8192x2048 .f32) (a b : FVec Ideal S8192x1024 .f32) (w : FVec Ideal S1x2048x2048 .f32) (n : FVec Ideal S1x2048 .f32) : FVec Ideal S8192x2048 .f32 :=
  addf x (rms (mix a b w) n)

/-- and its norm. -/
def normed (x : FVec Ideal S8192x2048 .f32) (n : FVec Ideal S1x2048 .f32) : FVec Ideal S8192x2048 .bf16 :=
  truncf .bf16 (rms x n) bitsLt_bf16_f32

theorem mix_apply (a b : FVec Ideal S8192x1024 .f32) (w : FVec Ideal S1x2048x2048 .f32) (n : Fin 8192) (j : Fin 2048) :
    mix a b w (ix2 n j) = (∑ k : Fin 1024, a (ix2 n k) * w (ix3 0 ⟨k.val, by omega⟩ j)) + ∑ k : Fin 1024, b (ix2 n k) * w (ix3 0 ⟨1024 + k.val, by omega⟩ j) := by
  unfold mix; pointwise

theorem rms_apply (x : FVec Ideal S8192x2048 .f32) (w : FVec Ideal S1x2048 .f32) (n : Fin 8192) (d : Fin 2048) :
    rms x w (ix2 n d) = x (ix2 n d) * Ideal.rsqrt (Ideal.div (∑ k, x (ix2 n k) * x (ix2 n k)) (Ideal.ofBits FTy.f32 1157627904#32) + Ideal.ofBits FTy.f32 897988541#32) * w (ix2 0 d) := by
  unfold rms; pointwise

theorem hidden_apply (x : FVec Ideal S8192x2048 .f32) (a b : FVec Ideal S8192x1024 .f32) (w : FVec Ideal S1x2048x2048 .f32) (n : FVec Ideal S1x2048 .f32) (i : S8192x2048.Idx) :
    hidden x a b w n i = x i + rms (mix a b w) n i := rfl

theorem normed_apply (x : FVec Ideal S8192x2048 .f32) (n : FVec Ideal S1x2048 .f32) (i : S8192x2048.Idx) : normed x n i = rms x n i := rfl

variable (m : (ℓ : Loc nD τ sig) → Buf (Elt Ideal) ℓ) (c : Dev nD)

theorem res_eq : res_main_v32 m c = normed (hidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) (m ((c.tc : Thread nD τ).loc main_arg5)) := by
  unfold res_main_v32; rfl

end Cert.Proof.PostRef

end
-- ==== Proof.PostClaim.lean ====
/-
  The output projection's kernel equals its reference: its blocks and values read at an index, the two result arrays after
  the run, and the certificate's claims about the second program pair.
-/
module

public import proofs.«01_k».proof.Defs
public import proofs.«01_k».proof.Proof.PostRef
public import proofs.«01_k».proof.Proof.Gen.Kernel2.Frame
public import proofs.«01_k».proof.Proof.Gen.Kernel2Ideal.Skeleton
public import proofs.«01_k».proof.Proof.Gen.Kernel2Ideal.Value
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Post

open Cert.Kernel2Ideal Cert.Kernel2Ideal.Gen
open Idealize.ShloMosaic Idealize.SL.Sem
open Cert.Proof.PostRef (mix rms hidden normed)

/-- A norm's factor, of the row's sum of squares. -/
abbrev factor (s : EReal) : EReal := Ideal.rsqrt (Ideal.div s (Ideal.ofBits FTy.f32 1157627904#32) + Ideal.ofBits FTy.f32 897988541#32)

/-- The residual with the normed projection, at an index; -/
theorem pay2_apply (a : Vec Ideal S512x1024 .bf16) (u : Vec Ideal S1024x2048 .bf16) (b : Vec Ideal S512x1024 .bf16) (v : Vec Ideal S1024x2048 .bf16)
    (h : Vec Ideal S512x2048 .f32) (n : Vec Ideal S1x2048 .f32) (M : Fin 2048 → EReal) (r : Fin 512) (d : Fin 2048)
    (hM : ∀ j, (∑ k : Fin 1024, a (ix2 r k) * u (ix2 k j)) + ∑ k : Fin 1024, b (ix2 r k) * v (ix2 k j) = M j) :
    k0_pay2 a u b v h n (ix2 r d) = h (ix2 r d) + M d * factor (∑ k, M k * M k) * n (ix2 0 d) := by
  have e : k0_pay2 a u b v h n (ix2 r d) = h (ix2 r d) + ((∑ k : Fin 1024, a (ix2 r k) * u (ix2 k d)) + ∑ k : Fin 1024, b (ix2 r k) * v (ix2 k d))
      * factor (∑ j, ((∑ k : Fin 1024, a (ix2 r k) * u (ix2 k j)) + ∑ k : Fin 1024, b (ix2 r k) * v (ix2 k j)) * ((∑ k : Fin 1024, a (ix2 r k) * u (ix2 k j)) + ∑ k : Fin 1024, b (ix2 r k) * v (ix2 k j))) * n (ix2 0 d) := by
    unfold k0_pay2; pointwise
  rw [e]; simp only [hM]

/-- and its norm. -/
theorem pay1_apply (a : Vec Ideal S512x1024 .bf16) (u : Vec Ideal S1024x2048 .bf16) (b : Vec Ideal S512x1024 .bf16) (v : Vec Ideal S1024x2048 .bf16)
    (h : Vec Ideal S512x2048 .f32) (n n' : Vec Ideal S1x2048 .f32) (H : Fin 2048 → EReal) (r : Fin 512) (d : Fin 2048)
    (hH : ∀ j, k0_pay2 a u b v h n (ix2 r j) = H j) :
    k0_pay1 (k0_pay2 a u b v h n) (k0_pay3 n') (k0_pay4 a u b v h n) (ix2 r d) = H d * factor (∑ k, H k * H k) * n' (ix2 0 d) := by
  have e : k0_pay1 (k0_pay2 a u b v h n) (k0_pay3 n') (k0_pay4 a u b v h n) (ix2 r d)
      = k0_pay2 a u b v h n (ix2 r d) * factor (∑ k, k0_pay2 a u b v h n (ix2 r k) * k0_pay2 a u b v h n (ix2 r k)) * n' (ix2 0 d) := by
    unfold k0_pay1 k0_pay3 k0_pay4
    generalize k0_pay2 a u b v h n = P
    pointwise
  rw [e]; simp only [hH]

variable (m : (ℓ : Loc nD τ sig) → Buf (Elt Ideal) ℓ) (ρ : Dev nD → PrngReg) (c : Dev nD)

/-- The kernel's argument arrays. -/
abbrev kX : S8192x2048.Idx → EReal := m ((c.tc : Thread nD τ).loc main_arg0)
abbrev kA : S8192x1024.Idx → EReal := m ((c.tc : Thread nD τ).loc main_arg1)
abbrev kB : S8192x1024.Idx → EReal := m ((c.tc : Thread nD τ).loc main_arg2)
abbrev kW : S1x2048x2048.Idx → EReal := m ((c.tc : Thread nD τ).loc main_arg3)
abbrev kN : S1x2048.Idx → EReal := m ((c.tc : Thread nD τ).loc main_arg4)
abbrev kN' : S1x2048.Idx → EReal := m ((c.tc : Thread nD τ).loc main_arg5)

/-- The projection, the residual with its norm, and that one's norm, of the argument arrays. -/
abbrev kMix : S8192x2048.Idx → EReal := mix (kA m c) (kB m c) (kW m c)
def out6 : S8192x2048.Idx → EReal := hidden (kX m c) (kA m c) (kB m c) (kW m c) (kN m c)
def out7 : S8192x2048.Idx → EReal := normed (out6 m c) (kN' m c)

theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0]) t

theorem lt_N (t : Fin cfg0.N) : t.val < 16 := Nat.lt_of_lt_of_eq t.isLt (by decide)

/-- A point's rows. -/
def row (t : Fin cfg0.N) (r : Fin 512) : Fin 8192 := ⟨512 * t.val + r.val, by have := lt_N t; omega⟩

/-- The arrays the region finds. -/
theorem V_w : V m c main_v1 = shapeCast _ (kW m c) shapeCasts_S1x2048x2048_S2048x2048 := rfl
theorem V_n : V m c main_v5 = shapeCast _ (shapeCast _ (kN m c) shapeCasts_S1x2048_S2048) shapeCasts_S2048_S1x2048 := rfl
theorem V_n' : V m c main_v7 = shapeCast _ (shapeCast _ (kN' m c) shapeCasts_S1x2048_S2048) shapeCasts_S2048_S1x2048 := rfl

/-- The blocks at an index. -/
theorem blkX (t : Fin cfg0.N) (r : Fin 512) (d : Fin 2048) : iblk m c 0 t (ix2 r d) = kX m c (ix2 (row t r) d) := by
  unfold row; blk_ext [iblk, V, idx t]
theorem blkA (t : Fin cfg0.N) (r : Fin 512) (d : Fin 1024) : iblk m c 1 t (ix2 r d) = kA m c (ix2 (row t r) d) := by
  unfold row; blk_ext [iblk, V, idx t]
theorem blkB (t : Fin cfg0.N) (r : Fin 512) (d : Fin 1024) : iblk m c 2 t (ix2 r d) = kB m c (ix2 (row t r) d) := by
  unfold row; blk_ext [iblk, V, idx t]
theorem blkW (t : Fin cfg0.N) (k d : Fin 2048) : iblk m c 3 t (ix2 k d) = kW m c (ix3 0 k d) := by
  have e : iblk m c 3 t (ix2 k d) = V m c main_v1 (ix2 k d) := by blk_ext [iblk, idx t]
  rw [e, V_w]; pointwise
theorem blkN (t : Fin cfg0.N) (d : Fin 2048) : iblk m c 4 t (ix2 0 d) = kN m c (ix2 0 d) := by
  have e : iblk m c 4 t (ix2 0 d) = V m c main_v5 (ix2 0 d) := by blk_ext [iblk, idx t]
  rw [e, V_n]; pointwise
theorem blkN' (t : Fin cfg0.N) (d : Fin 2048) : iblk m c 5 t (ix2 0 d) = kN' m c (ix2 0 d) := by
  have e : iblk m c 5 t (ix2 0 d) = V m c main_v7 (ix2 0 d) := by blk_ext [iblk, idx t]
  rw [e, V_n']; pointwise

/-- The weight's two halves, as the body loads them. -/
theorem ldTop (x : Vec Ideal S2048x2048 .bf16) (k : Fin 1024) (d : Fin 2048) : View.ld x r0_1 (ix2 k d) = x (ix2 ⟨k.val, by omega⟩ d) := by
  refine View.ld_unit_apply_of x _ _ _ _ _ fun a => ?_
  match a with
  | 0 => exact (Nat.zero_add _).symm
  | 1 => exact (Nat.zero_add _).symm
theorem ldBot (x : Vec Ideal S2048x2048 .bf16) (k : Fin 1024) (d : Fin 2048) : View.ld x r0_2 (ix2 k d) = x (ix2 ⟨1024 + k.val, by omega⟩ d) := by
  refine View.ld_unit_apply_of x _ _ _ _ _ fun a => ?_
  match a with
  | 0 => rfl
  | 1 => exact (Nat.zero_add _).symm

/-- What a point leaves in the first result's block; -/
theorem val6 (t : Fin cfg0.N) (r : Fin 512) (d : Fin 2048) :
    k0_pay2 (iblk m c 1 t) (View.ld (iblk m c 3 t) r0_1) (iblk m c 2 t) (View.ld (iblk m c 3 t) r0_2) (iblk m c 0 t) (iblk m c 4 t) (ix2 r d) = out6 m c (ix2 (row t r) d) := by
  refine (pay2_apply _ _ _ _ _ _ (fun j => kMix m c (ix2 (row t r) j)) r d fun j => ?_).trans ?_
  · refine Eq.trans ?_ (PostRef.mix_apply _ _ _ _ _).symm
    exact congrArg₂ (· + ·) (Finset.sum_congr rfl fun k _ => congrArg₂ (· * ·) (blkA m c t r k) ((ldTop (iblk m c 3 t) k j).trans (blkW m c t _ j)))
      (Finset.sum_congr rfl fun k _ => congrArg₂ (· * ·) (blkB m c t r k) ((ldBot (iblk m c 3 t) k j).trans (blkW m c t _ j)))
  · unfold out6
    rw [PostRef.hidden_apply, PostRef.rms_apply, blkX, blkN]

/-- and in the second's. -/
theorem val7 (t : Fin cfg0.N) (r : Fin 512) (d : Fin 2048) :
    k0_pay1 (k0_pay2 (iblk m c 1 t) (View.ld (iblk m c 3 t) r0_1) (iblk m c 2 t) (View.ld (iblk m c 3 t) r0_2) (iblk m c 0 t) (iblk m c 4 t)) (k0_pay3 (iblk m c 5 t))
      (k0_pay4 (iblk m c 1 t) (View.ld (iblk m c 3 t) r0_1) (iblk m c 2 t) (View.ld (iblk m c 3 t) r0_2) (iblk m c 0 t) (iblk m c 4 t)) (ix2 r d) = out7 m c (ix2 (row t r) d) := by
  refine (pay1_apply _ _ _ _ _ _ _ (fun j => out6 m c (ix2 (row t r) j)) r d fun j => val6 m c t r j).trans ?_
  unfold out7
  rw [PostRef.normed_apply, PostRef.rms_apply, blkN']

/-- The result arrays after the run. -/
theorem final6 : (dats m 0 c).arrAt 6 cfg0.N = out6 m c := by
  refine (dats m 0 c).arrAt_eq_of_covers 6 (out6 m c) (by decide +kernel) fun t hf y => ?_
  blk_simp
  rw [after0_6]
  obtain ⟨r, d, rfl⟩ : ∃ (r : Fin 512) (d : Fin 2048), y = ix2 r d := ⟨y 0, y 1, eq_ix2 y⟩
  unfold out0_6
  simp (disch := decide) only [View.ld_unit_lit', View.canon_cons_unit_lit']
  exact (val6 m c t r d).trans
    (show out6 m c ((win0_6.blk t).view.emb (ix2 r d)) = out6 m c (ix2 (row t r) d) by unfold row; blk_ext [idx t]).symm
theorem final7 : (dats m 0 c).arrAt 7 cfg0.N = out7 m c := by
  refine (dats m 0 c).arrAt_eq_of_covers 7 (out7 m c) (by decide +kernel) fun t hf y => ?_
  blk_simp
  rw [after0_7]
  obtain ⟨r, d, rfl⟩ : ∃ (r : Fin 512) (d : Fin 2048), y = ix2 r d := ⟨y 0, y 1, eq_ix2 y⟩
  unfold out0_7
  simp (disch := decide) only [View.ld_unit_lit', View.canon_cons_unit_lit']
  exact (val7 m c t r d).trans
    (show out7 m c ((win0_7.blk t).view.emb (ix2 r d)) = out7 m c (ix2 (row t r) d) by unfold row; blk_ext [idx t]).symm

/-- The kernel's run on the chip's floats: arguments kept, counters at zero. -/
theorem frame_kernel : Cert.quiescent_Kernel2 := fun m ρ _ => Cert.Kernel2.Gen.frame (F := Bits) m ρ

/-- The same at the exact instance. -/
theorem frame_kernelIdeal : Cert.quiescent_Kernel2Ideal := fun m ρ _ => Cert.Kernel2Ideal.Gen.frame (F := Ideal) m ρ

/-- The reference's run: arguments kept, and it has no semaphore. -/
theorem frame_reference : Cert.quiescent_Reference2Ideal := fun m ρ _ =>
  (θ_run Cert.Reference2Ideal.defs _ _).mono (fun r h => ⟨fun c => (h c).2.2, sem_eq_zero_of_no_sems rfl r.2⟩) (Cert.Reference2Ideal.Value.run (F := Ideal) m ρ)

/-- The kernel and the reference end with equal results. -/
theorem algebraic : Cert.algebraic_Kernel2Ideal_Reference2Ideal := by
  intro m ρ m' ρ' _ he
  refine ⟨fun c => out6 m c, fun c => out7 m c, (θ_run defs _ _).mono (fun r h c => ?_) (Cert.Kernel2Ideal.Value.run_blocks (F := Ideal) m ρ), ?_⟩
  · obtain ⟨h0, h1, hr⟩ := h c
    exact ⟨h0.trans (final6 m c), h1.trans (final7 m c), hr⟩
  refine (θ_run Cert.Reference2Ideal.defs _ _).mono (fun r h c => ?_) (Cert.Reference2Ideal.Value.run (F := Ideal) m' ρ')
  obtain ⟨e0, e1, e2, e3, e4, e5⟩ := he c
  obtain ⟨h0, h1, hr⟩ := h c
  refine ⟨h0.trans ?_, h1.trans ?_, hr⟩
  · rw [e0, e1, e2, e3, e4]; rfl
  · rw [PostRef.res_eq, e0, e1, e2, e3, e4, e5]; rfl

end Cert.Proof.Post

end
-- ==== Proof.FfnPre.lean ====
/-
  The feed-forward kernel's body at symbolic operands: what its buffers hold, and the runs of its two guarded stores.
  Over any values, so that one run serves the program at its bits and at the reals.
-/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The row block's first column block. -/
abbrev First (i : grid0.Coords) : Prop := (Scalar.cmpi .ne (Scalar.extui (Scalar.cmpi .eq (BitVec.ofNat 32 (i 1).val) 0#32)) 0#32) = 1#1
/-- The first row block. -/
abbrev Top (i : grid0.Coords) : Prop := k0_cond2 i = 1#1
/-- The row block's last column block. -/
abbrev Last (i : grid0.Coords) : Prop := k0_cond3 i = 1#1

/-- The body's first guarded store; -/
def pre1 (i : grid0.Coords) (arg15 : Memref sig .tc .vmem S512x2048 .f32) : Prog (TpuEff nD τ sig (Elt F) Λ₀ .tc) PUnit :=
  if k0_h1 : First i then do
    let v111 : Vec F S512x2048 .f32 ← Prog.lift (.load arg15 (Rect.unit (s := S512x2048) ![0, 0] S512x2048.size inb_S512x2048_S512x2048_0_0).toLoadRect (View.loadsAt_vmem h_S512x2048))
    Prog.lift (.store arg15 (Rect.unit (s := S512x2048) ![0, 0] S512x2048.size inb_S512x2048_S512x2048_0_0) (k0_pay3 (F := F)) Finset.univ (View.stores_vmem_bits_univ h_S512x2048 rfl) (.inl rfl))
    pure ⟨⟩
  else do
    pure ⟨⟩

/-- its second; -/
def pre2 (i : grid0.Coords) (arg18 arg19 : Memref sig .tc .vmem S11x8x512 .f32) : Prog (TpuEff nD τ sig (Elt F) Λ₀ .tc) PUnit :=
  if k0_h2 : Top i then do
    let v112 : Vec F S1x8x512 .f32 ← Prog.lift (.load arg18 (Rect.unit (s := S11x8x512) (k0_off1 i) S1x8x512.size (k0_off1_inb i k0_h2)).toLoadRect (View.loadsAt_vmem h_S1x8x512))
    Prog.lift (.store arg18 (Rect.unit (s := S11x8x512) (k0_off1 i) S1x8x512.size (k0_off1_inb i k0_h2)) (k0_pay4 (F := F)) Finset.univ (View.stores_vmem_bits_univ h_S1x8x512 rfl) (.inl rfl))
    let v117 : Vec F S1x8x512 .f32 ← Prog.lift (.load arg19 (Rect.unit (s := S11x8x512) (k0_off1 i) S1x8x512.size (k0_off1_inb i k0_h2)).toLoadRect (View.loadsAt_vmem h_S1x8x512))
    Prog.lift (.store arg19 (Rect.unit (s := S11x8x512) (k0_off1 i) S1x8x512.size (k0_off1_inb i k0_h2)) (k0_pay5 (F := F)) Finset.univ (View.stores_vmem_bits_univ h_S1x8x512 rfl) (.inl rfl))
    pure ⟨⟩
  else do
    pure ⟨⟩

/-- and the rest of its first part. -/
def tail1 (i : grid0.Coords) (arg2 : Memref sig .tc .vmem S512x2048 .bf16) (arg4 : Memref sig .tc .vmem S2048x512 .bf16) (arg6 : Memref sig .tc .vmem S3x512 .f32) (arg13 : Memref sig .tc .vmem S8x512 .f32)
    (arg16 : Memref sig .tc .vmem S520x512 .f32) (arg18 : Memref sig .tc .vmem S11x8x512 .f32) :
    Prog (TpuEff nD τ sig (Elt F) Λ₀ .tc) (Σ' (arg1 : BitVec 32) (v7 : FVec F S512x2048 .bf16) (v16 : FVec F S512x512 .f32) (v26 : Vec F S512x512 .f32), FVec F S1x512 .f32) := do
  let v6 : Vec F S512x2048 .bf16 ← Prog.lift (.load arg2 (Rect.unit (s := S512x2048) ![0, 0] S512x2048.size inb_S512x2048_S512x2048_0_0).toLoadRect (View.loadsAt_vmem h_S512x2048))
  let v9 : Vec F S1x8x512 .f32 ← Prog.lift (.load arg18 (Rect.unit (s := S11x8x512) (k0_off2 i) S1x8x512.size (k0_off2_inb i)).toLoadRect (View.loadsAt_vmem h_S1x8x512))
  let v11 : Vec F S8x512 .f32 ← Prog.lift (.load arg16 (Rect.unit (s := S520x512) ![0, 0] S8x512.size inb_S520x512_S8x512_0_0).toLoadRect (View.loadsAt_vmem h_S8x512))
  Prog.lift (.store arg16 (Rect.unit (s := S520x512) ![0, 0] S8x512.size inb_S520x512_S8x512_0_0) (k0_pay7 v9) Finset.univ (View.stores_vmem_bits_univ h_S8x512 rfl) (.inl rfl))
  let v14 : Vec F S2048x512 .bf16 ← Prog.lift (.load arg4 (Rect.unit (s := S2048x512) ![0, 0] S2048x512.size inb_S2048x512_S2048x512_0_0).toLoadRect (View.loadsAt_vmem h_S2048x512))
  let v17 : Vec F S512x512 .f32 ← Prog.lift (.load arg16 (Rect.unit (s := S520x512) ![8, 0] S512x512.size inb_S520x512_S512x512_8_0).toLoadRect (View.loadsAt_vmem h_S512x512))
  Prog.lift (.store arg16 (Rect.unit (s := S520x512) ![8, 0] S512x512.size inb_S520x512_S512x512_8_0) (k0_pay9 v6 v14) Finset.univ (View.stores_vmem_bits_univ h_S512x512 rfl) (.inl rfl))
  let v21 : Vec F S8x512 .f32 ← Prog.lift (.load arg13 (Rect.unit (s := S8x512) ![0, 0] S8x512.size inb_S8x512_S8x512_0_0).toLoadRect (View.loadsAt_vmem h_S8x512))
  Prog.lift (.store arg13 (Rect.unit (s := S8x512) ![0, 0] S8x512.size inb_S8x512_S8x512_0_0) (k0_pay10 v6 v14) Finset.univ (View.stores_vmem_bits_univ h_S8x512 rfl) (.inl rfl))
  let v23 : Vec F S1x8x512 .f32 ← Prog.lift (.load arg18 (Rect.unit (s := S11x8x512) (k0_off2 i) S1x8x512.size (k0_off2_inb i)).toLoadRect (View.loadsAt_vmem h_S1x8x512))
  Prog.lift (.store arg18 (Rect.unit (s := S11x8x512) (k0_off2 i) S1x8x512.size (k0_off2_inb i)) (k0_pay11 v6 v14) Finset.univ (View.stores_vmem_bits_univ h_S1x8x512 rfl) (.inl rfl))
  let v26 : Vec F S512x512 .f32 ← Prog.lift (.load arg16 (Rect.unit (s := S520x512) ![6, 0] S512x512.size inb_S520x512_S512x512_6_0).toLoadRect (View.loadsAt_vmem h_S512x512))
  let v27 : Vec F S1x512 .f32 ← Prog.lift (.load arg6 (Rect.unit (s := S3x512) ![0, 0] S1x512.size inb_S3x512_S1x512_0_0).toLoadRect (View.loadsAt_vmem h_S1x512))
  pure ⟨BitVec.ofNat 32 (i 1).val, k0_pay6 v6, k0_pay8 v6 v14, v26, k0_pay12 v27⟩

/-- A buffer found at contents that read as `x` is held at `x`. -/
theorem own_read {sp : Space} {s : Shape} {e : EltTy} (c : Dev nD) (M : Memref sig .tc sp s e) (x : Vec F s e) (f : M.view.ty.Contents (Elt F))
    (h : View.read (Elt F) M.view f = x) :
    (View.loc (c : Thread nD τ) M.view ↦[M.view.set]{fullShare} f : sProp 𝕄) ⊢ owns (c : Thread nD τ) M fullShare x := by
  unfold owns
  iintro H
  iexists _
  isplitr
  swap
  · iexact H
  ipureintro; exact h

/-- A whole buffer held at `x` is found at contents that read as `x`. -/
theorem own_unread {sp : Space} {s : Shape} {e : EltTy} (c : Dev nD) (M : Memref sig .tc sp s e) (h : M.IsWhole) (x : Vec F s e) :
    (owns (c : Thread nD τ) M fullShare x : sProp 𝕄) ⊢ View.loc (c : Thread nD τ) M.view ↦[M.view.set]{fullShare} h.unread x := by
  unfold owns
  iintro ⟨%f, %hf, H⟩
  obtain rfl := h.eq_unread hf
  iexact H

/-- A whole buffer after one store. -/
theorem read_put {sp : Space} {s : Shape} {e : EltTy} (M : Memref sig .tc sp s e) (h : M.IsWhole) (x : Vec F s e) {off size : Fin s.rank → ℕ}
    (inb : ∀ a, off a + size a ≤ s.size a) (w : (Rect.unit off size inb).shape.Idx → Elt F e) :
    View.read (Elt F) M.view (M.view.writes (Elt F) (h.unread x) [⟨Rect.unit off size inb, w⟩]) = VecWindow.put x off size w := by
  rw [View.read_writes_cons_put _ _ _ _ _ rfl, View.writes_nil, h.read_unread]

/-- A load of a buffer held at given values reads a window of them; -/
theorem ld_window {sp : Space} {s : Shape} {e : EltTy} (M : Memref sig .tc sp s e) (h : M.IsWhole) (x : Vec F s e) {off size : Fin s.rank → ℕ}
    (inb : ∀ a, off a + size a ≤ s.size a) :
    View.readAt (Elt F) M.view (Rect.unit off size inb).toLoadRect (h.unread x) = VecWindow.window x off size inb := by
  rw [View.readAt_unit _ _ inb rfl inb, h.read_unread]
/-- of the buffer's own sizes, the values themselves. -/
theorem ld_full {sp : Space} {s : Shape} {e : EltTy} (M : Memref sig .tc sp s e) (h : M.IsWhole) (x : Vec F s e) {off : Fin s.rank → ℕ}
    (inb : ∀ a, off a + s.size a ≤ s.size a) :
    View.readAt (Elt F) M.view (Rect.unit off s.size inb).toLoadRect (h.unread x) = x := by
  rw [View.readAt_full, h.read_unread]

/-- A window of the whole of a buffer is the buffer. -/
theorem window_full {s : Shape} {α : Type} (x : s.Idx → α) {off : Fin s.rank → ℕ} (inb : ∀ a, off a + s.size a ≤ s.size a) :
    VecWindow.window x off s.size inb = x :=
  funext fun z => congrArg x (Rect.emb_unit_full inb z)

/-- The rows carried into a tile beside the tile's rows: eight rows of the slab, then the product's. -/
def rows (s : FVec F S8x512 .f32) (u : FVec F S512x512 .f32) : Vec F S520x512 .f32 :=
  VecWindow.put (VecWindow.put (fun _ => @Classical.arbitrary (Elt F .f32) (Elt.nonempty F .f32)) ![0, 0] S8x512.size s) ![8, 0] S512x512.size u

/-- A load of those rows after the two stores. -/
theorem ld_rows {sp : Space} (v : View sig .tc sp S520x512 .f32) (s : FVec F S8x512 .f32) (u : FVec F S512x512 .f32) {off size : Fin 2 → ℕ}
    (inb : ∀ a, off a + size a ≤ S520x512.size a) (i1 i2) :
    View.readCov v [⟨Rect.unit (s := S520x512) ![8, 0] S512x512.size i1, u⟩, ⟨Rect.unit (s := S520x512) ![0, 0] S8x512.size i2, s⟩]
      (Rect.unit (s := S520x512) off size inb).toLoadRect = VecWindow.window (rows s u) off size inb := by
  unfold View.readCov rows
  rw [View.readAt_unit _ _ inb rfl inb, View.read_writes_cons_put _ _ _ _ _ rfl, View.read_writes_cons_put _ _ _ _ _ rfl, View.writes_nil]
  congr 3
  exact funext fun y => View.read_junk_apply v y

/-- A slab buffer as a point's slab is read: zeroed there above the first row block. -/
def slabs (i : grid0.Coords) (z : FVec F S1x8x512 .f32) (P : Vec F S11x8x512 .f32) : Vec F S11x8x512 .f32 :=
  if Top i then VecWindow.put P (k0_off2 i) S1x8x512.size z else P
/-- The slab a point reads. -/
def slabIn (i : grid0.Coords) (z : FVec F S1x8x512 .f32) (P : Vec F S11x8x512 .f32) : Vec F S1x8x512 .f32 :=
  VecWindow.window (slabs i z P) (k0_off2 i) S1x8x512.size (k0_off2_inb i)
/-- A slab buffer after a point's slab is stored. -/
def slabOut (i : grid0.Coords) (z : FVec F S1x8x512 .f32) (P : Vec F S11x8x512 .f32) (X : FVec F S1x8x512 .f32) : Vec F S11x8x512 .f32 :=
  VecWindow.put (slabs i z P) (k0_off2 i) S1x8x512.size X

/-- Row `k` of three. -/
abbrev tap0 (w : Vec F S3x512 .f32) : Vec F S1x512 .f32 := VecWindow.window w ![0, 0] S1x512.size inb_S3x512_S1x512_0_0
abbrev tap1 (w : Vec F S3x512 .f32) : Vec F S1x512 .f32 := VecWindow.window w ![1, 0] S1x512.size inb_S3x512_S1x512_1_0
abbrev tap2 (w : Vec F S3x512 .f32) : Vec F S1x512 .f32 := VecWindow.window w ![2, 0] S1x512.size inb_S3x512_S1x512_2_0
/-- The tile's rows moved down by two and by one. -/
abbrev back2 (R : Vec F S520x512 .f32) : Vec F S512x512 .f32 := VecWindow.window R ![6, 0] S512x512.size inb_S520x512_S512x512_6_0
abbrev back1 (R : Vec F S520x512 .f32) : Vec F S512x512 .f32 := VecWindow.window R ![7, 0] S512x512.size inb_S520x512_S512x512_7_0

/-- A point's part of the row block's down projection, from its blocks and the two slabs it reads. -/
def part (x0 : Vec F S512x2048 .bf16) (x2 x3 : Vec F S2048x512 .bf16) (x4 x5 : Vec F S3x512 .f32) (x6 x7 : Vec F S1x512 .f32) (x8 : Vec F S512x2048 .bf16)
    (s s' : Vec F S1x8x512 .f32) : FVec F S512x2048 .f32 :=
  k0_pay19 (k0_pay13 (k0_pay8 x0 x2) (back2 (rows (k0_pay7 s) (k0_pay9 x0 x2))) (k0_pay12 (tap0 x4)) (back1 (rows (k0_pay7 s) (k0_pay9 x0 x2))) (tap1 x4) (tap2 x4) x6)
    (k0_pay15 (k0_pay6 x0) x3) (back2 (rows (k0_pay14 s') (k0_pay16 (k0_pay6 x0) x3))) (tap0 x5) (back1 (rows (k0_pay14 s') (k0_pay16 (k0_pay6 x0) x3))) (tap1 x5) (tap2 x5) x7 x8

/-- The same part, its carried rows as loads of the row tiles after their two stores. -/
theorem part_cov {sp sp' : Space} (v : View sig .tc sp S520x512 .f32) (v' : View sig .tc sp' S520x512 .f32)
    (x0 : Vec F S512x2048 .bf16) (x2 x3 : Vec F S2048x512 .bf16) (x4 x5 : Vec F S3x512 .f32) (x6 x7 : Vec F S1x512 .f32) (x8 : Vec F S512x2048 .bf16)
    (s s' : Vec F S1x8x512 .f32) :
    k0_pay19 (k0_pay13 (k0_pay8 x0 x2)
        (v.readCov [⟨Rect.unit (s := S520x512) ![8, 0] S512x512.size inb_S520x512_S512x512_8_0, k0_pay9 x0 x2⟩, ⟨Rect.unit (s := S520x512) ![0, 0] S8x512.size inb_S520x512_S8x512_0_0, k0_pay7 s⟩]
          (Rect.unit (s := S520x512) ![6, 0] S512x512.size inb_S520x512_S512x512_6_0).toLoadRect) (k0_pay12 (tap0 x4))
        (v.readCov [⟨Rect.unit (s := S520x512) ![8, 0] S512x512.size inb_S520x512_S512x512_8_0, k0_pay9 x0 x2⟩, ⟨Rect.unit (s := S520x512) ![0, 0] S8x512.size inb_S520x512_S8x512_0_0, k0_pay7 s⟩]
          (Rect.unit (s := S520x512) ![7, 0] S512x512.size inb_S520x512_S512x512_7_0).toLoadRect) (tap1 x4) (tap2 x4) x6)
      (k0_pay15 (k0_pay6 x0) x3)
      (v'.readCov [⟨Rect.unit (s := S520x512) ![8, 0] S512x512.size inb_S520x512_S512x512_8_0, k0_pay16 (k0_pay6 x0) x3⟩, ⟨Rect.unit (s := S520x512) ![0, 0] S8x512.size inb_S520x512_S8x512_0_0, k0_pay14 s'⟩]
          (Rect.unit (s := S520x512) ![6, 0] S512x512.size inb_S520x512_S512x512_6_0).toLoadRect) (tap0 x5)
      (v'.readCov [⟨Rect.unit (s := S520x512) ![8, 0] S512x512.size inb_S520x512_S512x512_8_0, k0_pay16 (k0_pay6 x0) x3⟩, ⟨Rect.unit (s := S520x512) ![0, 0] S8x512.size inb_S520x512_S8x512_0_0, k0_pay14 s'⟩]
          (Rect.unit (s := S520x512) ![7, 0] S512x512.size inb_S520x512_S512x512_7_0).toLoadRect) (tap1 x5) (tap2 x5) x7 x8
    = part x0 x2 x3 x4 x5 x6 x7 x8 s s' := by
  rw [ld_rows, ld_rows, ld_rows, ld_rows]; rfl

/-- The accumulator as a point finds it: zeroed at a row block's first column block. -/
def accIn (i : grid0.Coords) (acc : Vec F S512x2048 .f32) : Vec F S512x2048 .f32 := if First i then k0_pay3 else acc

variable (c : Dev nD) (i : grid0.Coords)
  (arg2 : Memref sig .tc .vmem S512x2048 .bf16) (harg2 : arg2.IsWhole) (arg3 : Memref sig .tc .vmem S512x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S3x512 .f32) (harg6 : arg6.IsWhole) (arg7 : Memref sig .tc .vmem S3x512 .f32) (harg7 : arg7.IsWhole)
  (arg8 : Memref sig .tc .vmem S1x512 .f32) (harg8 : arg8.IsWhole) (arg9 : Memref sig .tc .vmem S1x512 .f32) (harg9 : arg9.IsWhole)
  (arg10 : Memref sig .tc .vmem S512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S8x512 .f32) (harg13 : arg13.IsWhole)
  (arg14 : Memref sig .tc .vmem S8x512 .f32) (harg14 : arg14.IsWhole) (arg15 : Memref sig .tc .vmem S512x2048 .f32) (harg15 : arg15.IsWhole)
  (arg16 : Memref sig .tc .vmem S520x512 .f32) (harg16 : arg16.IsWhole) (arg17 : Memref sig .tc .vmem S520x512 .f32) (harg17 : arg17.IsWhole)
  (arg18 : Memref sig .tc .vmem S11x8x512 .f32) (harg18 : arg18.IsWhole) (arg19 : Memref sig .tc .vmem S11x8x512 .f32) (harg19 : arg19.IsWhole)
  (x0 : Vec F S512x2048 .bf16) (x1 : Vec F S512x2048 .f32) (x2 x3 : Vec F S2048x512 .bf16) (x4 x5 : Vec F S3x512 .f32) (x6 x7 : Vec F S1x512 .f32)
  (x8 : Vec F S512x2048 .bf16) (x9 : Vec F S1x2048 .f32)

/-- The body's operands held: the windows' blocks, the three results' tiles and the five scratch buffers. -/
def held (y : Vec F S512x2048 .f32) (tg tv : Vec F S8x512 .f32) (acc : Vec F S512x2048 .f32) (ug uv : Vec F S520x512 .f32) (P P' : Vec F S11x8x512 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8
    ∗ owns (c : Thread nD τ) arg11 fullShare x9 ∗ owns (c : Thread nD τ) arg12 fullShare y ∗ owns (c : Thread nD τ) arg13 fullShare tg
    ∗ owns (c : Thread nD τ) arg14 fullShare tv ∗ owns (c : Thread nD τ) arg15 fullShare acc ∗ owns (c : Thread nD τ) arg16 fullShare ug
    ∗ owns (c : Thread nD τ) arg17 fullShare uv ∗ owns (c : Thread nD τ) arg18 fullShare P ∗ owns (c : Thread nD τ) arg19 fullShare P')

/-- The body's first part is the two guarded stores and that rest. -/
theorem part1_eq : k0_part1_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
    (pre1 i arg15 >>= fun _ => pre2 i arg18 arg19 >>= fun _ => tail1 i arg2 arg4 arg6 arg13 arg16 arg18) := by
  unfold k0_part1_skel pre1 pre2
  by_cases h1 : First i <;> by_cases h2 : Top i
  · simp only [dif_pos h1, dif_pos h2]; rfl
  · simp only [dif_pos h1, dif_neg h2]; rfl
  · simp only [dif_neg h1, dif_pos h2]; rfl
  · simp only [dif_neg h1, dif_neg h2]; rfl

include harg15 in
/-- The first guarded store's run; -/
theorem run_pre1 (y : Vec F S512x2048 .f32) (tg tv : Vec F S8x512 .f32) (acc : Vec F S512x2048 .f32) (ug uv : Vec F S520x512 .f32) (P P' : Vec F S11x8x512 .f32) :
    held c arg2 arg3 arg4 arg5 arg6 arg7 arg8 arg9 arg10 arg11 arg12 arg13 arg14 arg15 arg16 arg17 arg18 arg19 x0 x1 x2 x3 x4 x5 x6 x7 x8 x9 y tg tv acc ug uv P P'
      ⊢ wp frame (wpE (defs₀ (F := F)) Variants.none c none) Set.univ (pre1 i arg15)
          (fun _ => held c arg2 arg3 arg4 arg5 arg6 arg7 arg8 arg9 arg10 arg11 arg12 arg13 arg14 arg15 arg16 arg17 arg18 arg19 x0 x1 x2 x3 x4 x5 x6 x7 x8 x9 y tg tv (accIn i acc) ug uv P P') := by
  unfold pre1 accIn
  by_cases h1 : First i
  · rw [dif_pos h1, if_pos h1]
    unfold held
    iintro ⟨H0, H1, H2, H3, H4, H5, H6, H7, H8, H9, H10, H11, H12, G0, G1, G2, G3, G4⟩
    icases (own_unread c arg15 harg15 acc) $$ G0 with G0
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [G0]
    · unfold owns; iexists _; isplitr; swap; · iexact G0
      ipureintro; exact View.read_writes_full _ _ _ _ _
    isplitl [G1]; · iexact G1
    isplitl [G2]; · iexact G2
    isplitl [G3]; · iexact G3
    iexact G4
  · rw [dif_neg h1, if_neg h1]
    iintro H
    sl_exec
    sl_step
    iexact H

include harg18 harg19 in
/-- the second's. -/
theorem run_pre2 (y : Vec F S512x2048 .f32) (tg tv : Vec F S8x512 .f32) (acc : Vec F S512x2048 .f32) (ug uv : Vec F S520x512 .f32) (P P' : Vec F S11x8x512 .f32) :
    held c arg2 arg3 arg4 arg5 arg6 arg7 arg8 arg9 arg10 arg11 arg12 arg13 arg14 arg15 arg16 arg17 arg18 arg19 x0 x1 x2 x3 x4 x5 x6 x7 x8 x9 y tg tv acc ug uv P P'
      ⊢ wp frame (wpE (defs₀ (F := F)) Variants.none c none) Set.univ (pre2 i arg18 arg19)
          (fun _ => held c arg2 arg3 arg4 arg5 arg6 arg7 arg8 arg9 arg10 arg11 arg12 arg13 arg14 arg15 arg16 arg17 arg18 arg19 x0 x1 x2 x3 x4 x5 x6 x7 x8 x9 y tg tv acc ug uv (slabs i k0_pay4 P) (slabs i k0_pay5 P')) := by
  unfold pre2 slabs
  by_cases h1 : Top i
  · rw [dif_pos h1, if_pos h1, if_pos h1]
    unfold held
    iintro ⟨H0, H1, H2, H3, H4, H5, H6, H7, H8, H9, H10, H11, H12, G0, G1, G2, G3, G4⟩
    icases (own_unread c arg18 harg18 P) $$ G3 with G3
    icases (own_unread c arg19 harg19 P') $$ G4 with G4
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [G0]; · iexact G0
    isplitl [G1]; · iexact G1
    isplitl [G2]; · iexact G2
    isplitl [G3]
    · unfold owns; iexists _; isplitr; swap; · iexact G3
      ipureintro; exact read_put arg18 harg18 P _ _
    unfold owns; iexists _; isplitr; swap; · iexact G4
    ipureintro; exact read_put arg19 harg19 P' _ _
  · rw [dif_neg h1, if_neg h1, if_neg h1]
    iintro H
    sl_exec
    sl_step
    iexact H

end Cert.Proof.Ffn

end
-- ==== Proof.FfnPts.lean ====
/-
  The feed-forward kernel point by point: where its three conditions hold, where in the slab buffers a point reads and
  writes, what the carried rows and the accumulator are at each point, and that a point keeps the slab buffers at the
  last eleven points' rows.
-/
module

public import proofs.«01_k».proof.Proof.FfnPre

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem lt_N (t : Fin cfg0.N) : t.val < 176 := Nat.lt_of_lt_of_eq t.isLt N_0
theorem coord0 (t : Fin cfg0.N) : (grid0.coords t 0).val = t.val / 11 % 16 := Pipeline.Grid.coords_val t 0 (by decide) rfl
theorem coord1 (t : Fin cfg0.N) : (grid0.coords t 1).val = t.val / 1 % 11 := Pipeline.Grid.coords_val t 1 (by decide) rfl

/-- A row block's first column block; -/
theorem first_iff (t : Fin cfg0.N) : First (grid0.coords t) ↔ t.val % 11 = 0 := by
  have ht := lt_N t
  have e1 := coord1 t
  simp only [First, e1]
  word_cmp
/-- the first row block; -/
theorem top_iff (t : Fin cfg0.N) : Top (grid0.coords t) ↔ t.val < 11 := by
  have ht := lt_N t
  have e0 := coord0 t
  simp only [Top, k0_cond2, e0]
  have : t.val < 11 ↔ t.val / 11 % 16 = 0 := by omega
  rw [this]
  word_cmp
/-- a row block's last column block. -/
theorem last_iff (t : Fin cfg0.N) : Last (grid0.coords t) ↔ t.val % 11 = 10 := by
  have ht := lt_N t
  have e1 := coord1 t
  simp only [Last, k0_cond3, e1]
  word_cmp

/-- A point's slab is the slab of its column block. -/
theorem off2_eq (t : Fin cfg0.N) : k0_off2 (grid0.coords t) = ![t.val % 11, 0, 0] := by
  have ht := lt_N t
  have e1 := coord1 t
  have e : (Scalar.indexCast (BitVec.ofNat 32 (t.val / 1 % 11)) : Index).toNat = t.val % 11 := by
    rw [Nat.div_one]
    have : t.val % 11 < 11 := Nat.mod_lt _ (by decide)
    exact (by decide : ∀ k : Fin 11, (Scalar.indexCast (BitVec.ofNat 32 k.val) : Index).toNat = k.val) ⟨t.val % 11, this⟩
  simp only [k0_off2, e1, e]

/-- A window read at equal offsets. -/
theorem window_off {s : Shape} {α : Type} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

/-- A slab buffer before point `n` that holds the rows `f k` of each of the last eleven points `k`. -/
def Kept (f : Fin cfg0.N → Vec F S1x8x512 .f32) (P : Vec F S11x8x512 .f32) (n : ℕ) : Prop :=
  ∀ k : Fin cfg0.N, k.val < n → n ≤ k.val + 11 → VecWindow.window P (k0_off2 (grid0.coords k)) S1x8x512.size (k0_off2_inb _) = f k

/-- The rows a point finds in its slab: those of the same column block one row block up, and none above the first. -/
def above (f : Fin cfg0.N → Vec F S1x8x512 .f32) (z : Vec F S1x8x512 .f32) (t : Fin cfg0.N) : Vec F S1x8x512 .f32 :=
  if h : 11 ≤ t.val then f ⟨t.val - 11, lt_of_le_of_lt (Nat.sub_le _ _) t.isLt⟩ else z

/-- A point reads those rows. -/
theorem slabIn_eq {f : Fin cfg0.N → Vec F S1x8x512 .f32} {P : Vec F S11x8x512 .f32} (z : Vec F S1x8x512 .f32) (t : Fin cfg0.N) (hP : Kept f P t.val) :
    slabIn (grid0.coords t) z P = above f z t := by
  unfold slabIn slabs above
  by_cases h : 11 ≤ t.val
  · rw [if_neg (fun e => absurd ((top_iff t).mp e) (by omega)), dif_pos h, ← hP ⟨t.val - 11, _⟩ (by show t.val - 11 < t.val; omega) (by show t.val ≤ t.val - 11 + 11; omega)]
    refine window_off _ ?_ _ _
    rw [off2_eq, off2_eq]
    have : (t.val - 11) % 11 = t.val % 11 := by omega
    simp only [this]
  · rw [if_pos ((top_iff t).mpr (by omega)), dif_neg h, VecWindow.window_put_same]

/-- and leaves its own. -/
theorem kept_succ {f : Fin cfg0.N → Vec F S1x8x512 .f32} {P : Vec F S11x8x512 .f32} (z : Vec F S1x8x512 .f32) (t : Fin cfg0.N) (hP : Kept f P t.val) :
    Kept f (slabOut (grid0.coords t) z P (f t)) (t.val + 1) := by
  intro k hk hk'
  unfold slabOut
  by_cases h : k = t
  · subst h; rw [VecWindow.window_put_same]
  · have hlt : k.val < t.val := lt_of_le_of_ne (Nat.lt_succ_iff.mp hk) fun e => h (Fin.ext e)
    have hd : k.val % 11 ≠ t.val % 11 := by omega
    have ho : k0_off2 (grid0.coords k) 0 + 1 ≤ k0_off2 (grid0.coords t) 0 ∨ k0_off2 (grid0.coords t) 0 + 1 ≤ k0_off2 (grid0.coords k) 0 := by
      rw [off2_eq, off2_eq]
      show k.val % 11 + 1 ≤ t.val % 11 ∨ t.val % 11 + 1 ≤ k.val % 11
      omega
    rw [VecWindow.window_put_of_disjoint _ _ _ _ _ _ _ 0 ho]
    unfold slabs
    by_cases h' : Top (grid0.coords t)
    · rw [if_pos h', VecWindow.window_put_of_disjoint _ _ _ _ _ _ _ 0 ho]
      exact hP k hlt (by omega)
    · rw [if_neg h']; exact hP k hlt (by omega)

variable (m : (ℓ : Loc nD τ sig) → Buf (Elt F) ℓ) (c : Dev nD)

/-- A point's blocks: the rows' activations, the residual's, the two column blocks of the up projection, of the taps and of
    the biases, the rows of the down projection and the norm's scale. -/
abbrev bA (t : Fin cfg0.N) : Vec F S512x2048 .bf16 := iblk m c 0 t
abbrev bH (t : Fin cfg0.N) : Vec F S512x2048 .f32 := iblk m c 1 t
abbrev bG (t : Fin cfg0.N) : Vec F S2048x512 .bf16 := iblk m c 2 t
abbrev bU (t : Fin cfg0.N) : Vec F S2048x512 .bf16 := iblk m c 3 t
abbrev bTg (t : Fin cfg0.N) : Vec F S3x512 .f32 := iblk m c 4 t
abbrev bTu (t : Fin cfg0.N) : Vec F S3x512 .f32 := iblk m c 5 t
abbrev bBg (t : Fin cfg0.N) : Vec F S1x512 .f32 := iblk m c 6 t
abbrev bBu (t : Fin cfg0.N) : Vec F S1x512 .f32 := iblk m c 7 t
abbrev bD (t : Fin cfg0.N) : Vec F S512x2048 .bf16 := iblk m c 8 t
abbrev bN (t : Fin cfg0.N) : Vec F S1x2048 .f32 := iblk m c 9 t

/-- The eight rows a point leaves below it, of the gate's columns and of the values'. -/
def rowsG (t : Fin cfg0.N) : Vec F S1x8x512 .f32 := k0_pay11 (bA m c t) (bG m c t)
def rowsU (t : Fin cfg0.N) : Vec F S1x8x512 .f32 := k0_pay18 (k0_pay6 (bA m c t)) (bU m c t)

/-- A point's part of its row block's down projection. -/
def partAt (t : Fin cfg0.N) : FVec F S512x2048 .f32 :=
  part (bA m c t) (bG m c t) (bU m c t) (bTg m c t) (bTu m c t) (bBg m c t) (bBu m c t) (bD m c t)
    (above (rowsG m c) k0_pay4 t) (above (rowsU m c) k0_pay5 t)

/-- The accumulator after a point. -/
def accAt : (n : ℕ) → n < cfg0.N → Vec F S512x2048 .f32
  | 0, h => k0_pay1 k0_pay3 (partAt m c ⟨0, h⟩)
  | n + 1, h => k0_pay1 (if (n + 1) % 11 = 0 then k0_pay3 else accAt n (Nat.lt_of_succ_lt h)) (partAt m c ⟨n + 1, h⟩)

/-- What the accumulator and the two slab buffers hold before point `n`. -/
def Good (n : ℕ) (hn : n ≤ cfg0.N) (acc : Vec F S512x2048 .f32) (P P' : Vec F S11x8x512 .f32) : Prop :=
  (∀ h : 0 < n, acc = accAt m c (n - 1) (by omega)) ∧ Kept (rowsG m c) P n ∧ Kept (rowsU m c) P' n

/-- The accumulator after a point, from what the point finds. -/
theorem acc_eq (t : Fin cfg0.N) {acc : Vec F S512x2048 .f32} {P P' : Vec F S11x8x512 .f32} (h : Good m c t.val (Nat.le_of_lt t.isLt) acc P P') :
    accAt m c t.val t.isLt = k0_pay1 (accIn (grid0.coords t) acc) (part (bA m c t) (bG m c t) (bU m c t) (bTg m c t) (bTu m c t) (bBg m c t) (bBu m c t) (bD m c t)
      (slabIn (grid0.coords t) k0_pay4 P) (slabIn (grid0.coords t) k0_pay5 P')) := by
  rw [slabIn_eq k0_pay4 t h.2.1, slabIn_eq k0_pay5 t h.2.2]
  obtain ⟨n, hn⟩ := t
  unfold accIn
  cases n with
  | zero => rw [if_pos ((first_iff _).mpr rfl)]; rfl
  | succ n =>
    by_cases h0 : (n + 1) % 11 = 0
    · rw [if_pos ((first_iff _).mpr h0)]; show k0_pay1 (if (n + 1) % 11 = 0 then _ else _) _ = _; rw [if_pos h0]; rfl
    · rw [if_neg (fun e => h0 ((first_iff _).mp e)), h.1 (Nat.succ_pos n)]
      show k0_pay1 (if (n + 1) % 11 = 0 then _ else _) _ = _; rw [if_neg h0]; rfl

/-- A point hands the next what it should. -/
theorem good_succ (t : Fin cfg0.N) {acc : Vec F S512x2048 .f32} {P P' : Vec F S11x8x512 .f32} (h : Good m c t.val (Nat.le_of_lt t.isLt) acc P P') :
    Good m c (t.val + 1) t.isLt (accAt m c t.val t.isLt) (slabOut (grid0.coords t) k0_pay4 P (rowsG m c t)) (slabOut (grid0.coords t) k0_pay5 P' (rowsU m c t)) :=
  ⟨fun _ => rfl, kept_succ k0_pay4 t h.2.1, kept_succ k0_pay5 t h.2.2⟩

end Cert.Proof.Ffn

end
-- ==== Proof.FfnVal.lean ====
/-
  The feed-forward kernel at the exact instance: its blocks and its body's values read at an index.
-/
module

public import proofs.«01_k».proof.Proof.FfnPts
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Ffn

open Cert.Kernel3Ideal Cert.Kernel3Ideal.Gen
open Idealize.ShloMosaic Idealize.SL.Sem

/-- The up projection's block at an index; -/
theorem pay8_apply (x : Vec Ideal S512x2048 .bf16) (w : Vec Ideal S2048x512 .bf16) (r cc : Fin 512) :
    k0_pay8 x w (ix2 r cc) = ∑ k : Fin 2048, x (ix2 r k) * w (ix2 k cc) := by
  unfold k0_pay8; pointwise [k0_pay6]
theorem pay9_apply (x : Vec Ideal S512x2048 .bf16) (w : Vec Ideal S2048x512 .bf16) (r cc : Fin 512) :
    k0_pay9 x w (ix2 r cc) = ∑ k : Fin 2048, x (ix2 r k) * w (ix2 k cc) := by
  unfold k0_pay9; pointwise [k0_pay8, k0_pay6]
theorem pay15_apply (x : Vec Ideal S512x2048 .bf16) (w : Vec Ideal S2048x512 .bf16) (r cc : Fin 512) :
    k0_pay15 (k0_pay6 x) w (ix2 r cc) = ∑ k : Fin 2048, x (ix2 r k) * w (ix2 k cc) := by
  unfold k0_pay15; pointwise [k0_pay6]
theorem pay16_apply (x : Vec Ideal S512x2048 .bf16) (w : Vec Ideal S2048x512 .bf16) (r cc : Fin 512) :
    k0_pay16 (k0_pay6 x) w (ix2 r cc) = ∑ k : Fin 2048, x (ix2 r k) * w (ix2 k cc) := by
  unfold k0_pay16; pointwise [k0_pay15, k0_pay6]

/-- the last eight rows of it, as the tail and as a slab; -/
theorem pay10_apply (x : Vec Ideal S512x2048 .bf16) (w : Vec Ideal S2048x512 .bf16) (r : Fin 8) (cc : Fin 512) :
    k0_pay10 x w (ix2 r cc) = k0_pay8 x w (ix2 ⟨504 + r.val, by omega⟩ cc) := by
  unfold k0_pay10; pointwise [k0_pay8, k0_pay6]
theorem pay17_apply (x : Vec Ideal S512x2048 .bf16) (w : Vec Ideal S2048x512 .bf16) (r : Fin 8) (cc : Fin 512) :
    k0_pay17 (k0_pay6 x) w (ix2 r cc) = k0_pay8 x w (ix2 ⟨504 + r.val, by omega⟩ cc) := by
  unfold k0_pay17 k0_pay8; pointwise [k0_pay15, k0_pay6]
theorem pay11_apply (x : Vec Ideal S512x2048 .bf16) (w : Vec Ideal S2048x512 .bf16) (r : Fin 8) (cc : Fin 512) :
    k0_pay11 x w (ix3 0 r cc) = k0_pay8 x w (ix2 ⟨504 + r.val, by omega⟩ cc) := by
  unfold k0_pay11 k0_pay8; pointwise [k0_pay10, k0_pay8, k0_pay6]
theorem pay18_apply (x : Vec Ideal S512x2048 .bf16) (w : Vec Ideal S2048x512 .bf16) (r : Fin 8) (cc : Fin 512) :
    k0_pay18 (k0_pay6 x) w (ix3 0 r cc) = k0_pay8 x w (ix2 ⟨504 + r.val, by omega⟩ cc) := by
  unfold k0_pay18 k0_pay8; pointwise [k0_pay17, k0_pay15, k0_pay6]

theorem pay4_apply (i : S1x8x512.Idx) : k0_pay4 (F := Ideal) i = 0 := by
  unfold k0_pay4; pointwise
theorem pay5_apply (i : S1x8x512.Idx) : k0_pay5 (F := Ideal) i = 0 := by
  unfold k0_pay5; pointwise
theorem pay3_apply (i : S512x2048.Idx) : k0_pay3 (F := Ideal) i = 0 := by
  unfold k0_pay3; pointwise
theorem pay7_apply (s : Vec Ideal S1x8x512 .f32) (r : Fin 8) (cc : Fin 512) : k0_pay7 s (ix2 r cc) = s (ix3 0 r cc) := by
  unfold k0_pay7; pointwise
theorem pay14_apply (s : Vec Ideal S1x8x512 .f32) (r : Fin 8) (cc : Fin 512) : k0_pay14 s (ix2 r cc) = s (ix3 0 r cc) := by
  unfold k0_pay14; pointwise
theorem pay1_apply (x y : Vec Ideal S512x2048 .f32) (i : S512x2048.Idx) : k0_pay1 x y i = x i + y i := by
  unfold k0_pay1; pointwise
theorem pay2_apply (h x : Vec Ideal S512x2048 .f32) (w : Vec Ideal S1x2048 .f32) (r : Fin 512) (d : Fin 2048) : k0_pay2 h x w (ix2 r d) =
   h (ix2 r d) + x (ix2 r d) * Ideal.rsqrt (Ideal.div (∑ k, x (ix2 r k) * x (ix2 r k)) (Ideal.ofBits FTy.f32 1157627904#32) + Ideal.ofBits FTy.f32 897988541#32) * w (ix2 0 d) := by
  unfold k0_pay2; pointwise
theorem pay13_apply (u x2 x1 : Vec Ideal S512x512 .f32) (w0 w1 w2 b : Vec Ideal S1x512 .f32) (r cc : Fin 512) :
    k0_pay13 u x2 (k0_pay12 w0) x1 w1 w2 b (ix2 r cc) = x2 (ix2 r cc) * w0 (ix2 0 cc) + x1 (ix2 r cc) * w1 (ix2 0 cc) + u (ix2 r cc) * w2 (ix2 0 cc) + b (ix2 0 cc) := by
  unfold k0_pay13 k0_pay12; pointwise
theorem pay19_apply (g u x2 x1 : Vec Ideal S512x512 .f32) (w0 w1 w2 b : Vec Ideal S1x512 .f32) (wd : Vec Ideal S512x2048 .bf16) (r : Fin 512) (d : Fin 2048) :
    k0_pay19 g u x2 w0 x1 w1 w2 b wd (ix2 r d) = ∑ cc : Fin 512,
      Ideal.ofBits FTy.f32 1056964608#32 * g (ix2 r cc) * (1 + Ideal.tanh (Ideal.ofBits FTy.f32 1061962282#32 * (g (ix2 r cc) + Ideal.ofBits FTy.f32 1027024659#32 * (g (ix2 r cc) * g (ix2 r cc) * g (ix2 r cc)))))
       * (x2 (ix2 r cc) * w0 (ix2 0 cc) + x1 (ix2 r cc) * w1 (ix2 0 cc) + u (ix2 r cc) * w2 (ix2 0 cc) + b (ix2 0 cc)) * wd (ix2 cc d) := by
  unfold k0_pay19; pointwise

variable (m : (ℓ : Loc nD τ sig) → Buf (Elt Ideal) ℓ) (c : Dev nD)

/-- The kernel's argument arrays. -/
abbrev kA : S8192x2048.Idx → EReal := m ((c.tc : Thread nD τ).loc main_arg0)
abbrev kH : S8192x2048.Idx → EReal := m ((c.tc : Thread nD τ).loc main_arg1)
abbrev kW : S1x2048x11264.Idx → EReal := m ((c.tc : Thread nD τ).loc main_arg2)
abbrev kT : S1x3x11264.Idx → EReal := m ((c.tc : Thread nD τ).loc main_arg3)
abbrev kB : S1x11264.Idx → EReal := m ((c.tc : Thread nD τ).loc main_arg4)
abbrev kD : S1x5632x2048.Idx → EReal := m ((c.tc : Thread nD τ).loc main_arg5)
abbrev kN : S1x2048.Idx → EReal := m ((c.tc : Thread nD τ).loc main_arg6)

theorem idx (t : Fin cfg0.N) : win0_0.index t = ![t.val / 11, 0] ∧ win0_1.index t = ![t.val / 11, 0] ∧ win0_2.index t = ![0, t.val % 11] ∧ win0_3.index t = ![0, 11 + t.val % 11]
    ∧ win0_4.index t = ![0, t.val % 11] ∧ win0_5.index t = ![0, 11 + t.val % 11] ∧ win0_6.index t = ![0, t.val % 11] ∧ win0_7.index t = ![0, 11 + t.val % 11]
    ∧ win0_8.index t = ![t.val % 11, 0] ∧ win0_9.index t = ![0, 0] ∧ win0_10.index t = ![t.val / 11, 0] ∧ win0_11.index t = ![t.val / 11, t.val % 11] ∧ win0_12.index t = ![t.val / 11, t.val % 11] :=
  (by decide +kernel : ∀ t : Fin grid0.N, win0_0.index t = ![t.val / 11, 0] ∧ win0_1.index t = ![t.val / 11, 0] ∧ win0_2.index t = ![0, t.val % 11] ∧ win0_3.index t = ![0, 11 + t.val % 11]
    ∧ win0_4.index t = ![0, t.val % 11] ∧ win0_5.index t = ![0, 11 + t.val % 11] ∧ win0_6.index t = ![0, t.val % 11] ∧ win0_7.index t = ![0, 11 + t.val % 11]
    ∧ win0_8.index t = ![t.val % 11, 0] ∧ win0_9.index t = ![0, 0] ∧ win0_10.index t = ![t.val / 11, 0] ∧ win0_11.index t = ![t.val / 11, t.val % 11] ∧ win0_12.index t = ![t.val / 11, t.val % 11]) t

/-- A point's rows, and its columns of the gate, of the values and of the down projection. -/
def row (t : Fin cfg0.N) (r : Fin 512) : Fin 8192 := ⟨512 * (t.val / 11) + r.val, by have := lt_N t; omega⟩
def colG (t : Fin cfg0.N) (a : Fin 512) : Fin 11264 := ⟨512 * (t.val % 11) + a.val, by omega⟩
def colU (t : Fin cfg0.N) (a : Fin 512) : Fin 11264 := ⟨512 * (11 + t.val % 11) + a.val, by omega⟩
def colD (t : Fin cfg0.N) (a : Fin 512) : Fin 5632 := ⟨512 * (t.val % 11) + a.val, by omega⟩

/-- The arrays the region finds. -/
theorem V_up : V m c main_v1 = shapeCast _ (kW m c) shapeCasts_S1x2048x11264_S2048x11264 := rfl
theorem V_down : V m c main_v3 = shapeCast _ (kD m c) shapeCasts_S1x5632x2048_S5632x2048 := rfl
theorem V_taps : V m c main_v5 = shapeCast _ (kT m c) shapeCasts_S1x3x11264_S3x11264 := rfl
theorem V_bias : V m c main_v9 = shapeCast _ (shapeCast _ (kB m c) shapeCasts_S1x11264_S11264) shapeCasts_S11264_S1x11264 := rfl
theorem V_norm : V m c main_v8 = shapeCast _ (shapeCast _ (kN m c) shapeCasts_S1x2048_S2048) shapeCasts_S2048_S1x2048 := rfl

/-- The blocks at an index. -/
theorem blkA (t : Fin cfg0.N) (r : Fin 512) (a : Fin 2048) : bA m c t (ix2 r a) = kA m c (ix2 (row t r) a) := by
  unfold row
  blk_ext [bA, iblk, V, idx t]
theorem blkH (t : Fin cfg0.N) (r : Fin 512) (a : Fin 2048) : bH m c t (ix2 r a) = kH m c (ix2 (row t r) a) := by
  unfold row
  blk_ext [bH, iblk, V, idx t]
theorem blkG (t : Fin cfg0.N) (k : Fin 2048) (a : Fin 512) : bG m c t (ix2 k a) = kW m c (ix3 0 k (colG t a)) := by
  have e : bG m c t (ix2 k a) = V m c main_v1 (ix2 k (colG t a)) := by unfold colG; blk_ext [bG, iblk, idx t]
  rw [e, V_up]; pointwise
theorem blkU (t : Fin cfg0.N) (k : Fin 2048) (a : Fin 512) : bU m c t (ix2 k a) = kW m c (ix3 0 k (colU t a)) := by
  have e : bU m c t (ix2 k a) = V m c main_v1 (ix2 k (colU t a)) := by unfold colU; blk_ext [bU, iblk, idx t]
  rw [e, V_up]; pointwise
theorem blkTg (t : Fin cfg0.N) (k : Fin 3) (a : Fin 512) : bTg m c t (ix2 k a) = kT m c (ix3 0 k (colG t a)) := by
  have e : bTg m c t (ix2 k a) = V m c main_v5 (ix2 k (colG t a)) := by unfold colG; blk_ext [bTg, iblk, idx t]
  rw [e, V_taps]; pointwise
theorem blkTu (t : Fin cfg0.N) (k : Fin 3) (a : Fin 512) : bTu m c t (ix2 k a) = kT m c (ix3 0 k (colU t a)) := by
  have e : bTu m c t (ix2 k a) = V m c main_v5 (ix2 k (colU t a)) := by unfold colU; blk_ext [bTu, iblk, idx t]
  rw [e, V_taps]; pointwise
theorem blkBg (t : Fin cfg0.N) (a : Fin 512) : bBg m c t (ix2 0 a) = kB m c (ix2 0 (colG t a)) := by
  have e : bBg m c t (ix2 0 a) = V m c main_v9 (ix2 0 (colG t a)) := by unfold colG; blk_ext [bBg, iblk, idx t]
  rw [e, V_bias]; pointwise
theorem blkBu (t : Fin cfg0.N) (a : Fin 512) : bBu m c t (ix2 0 a) = kB m c (ix2 0 (colU t a)) := by
  have e : bBu m c t (ix2 0 a) = V m c main_v9 (ix2 0 (colU t a)) := by unfold colU; blk_ext [bBu, iblk, idx t]
  rw [e, V_bias]; pointwise
theorem blkD (t : Fin cfg0.N) (a : Fin 512) (d : Fin 2048) : bD m c t (ix2 a d) = kD m c (ix3 0 (colD t a) d) := by
  have e : bD m c t (ix2 a d) = V m c main_v3 (ix2 (colD t a) d) := by unfold colD; blk_ext [bD, iblk, idx t]
  rw [e, V_down]; pointwise
theorem blkN (t : Fin cfg0.N) (d : Fin 2048) : bN m c t (ix2 0 d) = kN m c (ix2 0 d) := by
  have e : bN m c t (ix2 0 d) = V m c main_v8 (ix2 0 d) := by blk_ext [bN, iblk, idx t]
  rw [e, V_norm]; pointwise

end Cert.Proof.Ffn

end
-- ==== Proof.FfnRef.lean ====
/-
  The feed-forward reference at the exact instance: its results' composed terms in four named steps, each read at an index.
-/
module

public import proofs.«01_k».proof.Proof.Gen.Reference3Ideal.Run
public import Idealize.ShloMosaic.Lib.Pointwise

@[expose] public section

set_option maxRecDepth 16384

noncomputable section

namespace Cert.Proof.FfnRef

open Idealize.ShloMosaic Idealize.SL.Sem Cert.Reference3Ideal Cert.Reference3Ideal.Gen Cert.Reference3Ideal.Value
open Idealize.ShloMosaic.StableHlo

/-- The up projection; -/
def up (a : FVec Ideal S8192x2048 .f32) (w : FVec Ideal S1x2048x11264 .f32) : FVec Ideal S8192x11264 .f32 :=
  Host.dotGeneral dot_S8192x2048_S2048x11264_S8192x11264_1_0_0_1_n_n none a (shapeCast _ w shapeCasts_S1x2048x11264_S2048x11264)

/-- the projection below two rows of zeros; -/
def padded (u : FVec Ideal S8192x11264 .f32) : FVec Ideal S8194x11264 .f32 :=
  concatenate S8194x11264 0 [⟨S2x11264, (broadcastInDim S2x11264 ![] bcast_S_S2x11264 (constant (F := Ideal) S_ .f32 0x00000000#32))⟩, ⟨S8192x11264, u⟩] concatenates_S2x11264_S8192x11264_S8194x11264_d0

/-- one of the convolution's taps along every row; -/
def tapRow (w : FVec Ideal S1x1x11264 .f32) : FVec Ideal S8192x11264 .f32 :=
  broadcastInDim S8192x11264 ![0, 1] bcast_S1x11264_S8192x11264_0_1 (broadcastInDim S1x11264 ![1] bcast_S11264_S1x11264_1 (shapeCast _ w shapeCasts_S1x1x11264_S11264))

/-- the convolution; -/
def conv (U : FVec Ideal S8194x11264 .f32) (w : FVec Ideal S1x3x11264 .f32) (b : FVec Ideal S1x11264 .f32) : FVec Ideal S8192x11264 .f32 :=
  addf (addf (addf (broadcastInDim S8192x11264 ![0, 1] bcast_S1x11264_S8192x11264_0_1 (broadcastInDim S1x11264 ![1] bcast_S11264_S1x11264_1 (shapeCast _ b shapeCasts_S1x11264_S11264)))
    (mulf (extractStridedSlice S8192x11264 ![0, 0] U slices_S8194x11264_S8192x11264_0_0) (tapRow (extractStridedSlice S1x1x11264 ![0, 0, 0] w slices_S1x3x11264_S1x1x11264_0_0_0))))
    (mulf (extractStridedSlice S8192x11264 ![1, 0] U slices_S8194x11264_S8192x11264_1_0) (tapRow (extractStridedSlice S1x1x11264 ![0, 1, 0] w slices_S1x3x11264_S1x1x11264_0_1_0))))
    (mulf (extractStridedSlice S8192x11264 ![2, 0] U slices_S8194x11264_S8192x11264_2_0) (tapRow (extractStridedSlice S1x1x11264 ![0, 2, 0] w slices_S1x3x11264_S1x1x11264_0_2_0)))

/-- the gated values, the gate through the activation; -/
def gated (g v : FVec Ideal S8192x5632 .f32) : FVec Ideal S8192x5632 .f32 :=
  mulf (mulf g (mulf (broadcastInDim S8192x5632 ![] bcast_S_S8192x5632 (constant (F := Ideal) S_ .f32 0x3F000000#32)) (addf (broadcastInDim S8192x5632 ![] bcast_S_S8192x5632 (constant (F := Ideal) S_ .f32 0x3F800000#32)) (Host.tanh (mulf (broadcastInDim S8192x5632 ![] bcast_S_S8192x5632 (constant (F := Ideal) S_ .f32 0x3F4C422A#32)) (addf g (mulf (broadcastInDim S8192x5632 ![] bcast_S_S8192x5632 (constant (F := Ideal) S_ .f32 0x3D372713#32)) (mulf (mulf g g) g)))))))) v

/-- the down projection; -/
def down (g : FVec Ideal S8192x5632 .f32) (w : FVec Ideal S1x5632x2048 .f32) : FVec Ideal S8192x2048 .f32 :=
  Host.dotGeneral dot_S8192x5632_S5632x2048_S8192x2048_1_0_0_1_n_n none g (shapeCast _ w shapeCasts_S1x5632x2048_S5632x2048)

/-- the residual plus the normed projection. -/
def normed (h f : FVec Ideal S8192x2048 .f32) (w : FVec Ideal S1x2048 .f32) : FVec Ideal S8192x2048 .f32 :=
  addf h (mulf (mulf f (broadcastInDim S8192x2048 ![0, 1] bcast_S8192x1_S8192x2048_0_1 (Host.rsqrt (addf (Host.divf (broadcastInDim S8192x1 ![0] bcast_S8192_S8192x1_0 (Host.reduceAdd (mulf f f) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x358637BD#32)))))) (broadcastInDim S8192x2048 ![0, 1] bcast_S1x2048_S8192x2048_0_1 (broadcastInDim S1x2048 ![1] bcast_S2048_S1x2048_1 (shapeCast _ w shapeCasts_S1x2048_S2048))))

theorem up_apply (a : FVec Ideal S8192x2048 .f32) (w : FVec Ideal S1x2048x11264 .f32) (n : Fin 8192) (j : Fin 11264) :
    up a w (ix2 n j) = ∑ k : Fin 2048, a (ix2 n k) * w (ix3 0 k j) := by
  unfold up; pointwise

theorem padded_apply (u : FVec Ideal S8192x11264 .f32) (n : Fin 8194) (j : Fin 11264) :
    padded u (ix2 n j) = if h : 2 ≤ n.val then u (ix2 ⟨n.val - 2, by omega⟩ j) else 0 := by
  unfold padded; pointwise
  by_cases h : n.val < 2
  · rw [dif_pos h, dif_neg (by omega)]
  · rw [dif_neg h, dif_pos (by omega)]

theorem tapRow_apply (w : FVec Ideal S1x1x11264 .f32) (n : Fin 8192) (j : Fin 11264) : tapRow w (ix2 n j) = w (ix3 0 0 j) := by
  unfold tapRow; pointwise

theorem conv_apply (U : FVec Ideal S8194x11264 .f32) (w : FVec Ideal S1x3x11264 .f32) (b : FVec Ideal S1x11264 .f32) (n : Fin 8192) (j : Fin 11264) :
    conv U w b (ix2 n j) = b (ix2 0 j) + U (ix2 ⟨n.val, by omega⟩ j) * w (ix3 0 0 j) + U (ix2 ⟨1 + n.val, by omega⟩ j) * w (ix3 0 1 j) + U (ix2 ⟨2 + n.val, by omega⟩ j) * w (ix3 0 2 j) := by
  unfold conv; pointwise [tapRow]

theorem gated_apply (g v : FVec Ideal S8192x5632 .f32) (i : S8192x5632.Idx) : gated g v i =
    g i * (Ideal.ofBits FTy.f32 1056964608#32 * (1 + Ideal.tanh (Ideal.ofBits FTy.f32 1061962282#32 * (g i + Ideal.ofBits FTy.f32 1027024659#32 * (g i * g i * g i))))) * v i := by
  unfold gated; pointwise

theorem down_apply (g : FVec Ideal S8192x5632 .f32) (w : FVec Ideal S1x5632x2048 .f32) (n : Fin 8192) (d : Fin 2048) :
    down g w (ix2 n d) = ∑ k : Fin 5632, g (ix2 n k) * w (ix3 0 k d) := by
  unfold down; pointwise

theorem normed_apply (h f : FVec Ideal S8192x2048 .f32) (w : FVec Ideal S1x2048 .f32) (n : Fin 8192) (d : Fin 2048) :
    normed h f w (ix2 n d) =
    h (ix2 n d) + f (ix2 n d) * Ideal.rsqrt (Ideal.div (∑ x, f (ix2 n x) * f (ix2 n x)) (Ideal.ofBits FTy.f32 1157627904#32) + Ideal.ofBits FTy.f32 897988541#32) * w (ix2 0 d) := by
  unfold normed; pointwise

/-- The projection's last eight rows of each of the sixteen row blocks. -/
def tails (u : FVec Ideal S8192x11264 .f32) : FVec Ideal S128x11264 .f32 :=
  shapeCast _ (extractStridedSlice S16x8x11264 ![0, 504, 0] (shapeCast _ u shapeCasts_S8192x11264_S16x512x11264) slices_S16x512x11264_S16x8x11264_0_504_0) shapeCasts_S16x8x11264_S128x11264

theorem tails_apply (u : FVec Ideal S8192x11264 .f32) (i : Fin 16) (q : Fin 8) (j : Fin 11264) :
    tails u (ix2 ⟨8 * i.val + q.val, by omega⟩ j) = u (ix2 ⟨512 * i.val + (504 + q.val), by omega⟩ j) := by
  unfold tails; pointwise
  exact congrArg (fun z => u (ix2 z j)) (Fin.ext (by show i.val * 512 + (504 + q.val) = 512 * i.val + (504 + q.val); omega))

variable (m : (ℓ : Loc nD τ sig) → Buf (Elt Ideal) ℓ) (c : Dev nD)

theorem res_eq : res_main_v63 m c = normed (m ((c.tc : Thread nD τ).loc main_arg1))
    (down (gated (extractStridedSlice S8192x5632 ![0, 0] (conv (padded (up (m ((c.tc : Thread nD τ).loc main_arg0)) (m ((c.tc : Thread nD τ).loc main_arg2)))) (m ((c.tc : Thread nD τ).loc main_arg3)) (m ((c.tc : Thread nD τ).loc main_arg4))) slices_S8192x11264_S8192x5632_0_0)
      (extractStridedSlice S8192x5632 ![0, 5632] (conv (padded (up (m ((c.tc : Thread nD τ).loc main_arg0)) (m ((c.tc : Thread nD τ).loc main_arg2)))) (m ((c.tc : Thread nD τ).loc main_arg3)) (m ((c.tc : Thread nD τ).loc main_arg4))) slices_S8192x11264_S8192x5632_0_5632))
      (m ((c.tc : Thread nD τ).loc main_arg5))) (m ((c.tc : Thread nD τ).loc main_arg6)) := by
  unfold res_main_v63; rfl

end Cert.Proof.FfnRef

end
-- ==== Proof.FfnPoint.lean ====
/-
  A point of the feed-forward kernel at the exact instance: its products are the reference's up projection at the point's
  rows and columns, its convolutions the reference's, and the accumulator after a row block's last column block is the
  reference's down projection.
-/
module

public import proofs.«01_k».proof.Proof.FfnVal
public import proofs.«01_k».proof.Proof.FfnRef

@[expose] public section

set_option maxRecDepth 16384

noncomputable section

namespace Cert.Proof.Ffn

open Cert.Kernel3Ideal Cert.Kernel3Ideal.Gen
open Idealize.ShloMosaic Idealize.SL.Sem
open Cert.Proof.FfnRef (up padded conv gated down normed)

/-- The carried rows and the tile's below them, at an index. -/
theorem rows_apply (s : FVec Ideal S8x512 .f32) (u : FVec Ideal S512x512 .f32) (q : Fin 520) (a : Fin 512) :
    rows s u (ix2 q a) = if h : q.val < 8 then s (ix2 ⟨q.val, h⟩ a) else u (ix2 ⟨q.val - 8, by omega⟩ a) := by
  unfold rows
  by_cases h : q.val < 8
  · rw [dif_pos h]
    have h1 : ¬ ∀ x : Fin 2, (![8, 0] : Fin 2 → ℕ) x ≤ (ix2 q a x).val ∧ (ix2 q a x).val < (![8, 0] : Fin 2 → ℕ) x + S512x512.size x := fun e => by
      have := (e 0).1
      have e' : (8 : ℕ) ≤ q.val := this
      omega
    have h2 : ∀ x : Fin 2, (![0, 0] : Fin 2 → ℕ) x ≤ (ix2 q a x).val ∧ (ix2 q a x).val < (![0, 0] : Fin 2 → ℕ) x + S8x512.size x :=
      Fin.forall_fin_two.mpr ⟨⟨Nat.zero_le _, by show q.val < 0 + 8; omega⟩, ⟨Nat.zero_le _, by show a.val < 0 + 512; omega⟩⟩
    refine (dif_neg h1).trans ((dif_pos h2).trans (congrArg s (funext (Fin.forall_fin_two.mpr ⟨Fin.ext ?_, Fin.ext ?_⟩))))
    · show q.val - 0 = q.val; omega
    · show a.val - 0 = a.val; omega
  · rw [dif_neg h]
    have h2 : ∀ x : Fin 2, (![8, 0] : Fin 2 → ℕ) x ≤ (ix2 q a x).val ∧ (ix2 q a x).val < (![8, 0] : Fin 2 → ℕ) x + S512x512.size x :=
      Fin.forall_fin_two.mpr ⟨⟨by show 8 ≤ q.val; omega, by show q.val < 8 + 512; omega⟩, ⟨Nat.zero_le _, by show a.val < 0 + 512; omega⟩⟩
    refine (dif_pos h2).trans (congrArg u (funext (Fin.forall_fin_two.mpr ⟨Fin.ext ?_, Fin.ext ?_⟩)))
    · show q.val - 8 = q.val - 8; rfl
    · show a.val - 0 = a.val; omega

theorem back2_apply (R : Vec Ideal S520x512 .f32) (r a : Fin 512) : back2 R (ix2 r a) = R (ix2 ⟨6 + r.val, by omega⟩ a) :=
  congrArg R (funext (Fin.forall_fin_two.mpr ⟨Fin.ext (by show 6 + 1 * r.val = 6 + r.val; omega), Fin.ext (by show 0 + 1 * a.val = a.val; omega)⟩))
theorem back1_apply (R : Vec Ideal S520x512 .f32) (r a : Fin 512) : back1 R (ix2 r a) = R (ix2 ⟨7 + r.val, by omega⟩ a) :=
  congrArg R (funext (Fin.forall_fin_two.mpr ⟨Fin.ext (by show 7 + 1 * r.val = 7 + r.val; omega), Fin.ext (by show 0 + 1 * a.val = a.val; omega)⟩))
theorem tap0_apply (w : Vec Ideal S3x512 .f32) (a : Fin 512) : tap0 w (ix2 0 a) = w (ix2 0 a) :=
  congrArg w (funext (Fin.forall_fin_two.mpr ⟨Fin.ext (by show 0 + 1 * 0 = 0; omega), Fin.ext (by show 0 + 1 * a.val = a.val; omega)⟩))
theorem tap1_apply (w : Vec Ideal S3x512 .f32) (a : Fin 512) : tap1 w (ix2 0 a) = w (ix2 1 a) :=
  congrArg w (funext (Fin.forall_fin_two.mpr ⟨Fin.ext (by show 1 + 1 * 0 = 1; omega), Fin.ext (by show 0 + 1 * a.val = a.val; omega)⟩))
theorem tap2_apply (w : Vec Ideal S3x512 .f32) (a : Fin 512) : tap2 w (ix2 0 a) = w (ix2 2 a) :=
  congrArg w (funext (Fin.forall_fin_two.mpr ⟨Fin.ext (by show 2 + 1 * 0 = 2; omega), Fin.ext (by show 0 + 1 * a.val = a.val; omega)⟩))

variable (m : (ℓ : Loc nD τ sig) → Buf (Elt Ideal) ℓ) (c : Dev nD)

/-- The reference's steps at the kernel's arguments: the up projection, the convolution, the gated values and the down projection. -/
def kUp : FVec Ideal Cert.Reference3Ideal.S8192x11264 .f32 := up (kA m c) (kW m c)
def kConv : FVec Ideal Cert.Reference3Ideal.S8192x11264 .f32 := conv (padded (kUp m c)) (kT m c) (kB m c)
def kGate : FVec Ideal Cert.Reference3Ideal.S8192x5632 .f32 :=
  gated (extractStridedSlice Cert.Reference3Ideal.S8192x5632 ![0, 0] (kConv m c) Cert.Reference3Ideal.Gen.slices_S8192x11264_S8192x5632_0_0)
    (extractStridedSlice Cert.Reference3Ideal.S8192x5632 ![0, 5632] (kConv m c) Cert.Reference3Ideal.Gen.slices_S8192x11264_S8192x5632_0_5632)
def kDown : FVec Ideal S8192x2048 .f32 := down (kGate m c) (kD m c)

/-- A point's products. -/
theorem upG (t : Fin cfg0.N) (r a : Fin 512) : k0_pay8 (bA m c t) (bG m c t) (ix2 r a) = kUp m c (ix2 (row t r) (colG t a)) := by
  rw [pay8_apply, kUp, FfnRef.up_apply]
  exact Finset.sum_congr rfl fun k _ => by rw [blkA, blkG]
theorem upU (t : Fin cfg0.N) (r a : Fin 512) : k0_pay8 (bA m c t) (bU m c t) (ix2 r a) = kUp m c (ix2 (row t r) (colU t a)) := by
  rw [pay8_apply, kUp, FfnRef.up_apply]
  exact Finset.sum_congr rfl fun k _ => by rw [blkA, blkU]

/-- The rows carried into a point's tile. -/
theorem aboveG (t : Fin cfg0.N) (q : Fin 8) (a : Fin 512) : above (rowsG m c) (k0_pay4 (F := Ideal)) t (ix3 0 q a) =
    if h : 11 ≤ t.val then kUp m c (ix2 ⟨512 * (t.val / 11) - 8 + q.val, by have := lt_N t; omega⟩ (colG t a)) else 0 := by
  unfold above
  by_cases h : 11 ≤ t.val
  · rw [dif_pos h, dif_pos h, rowsG, pay11_apply, upG]
    congr 2 <;> refine Fin.ext ?_
    · show 512 * ((t.val - 11) / 11) + (504 + q.val) = 512 * (t.val / 11) - 8 + q.val; omega
    · show 512 * ((t.val - 11) % 11) + a.val = 512 * (t.val % 11) + a.val; omega
  · rw [dif_neg h, dif_neg h, pay4_apply]
theorem aboveU (t : Fin cfg0.N) (q : Fin 8) (a : Fin 512) : above (rowsU m c) (k0_pay5 (F := Ideal)) t (ix3 0 q a) =
    if h : 11 ≤ t.val then kUp m c (ix2 ⟨512 * (t.val / 11) - 8 + q.val, by have := lt_N t; omega⟩ (colU t a)) else 0 := by
  unfold above
  by_cases h : 11 ≤ t.val
  · rw [dif_pos h, dif_pos h, rowsU, pay18_apply, upU]
    congr 2 <;> refine Fin.ext ?_
    · show 512 * ((t.val - 11) / 11) + (504 + q.val) = 512 * (t.val / 11) - 8 + q.val; omega
    · show 512 * (11 + (t.val - 11) % 11) + a.val = 512 * (11 + t.val % 11) + a.val; omega
  · rw [dif_neg h, dif_neg h, pay5_apply]

/-- A tile whose rows are an array's at the point, below the eight rows above them, moved down by two and by one: the array below two rows of zeros. -/
theorem moved (t : Fin cfg0.N) (s : FVec Ideal S8x512 .f32) (u : FVec Ideal S512x512 .f32) (W : FVec Ideal Cert.Reference3Ideal.S8192x11264 .f32) (col : Fin 11264) (a : Fin 512)
    (hu : ∀ r, u (ix2 r a) = W (ix2 (row t r) col))
    (hs : ∀ q : Fin 8, s (ix2 q a) = if h : 11 ≤ t.val then W (ix2 ⟨512 * (t.val / 11) - 8 + q.val, by have := lt_N t; omega⟩ col) else 0) (r : Fin 512) :
    back2 (rows s u) (ix2 r a) = padded W (ix2 ⟨(row t r).val, by omega⟩ col) ∧ back1 (rows s u) (ix2 r a) = padded W (ix2 ⟨1 + (row t r).val, by omega⟩ col)
      ∧ u (ix2 r a) = padded W (ix2 ⟨2 + (row t r).val, by omega⟩ col) := by
  have ht := lt_N t
  have hr : (row t r).val = 512 * (t.val / 11) + r.val := rfl
  rw [back2_apply, back1_apply, rows_apply, rows_apply, FfnRef.padded_apply, FfnRef.padded_apply, FfnRef.padded_apply]
  refine ⟨?_, ?_, ?_⟩
  · by_cases h : r.val < 2
    · rw [dif_pos (by show 6 + r.val < 8; omega), hs]
      by_cases h' : 11 ≤ t.val
      · rw [dif_pos h', dif_pos (by show 2 ≤ (row t r).val; omega)]
        congr 2; exact Fin.ext (by show 512 * (t.val / 11) - 8 + (6 + r.val) = (row t r).val - 2; omega)
      · rw [dif_neg h', dif_neg (by show ¬ 2 ≤ (row t r).val; omega)]
    · rw [dif_neg (by show ¬ 6 + r.val < 8; omega), hu, dif_pos (by show 2 ≤ (row t r).val; omega)]
      congr 2; exact Fin.ext (by show 512 * (t.val / 11) + (6 + r.val - 8) = (row t r).val - 2; omega)
  · by_cases h : r.val < 1
    · rw [dif_pos (by show 7 + r.val < 8; omega), hs]
      by_cases h' : 11 ≤ t.val
      · rw [dif_pos h', dif_pos (by show 2 ≤ 1 + (row t r).val; omega)]
        congr 2; exact Fin.ext (by show 512 * (t.val / 11) - 8 + (7 + r.val) = 1 + (row t r).val - 2; omega)
      · rw [dif_neg h', dif_neg (by show ¬ 2 ≤ 1 + (row t r).val; omega)]
    · rw [dif_neg (by show ¬ 7 + r.val < 8; omega), hu, dif_pos (by show 2 ≤ 1 + (row t r).val; omega)]
      congr 2; exact Fin.ext (by show 512 * (t.val / 11) + (7 + r.val - 8) = 1 + (row t r).val - 2; omega)
  · rw [hu, dif_pos (by show 2 ≤ 2 + (row t r).val; omega)]
    congr 2; exact Fin.ext (by show (row t r).val = 2 + (row t r).val - 2; omega)

/-- The reference's gated value at a point's row and column. -/
theorem gate_apply (t : Fin cfg0.N) (n : Fin 8192) (a : Fin 512) : kGate m c (ix2 n (colD t a)) =
    kConv m c (ix2 n (colG t a)) * (Ideal.ofBits FTy.f32 1056964608#32 * (1 + Ideal.tanh (Ideal.ofBits FTy.f32 1061962282#32 * (kConv m c (ix2 n (colG t a)) + Ideal.ofBits FTy.f32 1027024659#32 * (kConv m c (ix2 n (colG t a)) * kConv m c (ix2 n (colG t a)) * kConv m c (ix2 n (colG t a)))))))
      * kConv m c (ix2 n (colU t a)) := by
  have e1 : extractStridedSlice Cert.Reference3Ideal.S8192x5632 ![0, 0] (kConv m c) Cert.Reference3Ideal.Gen.slices_S8192x11264_S8192x5632_0_0 (ix2 n (colD t a)) = kConv m c (ix2 n (colG t a)) := by
    pointwise
    congr 2 <;> exact Fin.ext (by simp [colD, colG])
  have e2 : extractStridedSlice Cert.Reference3Ideal.S8192x5632 ![0, 5632] (kConv m c) Cert.Reference3Ideal.Gen.slices_S8192x11264_S8192x5632_0_5632 (ix2 n (colD t a)) = kConv m c (ix2 n (colU t a)) := by
    pointwise
    congr 2 <;> exact Fin.ext (by simp [colD, colU]; omega)
  rw [kGate, FfnRef.gated_apply, e1, e2]

/-- The kernel adds the bias last. -/
theorem bias_last (x y z b : EReal) : x + y + z + b = b + x + y + z := by ac_rfl

/-- A point's part of the down projection. -/
theorem part_apply (t : Fin cfg0.N) (r : Fin 512) (d : Fin 2048) :
    partAt m c t (ix2 r d) = ∑ a : Fin 512, kGate m c (ix2 (row t r) (colD t a)) * kD m c (ix3 0 (colD t a) d) := by
  unfold partAt part
  rw [pay19_apply]
  refine Finset.sum_congr rfl fun a _ => ?_
  have hg : k0_pay13 (k0_pay8 (bA m c t) (bG m c t)) (back2 (rows (k0_pay7 (above (rowsG m c) (k0_pay4 (F := Ideal)) t)) (k0_pay9 (bA m c t) (bG m c t)))) (k0_pay12 (tap0 (bTg m c t)))
      (back1 (rows (k0_pay7 (above (rowsG m c) (k0_pay4 (F := Ideal)) t)) (k0_pay9 (bA m c t) (bG m c t)))) (tap1 (bTg m c t)) (tap2 (bTg m c t)) (bBg m c t) (ix2 r a) = kConv m c (ix2 (row t r) (colG t a)) := by
    obtain ⟨h1, h2, h3⟩ := moved t (k0_pay7 (above (rowsG m c) (k0_pay4 (F := Ideal)) t)) (k0_pay9 (bA m c t) (bG m c t)) (kUp m c) (colG t a) a
      (fun r => by rw [pay9_apply, ← pay8_apply, upG]) (fun q => by rw [pay7_apply, aboveG]) r
    rw [pay9_apply, ← pay8_apply] at h3
    rw [pay13_apply, h1, h2, h3, tap0_apply, tap1_apply, tap2_apply, blkTg, blkTg, blkTg, blkBg, kConv, FfnRef.conv_apply]
    exact bias_last _ _ _ _
  have hu : back2 (rows (k0_pay14 (above (rowsU m c) (k0_pay5 (F := Ideal)) t)) (k0_pay16 (k0_pay6 (bA m c t)) (bU m c t))) (ix2 r a) * tap0 (bTu m c t) (ix2 0 a)
      + back1 (rows (k0_pay14 (above (rowsU m c) (k0_pay5 (F := Ideal)) t)) (k0_pay16 (k0_pay6 (bA m c t)) (bU m c t))) (ix2 r a) * tap1 (bTu m c t) (ix2 0 a)
      + k0_pay15 (k0_pay6 (bA m c t)) (bU m c t) (ix2 r a) * tap2 (bTu m c t) (ix2 0 a) + bBu m c t (ix2 0 a) = kConv m c (ix2 (row t r) (colU t a)) := by
    obtain ⟨h1, h2, h3⟩ := moved t (k0_pay14 (above (rowsU m c) (k0_pay5 (F := Ideal)) t)) (k0_pay16 (k0_pay6 (bA m c t)) (bU m c t)) (kUp m c) (colU t a) a
      (fun r => by rw [pay16_apply, ← pay8_apply, upU]) (fun q => by rw [pay14_apply, aboveU]) r
    rw [pay16_apply, ← pay15_apply] at h3
    rw [h1, h2, h3, tap0_apply, tap1_apply, tap2_apply, blkTu, blkTu, blkTu, blkBu, kConv, FfnRef.conv_apply]
    exact bias_last _ _ _ _
  rw [hg, hu, blkD, gate_apply, mul_comm (Ideal.ofBits FTy.f32 1056964608#32) (kConv m c (ix2 (row t r) (colG t a))), mul_assoc (kConv m c (ix2 (row t r) (colG t a)))]

/-- A term of the reference's down projection, by its number. -/
def term (n : Fin 8192) (d : Fin 2048) (k : ℕ) : EReal := if h : k < 5632 then kGate m c (ix2 n ⟨k, h⟩) * kD m c (ix3 0 ⟨k, h⟩ d) else 0

theorem part_range (t : Fin cfg0.N) (r : Fin 512) (d : Fin 2048) :
    partAt m c t (ix2 r d) = ∑ a ∈ Finset.range 512, term m c (row t r) d (512 * (t.val % 11) + a) := by
  rw [part_apply, Finset.sum_range]
  exact Finset.sum_congr rfl fun a _ => by rw [term, dif_pos (by omega)]; rfl

/-- The accumulator after a point: the terms of its row block's column blocks so far. -/
theorem acc_range : ∀ (n : ℕ) (hn : n < cfg0.N) (r : Fin 512) (d : Fin 2048),
    accAt m c n hn (ix2 r d) = ∑ k ∈ Finset.range (512 * (n % 11 + 1)), term m c (row ⟨n, hn⟩ r) d k
  | 0, hn, r, d => by
    rw [accAt, pay1_apply, pay3_apply, zero_add, part_range]
    exact Finset.sum_congr rfl fun a _ => by rw [show 512 * (0 % 11) + a = a from Nat.zero_add a]
  | n + 1, hn, r, d => by
    rw [accAt, pay1_apply, part_range, Nat.mul_succ, Finset.sum_range_add]
    congr 1
    by_cases h : (n + 1) % 11 = 0
    · rw [if_pos h, h, pay3_apply]; rfl
    · rw [if_neg h, acc_range n _ r d]
      have e1 : row ⟨n, Nat.lt_of_succ_lt hn⟩ r = row ⟨n + 1, hn⟩ r := Fin.ext (by show 512 * (n / 11) + r.val = 512 * ((n + 1) / 11) + r.val; omega)
      have e2 : n % 11 + 1 = (n + 1) % 11 := by omega
      rw [e1, e2]

/-- After a row block's last column block, the reference's down projection. -/
theorem acc_last (t : Fin cfg0.N) (h : t.val % 11 = 10) (r : Fin 512) (d : Fin 2048) : accAt m c t.val t.isLt (ix2 r d) = kDown m c (ix2 (row t r) d) := by
  rw [acc_range, h, kDown, FfnRef.down_apply, Finset.sum_range]
  exact Finset.sum_congr rfl fun k _ => by rw [term, dif_pos k.isLt]

/-- The result's tile there. -/
theorem out_last (t : Fin cfg0.N) (h : t.val % 11 = 10) (r : Fin 512) (d : Fin 2048) :
    k0_pay2 (bH m c t) (accAt m c t.val t.isLt) (bN m c t) (ix2 r d) = normed (kH m c) (kDown m c) (kN m c) (ix2 (row t r) d) := by
  rw [pay2_apply, FfnRef.normed_apply, blkH, blkN]
  simp only [acc_last m c t h]

end Cert.Proof.Ffn

end
-- ==== Proof.FfnBody.lean ====
/-
  The feed-forward kernel's body, run once at symbolic operands: whatever the grid point, from its windows' blocks, the
  accumulator and the two slab buffers at given contents it runs to its return with the two carried-row tiles, the
  accumulator and the slab buffers at the contents named here, and the result's tile stored at a row block's last column
  block alone.
-/
module

public import proofs.«01_k».proof.Proof.FfnPre
public import proofs.«01_k».proof.Proof.Gen.Kernel3Ideal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S512x2048 .bf16) (harg2 : arg2.IsWhole) (arg3 : Memref sig .tc .vmem S512x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S3x512 .f32) (harg6 : arg6.IsWhole) (arg7 : Memref sig .tc .vmem S3x512 .f32) (harg7 : arg7.IsWhole)
  (arg8 : Memref sig .tc .vmem S1x512 .f32) (harg8 : arg8.IsWhole) (arg9 : Memref sig .tc .vmem S1x512 .f32) (harg9 : arg9.IsWhole)
  (arg10 : Memref sig .tc .vmem S512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S8x512 .f32) (harg13 : arg13.IsWhole)
  (arg14 : Memref sig .tc .vmem S8x512 .f32) (harg14 : arg14.IsWhole) (arg15 : Memref sig .tc .vmem S512x2048 .f32) (harg15 : arg15.IsWhole)
  (arg16 : Memref sig .tc .vmem S520x512 .f32) (harg16 : arg16.IsWhole) (arg17 : Memref sig .tc .vmem S520x512 .f32) (harg17 : arg17.IsWhole)
  (arg18 : Memref sig .tc .vmem S11x8x512 .f32) (harg18 : arg18.IsWhole) (arg19 : Memref sig .tc .vmem S11x8x512 .f32) (harg19 : arg19.IsWhole)
  (x0 : Vec F S512x2048 .bf16) (x1 : Vec F S512x2048 .f32) (x2 x3 : Vec F S2048x512 .bf16) (x4 x5 : Vec F S3x512 .f32) (x6 x7 : Vec F S1x512 .f32)
  (x8 : Vec F S512x2048 .bf16) (x9 : Vec F S1x2048 .f32)

set_option maxHeartbeats 4000000 in
/-- The body's run at a point. -/
theorem run (y : Vec F S512x2048 .f32) (tg tv : Vec F S8x512 .f32) (acc : Vec F S512x2048 .f32) (ug uv : Vec F S520x512 .f32) (P P' : Vec F S11x8x512 .f32) (acc' : Vec F S512x2048 .f32)
    (hacc : acc' = k0_pay1 (accIn i acc) (part x0 x2 x3 x4 x5 x6 x7 x8 (slabIn i k0_pay4 P) (slabIn i k0_pay5 P'))) :
    held c arg2 arg3 arg4 arg5 arg6 arg7 arg8 arg9 arg10 arg11 arg12 arg13 arg14 arg15 arg16 arg17 arg18 arg19 x0 x1 x2 x3 x4 x5 x6 x7 x8 x9 y tg tv acc ug uv P P'
      ⊢ wp frame (wpE (defs₀ (F := F)) Variants.none c none) Set.univ
          (cc0_ffn_prompt i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 arg19 harg19)
          (fun _ => iprop(∃ ug uv, held c arg2 arg3 arg4 arg5 arg6 arg7 arg8 arg9 arg10 arg11 arg12 arg13 arg14 arg15 arg16 arg17 arg18 arg19 x0 x1 x2 x3 x4 x5 x6 x7 x8 x9
            (if Last i then k0_pay2 x1 acc' x9 else y) (k0_pay10 x0 x2) (k0_pay17 (k0_pay6 x0) x3) acc' ug uv
            (slabOut i k0_pay4 P (k0_pay11 x0 x2)) (slabOut i k0_pay5 P' (k0_pay18 (k0_pay6 x0) x3)))) := by
  have e0 : ∀ inb, VecWindow.window x0 ![0, 0] ![512, 2048] inb = x0 := fun inb => window_full x0 inb
  have e1 : ∀ inb, VecWindow.window x1 ![0, 0] ![512, 2048] inb = x1 := fun inb => window_full x1 inb
  have e2 : ∀ inb, VecWindow.window x2 ![0, 0] ![2048, 512] inb = x2 := fun inb => window_full x2 inb
  have e3 : ∀ inb, VecWindow.window x3 ![0, 0] ![2048, 512] inb = x3 := fun inb => window_full x3 inb
  have e6 : ∀ inb, VecWindow.window x6 ![0, 0] ![1, 512] inb = x6 := fun inb => window_full x6 inb
  have e7 : ∀ inb, VecWindow.window x7 ![0, 0] ![1, 512] inb = x7 := fun inb => window_full x7 inb
  have e8 : ∀ inb, VecWindow.window x8 ![0, 0] ![512, 2048] inb = x8 := fun inb => window_full x8 inb
  have e9 : ∀ inb, VecWindow.window x9 ![0, 0] ![1, 2048] inb = x9 := fun inb => window_full x9 inb
  have ea : ∀ inb, VecWindow.window (accIn i acc) ![0, 0] ![512, 2048] inb = accIn i acc := fun inb => window_full (accIn i acc) inb
  simp only [cc0_ffn_prompt_eq_skeleton]; unfold cc0_ffn_prompt_skel
  simp only [k0_part1_eq_skeleton, k0_part2_eq_skeleton, k0_part3_eq_skeleton]
  rw [part1_eq, bind_assoc, wp_bind]
  refine (run_pre1 c i arg2 arg3 arg4 arg5 arg6 arg7 arg8 arg9 arg10 arg11 arg12 arg13 arg14 arg15 harg15 arg16 arg17 arg18 arg19 x0 x1 x2 x3 x4 x5 x6 x7 x8 x9 y tg tv acc ug uv P P').trans (wp_mono _ _ _ fun _ => ?_)
  rw [bind_assoc, wp_bind]
  refine (run_pre2 c i arg2 arg3 arg4 arg5 arg6 arg7 arg8 arg9 arg10 arg11 arg12 arg13 arg14 arg15 arg16 arg17 arg18 harg18 arg19 harg19 x0 x1 x2 x3 x4 x5 x6 x7 x8 x9 y tg tv (accIn i acc) ug uv P P').trans (wp_mono _ _ _ fun _ => ?_)
  unfold tail1
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%g0, %hg0, G0⟩, ⟨%g1, %hg1, G1⟩, ⟨%g2, %hg2, G2⟩,
    ⟨%g3, %hg3, G3⟩, ⟨%g4, %hg4, G4⟩⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12; obtain rfl := harg15.eq_unread hg0; obtain rfl := harg16.eq_unread hg1; obtain rfl := harg17.eq_unread hg2
  obtain rfl := harg18.eq_unread hg3; obtain rfl := harg19.eq_unread hg4
  sl_exec
  sl_step
  iexists _, _
  isplitl [H0]; · iexists _; isplitr; swap; (iexact H0); ipureintro; exact harg2.read_unread x0
  isplitl [H1]; · iexists _; isplitr; swap; (iexact H1); ipureintro; exact harg3.read_unread x1
  isplitl [H2]; · iexists _; isplitr; swap; (iexact H2); ipureintro; exact harg4.read_unread x2
  isplitl [H3]; · iexists _; isplitr; swap; (iexact H3); ipureintro; exact harg5.read_unread x3
  isplitl [H4]; · iexists _; isplitr; swap; (iexact H4); ipureintro; exact harg6.read_unread x4
  isplitl [H5]; · iexists _; isplitr; swap; (iexact H5); ipureintro; exact harg7.read_unread x5
  isplitl [H6]; · iexists _; isplitr; swap; (iexact H6); ipureintro; exact harg8.read_unread x6
  isplitl [H7]; · iexists _; isplitr; swap; (iexact H7); ipureintro; exact harg9.read_unread x7
  isplitl [H8]; · iexists _; isplitr; swap; (iexact H8); ipureintro; exact harg10.read_unread x8
  isplitl [H9]; · iexists _; isplitr; swap; (iexact H9); ipureintro; exact harg11.read_unread x9
  isplitl [H10]
  · iexists _; isplitr; swap; (iexact H10); ipureintro
    by_cases h3 : Last i
    · rw [dif_pos h3, if_pos h3]
      refine (View.read_writes_full _ _ _ _ _).trans ?_
      sl_unfold_run_names
      rw [View.readCov_full]
      simp only [ld_window, ld_rows, e0, e1, e2, e3, e6, e7, e8, e9, ea]
      rw [hacc]
      exact congrArg (fun a => k0_pay2 x1 (k0_pay1 (accIn i acc) a) x9) (part_cov arg16.view arg17.view x0 x2 x3 x4 x5 x6 x7 x8 (slabIn i k0_pay4 P) (slabIn i k0_pay5 P'))
    · rw [dif_neg h3, if_neg h3]; exact harg12.read_unread y
  isplitl [H11]
  · iexists _; isplitr; swap; (iexact H11); ipureintro
    sl_unfold_run_names
    refine (View.read_writes_full _ _ _ _ _).trans ?_
    simp only [ld_window, ld_rows, e0, e1, e2, e3, e6, e7, e8, e9, ea]
  isplitl [H12]
  · iexists _; isplitr; swap; (iexact H12); ipureintro
    sl_unfold_run_names
    refine (View.read_writes_full _ _ _ _ _).trans ?_
    simp only [ld_window, ld_rows, e0, e1, e2, e3, e6, e7, e8, e9, ea]
  isplitl [G0]
  · iexists _; isplitr; swap; (iexact G0); ipureintro
    sl_unfold_run_names
    refine (View.read_writes_full _ _ _ _ _).trans ?_
    simp only [ld_window, ld_rows, e0, e1, e2, e3, e6, e7, e8, e9, ea]
    rw [hacc]
    exact congrArg (k0_pay1 (accIn i acc)) (part_cov arg16.view arg17.view x0 x2 x3 x4 x5 x6 x7 x8 (slabIn i k0_pay4 P) (slabIn i k0_pay5 P'))
  isplitl [G1]
  · iexists _; isplitr; swap; (iexact G1); ipureintro; exact rfl
  isplitl [G2]
  · iexists _; isplitr; swap; (iexact G2); ipureintro; exact rfl
  isplitl [G3]
  · iexists _; isplitr; swap; (iexact G3); ipureintro
    sl_unfold_run_names
    refine (read_put arg18 harg18 (slabs i k0_pay4 P) _ _).trans ?_
    simp only [ld_window, ld_rows, e0, e1, e2, e3, e6, e7, e8, e9, ea]; rfl
  · iexists _; isplitr; swap; (iexact G4); ipureintro
    sl_unfold_run_names
    refine (read_put arg19 harg19 (slabs i k0_pay5 P') _ _).trans ?_
    simp only [ld_window, ld_rows, e0, e1, e2, e3, e6, e7, e8, e9, ea]; rfl

end Cert.Proof.Ffn

end
-- ==== Proof.FfnRun.lean ====
/-
  The feed-forward kernel's run over its grid: what each window holds after each point, the invariant between points, the
  body's obligation, the launch, and the frame.
-/
module

public import proofs.«01_k».proof.Proof.FfnBody
public import proofs.«01_k».proof.Proof.FfnPts
public import Idealize.ShloMosaic.Lib.Claim

@[expose] public section

set_option maxRecDepth 16384

noncomputable section

namespace Cert.Proof.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The result's window stands still except at a row block's last column block. -/
theorem live10 (t : Fin cfg0.N) (h : Last (grid0.coords t)) : cfg0.idle 10 (grid0.coords t) = false := by
  show (!(k0_cond3 (grid0.coords t) == 1#1)) = false
  rw [show k0_cond3 (grid0.coords t) = 1#1 from h]; rfl
theorem idle10 (t : Fin cfg0.N) (h : ¬Last (grid0.coords t)) : cfg0.idle 10 (grid0.coords t) = true := by
  show (!(k0_cond3 (grid0.coords t) == 1#1)) = true
  rw [Bool.not_eq_true', beq_eq_false_iff_ne]; exact h
theorem noFlush10 (t : Fin cfg0.N) (h : ¬Last (grid0.coords t)) : (cfg0.win 10).flush t = false := by
  rw [Bool.eq_false_iff]; exact fun e => h ((last_iff t).mpr ((flush0_10 t).mp e))
/-- What the body holds at a point: its windows' buffers and its scratch buffers. -/
def heldAt (t : Fin cfg0.N) (y : Vec F S512x2048 .f32) (tg tv : Vec F S8x512 .f32) (acc : Vec F S512x2048 .f32) (ug uv : Vec F S520x512 .f32) (P P' : Vec F S11x8x512 .f32) : sProp 𝕄 :=
  held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (Memref.whole cc0_scratch0) (Memref.whole cc0_scratch1) (Memref.whole cc0_scratch2) (Memref.whole cc0_scratch3) (Memref.whole cc0_scratch4) (bA m c t) (bH m c t) (bG m c t) (bU m c t) (bTg m c t) (bTu m c t) (bBg m c t) (bBu m c t) (bD m c t) (bN m c t) y tg tv acc ug uv P P'

/-- The body's run at a point, to any goal its leavings give. -/
theorem run_at (t : Fin cfg0.N) (y : Vec F S512x2048 .f32) (tg tv : Vec F S8x512 .f32) (acc : Vec F S512x2048 .f32) (ug uv : Vec F S520x512 .f32) (P P' : Vec F S11x8x512 .f32)
    (hg : Good m c t.val (Nat.le_of_lt t.isLt) acc P P') (Q : sProp 𝕄) :
    iprop(heldAt m c t y tg tv acc ug uv P P' ∗ ((∃ ug uv, heldAt m c t
        (if Last (grid0.coords t) then k0_pay2 (bH m c t) (accAt m c t.val t.isLt) (bN m c t) else y) (k0_pay10 (bA m c t) (bG m c t)) (k0_pay17 (k0_pay6 (bA m c t)) (bU m c t))
        (accAt m c t.val t.isLt) ug uv (slabOut (grid0.coords t) k0_pay4 P (rowsG m c t)) (slabOut (grid0.coords t) k0_pay5 P' (rowsU m c t))) -∗ Q))
      ⊢ wp frame (wpE (defs₀ (F := F)) Variants.none c none) Set.univ (bodyAt0 t) (fun _ => Q) :=
  (BI.sep_mono_l (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (bA m c t) (bH m c t) (bG m c t) (bU m c t) (bTg m c t) (bTu m c t) (bBg m c t) (bBu m c t) (bD m c t) (bN m c t) y tg tv acc ug uv P P' _ (acc_eq m c t hg))).trans
    ((wp_frame_r _ _ _).trans (wp_mono _ _ _ fun _ => Laws.wand_elim_right))

/-- Between points: the accumulator and the slab buffers at what the points before left, the row tiles at anything. -/
def Inv (n : ℕ) (hn : n ≤ cfg0.N) : sProp 𝕄 :=
  iprop((∃ acc ug uv P P', ⌜Good m c n hn acc P P'⌝ ∗ owns (c : Thread nD τ) (Memref.whole cc0_scratch0) fullShare acc
    ∗ owns (c : Thread nD τ) (Memref.whole cc0_scratch1) fullShare ug ∗ owns (c : Thread nD τ) (Memref.whole cc0_scratch2) fullShare uv
    ∗ owns (c : Thread nD τ) (Memref.whole cc0_scratch3) fullShare P ∗ owns (c : Thread nD τ) (Memref.whole cc0_scratch4) fullShare P') ∗ (∃ r, prngReg c r))

/-- The scratch buffers and the generator register, at anything. -/
theorem scratch_eq : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d)) ∗ (∃ r, prngReg c r)) := by
  unfold Pipeline.ΦA; rw [scopedRest0_eq]; simp only [owns_whole]; try rfl

/-- The pipeline's contents: the arrays as the region finds them, each input at its block, the result's tile, the two tails. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay2 (bH m c t) (accAt m c t.val t.isLt) (bN m c t)
    | ⟨11, _⟩ => k0_pay10 (bA m c t) (bG m c t)
    | ⟨12, _⟩ => k0_pay17 (k0_pay6 (bA m c t)) (bU m c t)
  Φ t := Inv m c t.val (Nat.le_of_lt_succ t.isLt)
  q := Pipeline.shareOf spec0
  owed _ := 0

theorem A_eq (w : Fin cfg0.W) : (dats m 0 c).A w = V m c (Pipeline.arrRef spec0 w) := by dsimp only [dats]

theorem inv_castSucc (t : Fin cfg0.N) : (dats m 0 c).Φ t.castSucc = Inv m c t.val (Nat.le_of_lt t.isLt) := by
  dsimp only [dats]; exact Pipeline.Dat.Φ_castSucc (Inv m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = k0_pay2 (bH m c t) (accAt m c t.val t.isLt) (bN m c t) := by dsimp only [dats]
theorem after_11 (t : Fin cfg0.N) : (dats m 0 c).after 11 t = k0_pay10 (bA m c t) (bG m c t) := by dsimp only [dats]
theorem after_12 (t : Fin cfg0.N) : (dats m 0 c).after 12 t = k0_pay17 (k0_pay6 (bA m c t)) (bU m c t) := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d
theorem before_6 (t : Fin cfg0.N) (d) : (dats m 0 c).before 6 t d = iblk m c 6 t := before0_6_of m (dats m 0 c) (A_eq m c 6) (after_6 m c) t d
theorem before_7 (t : Fin cfg0.N) (d) : (dats m 0 c).before 7 t d = iblk m c 7 t := before0_7_of m (dats m 0 c) (A_eq m c 7) (after_7 m c) t d
theorem before_8 (t : Fin cfg0.N) (d) : (dats m 0 c).before 8 t d = iblk m c 8 t := before0_8_of m (dats m 0 c) (A_eq m c 8) (after_8 m c) t d
theorem before_9 (t : Fin cfg0.N) (d) : (dats m 0 c).before 9 t d = iblk m c 9 t := before0_9_of m (dats m 0 c) (A_eq m c 9) (after_9 m c) t d

/-- What the body is called with at a point, -/
def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The result's window after a point: its tile at a row block's last column block, what it held elsewhere. -/
theorem leaves10 (t : Fin cfg0.N) (d : (cfg0.win 10).block.Idx → Elt F (cfg0.win 10).elt) :
    owns (c : Thread nD τ) (win0_10.stage (cfg0.slots t 10)) fullShare
        (if Last (grid0.coords t) then k0_pay2 (bH m c t) (accAt m c t.val t.isLt) (bN m c t) else (dats m 0 c).before 10 t d)
      ⊢ (dats m 0 c).leavesExact 10 t := by
  by_cases h : Last (grid0.coords t)
  · rw [if_pos h, show (dats m 0 c).leavesExact 10 t = owns (c : Thread nD τ) (win0_10.stage (cfg0.slots t 10)) fullShare ((dats m 0 c).after 10 t) from by
      unfold Dat.leavesExact; rw [live10 t h], after_10]
  · rw [if_neg h, Dat.leavesExact_idle (dats m 0 c) 10 t (idle10 t h) (noFlush10 t h)]
    iintro H; iexists _; iexact H

set_option maxHeartbeats 4000000 in
/-- The body at any point. -/
theorem sound_body (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9]
  rw [show (dats m 0 c).owesAt () t.succ = (dats m 0 c).owesAt () t.castSucc from rfl]
  rw [show (dats m 0 c).Φ t.succ = Inv m c (t.val + 1) t.isLt from rfl, inv_castSucc m c t]
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after_0]
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after_1]
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after_2]
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after_3]
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after_4]
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after_5]
  rw [show (dats m 0 c).leavesExact 6 t = owns (c : Thread nD τ) (win0_6.stage (cfg0.slots t 6)) fullShare ((dats m 0 c).after 6 t) from by
    unfold Dat.leavesExact; rw [show cfg0.idle 6 (grid0.coords t) = false from rfl], after_6]
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after_7]
  rw [show (dats m 0 c).leavesExact 8 t = owns (c : Thread nD τ) (win0_8.stage (cfg0.slots t 8)) fullShare ((dats m 0 c).after 8 t) from by
    unfold Dat.leavesExact; rw [show cfg0.idle 8 (grid0.coords t) = false from rfl], after_8]
  rw [show (dats m 0 c).leavesExact 9 t = owns (c : Thread nD τ) (win0_9.stage (cfg0.slots t 9)) fullShare ((dats m 0 c).after 9 t) from by
    unfold Dat.leavesExact; rw [show cfg0.idle 9 (grid0.coords t) = false from rfl], after_9]
  rw [show (dats m 0 c).leavesExact 11 t = owns (c : Thread nD τ) (win0_11.stage (cfg0.slots t 11)) fullShare ((dats m 0 c).after 11 t) from by
    unfold Dat.leavesExact; rw [show cfg0.idle 11 (grid0.coords t) = false from rfl], after_11]
  rw [show (dats m 0 c).leavesExact 12 t = owns (c : Thread nD τ) (win0_12.stage (cfg0.slots t 12)) fullShare ((dats m 0 c).after 12 t) from by
    unfold Dat.leavesExact; rw [show cfg0.idle 12 (grid0.coords t) = false from rfl], after_12]
  unfold Inv
  iintro ⟨⟨⟨%acc, %ug, %uv, %P, %P', %hg, G0, G1, G2, G3, G4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hrun := fun Q => run_at m c t ((dats m 0 c).before 10 t d10) ((dats m 0 c).before 11 t d11) ((dats m 0 c).before 12 t d12) acc ug uv P P' hg Q
  unfold heldAt held at hrun
  iapply (hrun _)
  isplitl [H0 H1 H2 H3 H4 H5 H6 H7 H8 H9 H10 H11 H12 G0 G1 G2 G3 G4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [G0]; · iexact G0
    isplitl [G1]; · iexact G1
    isplitl [G2]; · iexact G2
    isplitl [G3]; · iexact G3
    iexact G4
  iintro ⟨%ug', %uv', H0, H1, H2, H3, H4, H5, H6, H7, H8, H9, H10, H11, H12, G0, G1, G2, G3, G4⟩
  isplitl [G0 G1 G2 G3 G4 Hr]
  · isplitl [G0 G1 G2 G3 G4]
    · iexists _, _, _, _, _
      isplitr; · ipureintro; exact good_succ m c t hg
      isplitl [G0]; · iexact G0
      isplitl [G1]; · iexact G1
      isplitl [G2]; · iexact G2
      isplitl [G3]; · iexact G3
      iexact G4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves10 m c t d10); iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

/-- The library's obligation of the body. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-- The launch's scratch buffers are the invariant before the first point, -/
theorem hin : Pipeline.ΦA spec0 c ⊢ (dats m 0 c).Φ 0 := by
  rw [show (dats m 0 c).Φ 0 = Inv m c 0 (Nat.zero_le _) from rfl, scratch_eq]
  unfold Inv
  iintro ⟨⟨⟨%acc, G0⟩, ⟨%ug, G1⟩, ⟨%uv, G2⟩, ⟨%P, G3⟩, ⟨%P', G4⟩⟩, Hr⟩
  isplitl [G0 G1 G2 G3 G4]
  · iexists acc, ug, uv, P, P'
    isplitr
    · ipureintro; exact ⟨fun h => absurd h (lt_irrefl 0), fun k hk => absurd hk (Nat.not_lt_zero _), fun k hk => absurd hk (Nat.not_lt_zero _)⟩
    isplitl [G0]; · iexact G0
    isplitl [G1]; · iexact G1
    isplitl [G2]; · iexact G2
    isplitl [G3]; · iexact G3
    iexact G4
  iexact Hr

/-- and the invariant after the last gives them back. -/
theorem hout : (dats m 0 c).Φ (Fin.last cfg0.N) ⊢ Pipeline.ΦA spec0 c := by
  rw [show (dats m 0 c).Φ (Fin.last cfg0.N) = Inv m c cfg0.N le_rfl from rfl, scratch_eq]
  unfold Inv
  iintro ⟨⟨%acc, %ug, %uv, %P, %P', %hg, G0, G1, G2, G3, G4⟩, Hr⟩
  isplitl [G0 G1 G2 G3 G4]
  · isplitl [G0]; · iexists _; iexact G0
    isplitl [G1]; · iexists _; iexact G1
    isplitl [G2]; · iexists _; iexact G2
    isplitl [G3]; · iexists _; iexact G3
    iexists _; iexact G4
  iexact Hr

set_option backward.isDefEq.respectTransparency.types false in
/-- The launch: every run ends with the pipeline's arrays at what the contents above give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Proof.Ffn

end
-- ==== Proof.FfnClaim.lean ====
/-
  The feed-forward kernel equals its reference: the three result arrays after the run, and the certificate's claims about
  the third program pair.
-/
module

public import proofs.«01_k».proof.Defs
public import proofs.«01_k».proof.Proof.FfnPoint
public import proofs.«01_k».proof.Proof.FfnRun
public import proofs.«01_k».proof.Proof.Gen.Kernel3.Frame

@[expose] public section

set_option maxRecDepth 16384

noncomputable section

namespace Cert.Proof.Ffn

open Cert.Kernel3Ideal Cert.Kernel3Ideal.Gen
open Idealize.ShloMosaic Idealize.SL.Sem
open Cert.Proof.FfnRef (up padded conv gated down normed tails)

variable (m : (ℓ : Loc nD τ sig) → Buf (Elt Ideal) ℓ) (ρ : Dev nD → PrngReg) (c : Dev nD)

/-- The result, and the tails of the gate's columns and of the values'. -/
def out10 : S8192x2048.Idx → EReal := normed (kH m c) (kDown m c) (kN m c)
def out11 : S128x5632.Idx → EReal := extractStridedSlice Cert.Reference3Ideal.S128x5632 ![0, 0] (tails (kUp m c)) Cert.Reference3Ideal.Gen.slices_S128x11264_S128x5632_0_0
def out12 : S128x5632.Idx → EReal := extractStridedSlice Cert.Reference3Ideal.S128x5632 ![0, 5632] (tails (kUp m c)) Cert.Reference3Ideal.Gen.slices_S128x11264_S128x5632_0_5632

/-- The result array after the run. -/
theorem final10 : (dats m 0 c).arrAt 10 cfg0.N = out10 m c := by
  refine (dats m 0 c).arrAt_eq_of_covers 10 (out10 m c) (by decide +kernel) fun t hf y => ?_
  blk_simp
  rw [after_10]
  obtain ⟨r, d, rfl⟩ : ∃ (r : Fin 512) (d : Fin 2048), y = ix2 r d := ⟨y 0, y 1, eq_ix2 y⟩
  exact (out_last m c t ((flush0_10 t).mp hf) r d).trans
    (show out10 m c ((win0_10.blk t).view.emb (ix2 r d)) = out10 m c (ix2 (row t r) d) by unfold row; blk_ext [idx t]).symm

/-- A tail at an index. -/
theorem out11_apply (t : Fin cfg0.N) (q : Fin 8) (a : Fin 512) :
    out11 m c (ix2 ⟨8 * (t.val / 11) + q.val, by have := lt_N t; omega⟩ (colD t a)) = kUp m c (ix2 ⟨512 * (t.val / 11) + (504 + q.val), by have := lt_N t; omega⟩ (colG t a)) := by
  have := lt_N t
  have e := FfnRef.tails_apply (kUp m c) ⟨t.val / 11, by omega⟩ q (colG t a)
  refine Eq.trans ?_ e
  unfold out11
  pointwise
  congr 2 <;> exact Fin.ext (by simp [colD, colG])
theorem out12_apply (t : Fin cfg0.N) (q : Fin 8) (a : Fin 512) :
    out12 m c (ix2 ⟨8 * (t.val / 11) + q.val, by have := lt_N t; omega⟩ (colD t a)) = kUp m c (ix2 ⟨512 * (t.val / 11) + (504 + q.val), by have := lt_N t; omega⟩ (colU t a)) := by
  have := lt_N t
  have e := FfnRef.tails_apply (kUp m c) ⟨t.val / 11, by omega⟩ q (colU t a)
  refine Eq.trans ?_ e
  unfold out12
  pointwise
  congr 2 <;> exact Fin.ext (by simp [colD, colU]; omega)

/-- The tail arrays after the run. -/
theorem final11 : (dats m 0 c).arrAt 11 cfg0.N = out11 m c := by
  refine (dats m 0 c).arrAt_eq_of_covers 11 (out11 m c) (by decide +kernel) fun t hf y => ?_
  blk_simp
  rw [after_11]
  obtain ⟨q, a, rfl⟩ : ∃ (q : Fin 8) (a : Fin 512), y = ix2 q a := ⟨y 0, y 1, eq_ix2 y⟩
  exact (pay10_apply (bA m c t) (bG m c t) q a).trans ((upG m c t _ a).trans ((out11_apply m c t q a).symm.trans
    (show out11 m c ((win0_11.blk t).view.emb (ix2 q a)) = out11 m c (ix2 ⟨8 * (t.val / 11) + q.val, by have := lt_N t; omega⟩ (colD t a)) by unfold colD; blk_ext [idx t]).symm))
theorem final12 : (dats m 0 c).arrAt 12 cfg0.N = out12 m c := by
  refine (dats m 0 c).arrAt_eq_of_covers 12 (out12 m c) (by decide +kernel) fun t hf y => ?_
  blk_simp
  rw [after_12]
  obtain ⟨q, a, rfl⟩ : ∃ (q : Fin 8) (a : Fin 512), y = ix2 q a := ⟨y 0, y 1, eq_ix2 y⟩
  exact (pay17_apply (bA m c t) (bU m c t) q a).trans ((upU m c t _ a).trans ((out12_apply m c t q a).symm.trans
    (show out12 m c ((win0_12.blk t).view.emb (ix2 q a)) = out12 m c (ix2 ⟨8 * (t.val / 11) + q.val, by have := lt_N t; omega⟩ (colD t a)) by unfold colD; blk_ext [idx t]).symm))

/-- The kernel's run: the three results at those arrays, the arguments unchanged. -/
theorem run_values : θ_run defs (onTc (τ := τ) (main (F := Ideal))) ⟨m, fun _ => 0, ρ⟩ (fun r => ∀ c : Dev nD,
      r.2.mem ((c.tc : Thread nD τ).loc main_v10_0) = out10 m c
      ∧ r.2.mem ((c.tc : Thread nD τ).loc main_v10_1) = out11 m c
      ∧ r.2.mem ((c.tc : Thread nD τ).loc main_v10_2) = out12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 10).trans (final10 m c), ((h.1 c).1 11).trans (final11 m c), ((h.1 c).1 12).trans (final12 m c), h.2 c⟩)
    (θ_run_and (run_main m ρ) (frame_of m ρ (dats m) (A_eq m) (run_main m ρ)))

set_option maxHeartbeats 2000000 in
/-- The printed kernel and the ideal kernel, which have the same text, have the same body table. -/
theorem bodies_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

/-- So they have the same table of bodies and pipelines. -/
theorem defs_eq : Cert.Kernel3.defs (F := Bits) = Cert.Kernel3Ideal.defs := by
  unfold Cert.Kernel3.defs Cert.Kernel3Ideal.defs
  exact congrArg (Pipeline.defs (Cert.Kernel3Ideal.pcfgs (F := Bits))) bodies_eq

/-- They have the same host program. -/
theorem main_eq : Cert.Kernel3.main (F := Bits) = Cert.Kernel3Ideal.main := rfl

/-- The kernel's run on the chip's floats: arguments kept, counters at zero. -/
theorem frame_kernel : Cert.quiescent_Kernel3 := fun m ρ _ => by
  have h := frame (F := Bits) m ρ
  rw [← defs_eq, ← main_eq] at h
  exact h

/-- The same at the exact instance. -/
theorem frame_kernelIdeal : Cert.quiescent_Kernel3Ideal := fun m ρ _ => frame (F := Ideal) m ρ

/-- The reference's run: arguments kept, and it has no semaphore. -/
theorem frame_reference : Cert.quiescent_Reference3Ideal := fun m ρ _ =>
  (θ_run Cert.Reference3Ideal.defs _ _).mono (fun r h => ⟨fun c => (h c).2.2.2, sem_eq_zero_of_no_sems rfl r.2⟩) (Cert.Reference3Ideal.Value.run (F := Ideal) m ρ)

/-- The kernel and the reference end with equal results. -/
theorem algebraic : Cert.algebraic_Kernel3Ideal_Reference3Ideal := by
  intro m ρ m' ρ' _ he
  refine ⟨fun c => out10 m c, fun c => out11 m c, fun c => out12 m c, run_values m ρ, ?_⟩
  refine (θ_run Cert.Reference3Ideal.defs _ _).mono (fun r h c => ?_) (Cert.Reference3Ideal.Value.run (F := Ideal) m' ρ')
  obtain ⟨e0, e1, e2, e3, e4, e5, e6⟩ := he c
  obtain ⟨h0, h1, h2, hr⟩ := h c
  refine ⟨h0.trans ?_, h1.trans ?_, h2.trans ?_, hr⟩
  · rw [FfnRef.res_eq, e0, e1, e2, e3, e4, e5, e6]; rfl
  · rw [e0, e2]; rfl
  · rw [e0, e2]; rfl

end Cert.Proof.Ffn

end
-- ==== Proof.ProjRef.lean ====
/-
  The input projections' reference at the exact instance: its results' composed terms in named steps, each read at an index.
-/
module

public import proofs.«01_k».proof.Proof.Gen.Reference4Ideal.Run
public import Idealize.ShloMosaic.Lib.Pointwise

@[expose] public section

set_option maxRecDepth 16384

noncomputable section

namespace Cert.Proof.ProjRef

open Idealize.ShloMosaic Idealize.SL.Sem Cert.Reference4Ideal Cert.Reference4Ideal.Gen Cert.Reference4Ideal.Value
open Idealize.ShloMosaic.StableHlo

/-- The root-mean-square norm of each input row; -/
def pre (x : FVec Ideal S8192x2048 .f32) (w : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x358637BD#32)))))) (broadcastInDim S8192x2048 ![0, 1] bcast_S1x2048_S8192x2048_0_1 (broadcastInDim S1x2048 ![1] bcast_S2048_S1x2048_1 (shapeCast _ w shapeCasts_S1x2048_S2048)))

/-- all the projections of the normed rows side by side; -/
def lin (x : FVec Ideal S8192x2048 .f32) (n : FVec Ideal S1x2048 .f32) (w : FVec Ideal S1x2048x4176 .f32) : FVec Ideal S8192x4176 .f32 :=
  Host.dotGeneral dot_S8192x2048_S2048x4176_S8192x4176_1_0_0_1_n_n none (pre x n) (shapeCast _ w shapeCasts_S1x2048x4176_S2048x4176)

/-- the columns of the latent, of the mixer's query, key, value and gate; -/
def colL (y : FVec Ideal S8192x4176 .f32) : FVec Ideal S8192x512 .f32 := extractStridedSlice S8192x512 ![0, 512] y slices_S8192x4176_S8192x512_0_512
def colQ (y : FVec Ideal S8192x4176 .f32) : FVec Ideal S8192x512 .f32 := extractStridedSlice S8192x512 ![0, 1088] y slices_S8192x4176_S8192x512_0_1088
def colK (y : FVec Ideal S8192x4176 .f32) : FVec Ideal S8192x512 .f32 := extractStridedSlice S8192x512 ![0, 1600] y slices_S8192x4176_S8192x512_0_1600
def colV (y : FVec Ideal S8192x4176 .f32) : FVec Ideal S8192x1024 .f32 := extractStridedSlice S8192x1024 ![0, 2112] y slices_S8192x4176_S8192x1024_0_2112
def colG (y : FVec Ideal S8192x4176 .f32) : FVec Ideal S8192x1024 .f32 := extractStridedSlice S8192x1024 ![0, 3152] y slices_S8192x4176_S8192x1024_0_3152

/-- the query scaled; -/
def query (y : FVec Ideal S8192x512 .f32) : FVec Ideal S8192x512 .f32 :=
  mulf y (broadcastInDim S8192x512 ![] bcast_S_S8192x512 (constant (F := Ideal) S_ .f32 0x3DB504F3#32))

/-- the latent's norm; -/
def latent (y : FVec Ideal S8192x512 .f32) (w : FVec Ideal S1x512 .f32) : FVec Ideal S8192x512 .f32 :=
  mulf (mulf y (broadcastInDim S8192x512 ![0, 1] bcast_S8192x1_S8192x512_0_1 (Host.rsqrt (addf (Host.divf (broadcastInDim S8192x1 ![0] bcast_S8192_S8192x1_0 (Host.reduceAdd (mulf y y) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))))) (broadcastInDim S8192x512 ![0, 1] bcast_S1x512_S8192x512_0_1 (broadcastInDim S1x512 ![1] bcast_S512_S1x512_1 (shapeCast _ w shapeCasts_S1x512_S512)))

/-- and the heads' values out of it. -/
def vals (y : FVec Ideal S8192x512 .f32) (w : FVec Ideal S1x512x8x128 .f32) : FVec Ideal S8192x1024 .bf16 :=
  truncf .bf16 (shapeCast S8192x1024 (Host.dotGeneral dot_S8192x512_S512x8x128_S8192x8x128_1_0_0_12_n_n none y (shapeCast _ w shapeCasts_S1x512x8x128_S512x8x128)) shapeCasts_S8192x8x128_S8192x1024) bitsLt_bf16_f32

theorem pre_apply (x : FVec Ideal S8192x2048 .f32) (w : FVec Ideal S1x2048 .f32) (n : Fin 8192) (d : Fin 2048) :
    pre x w (ix2 n d) = x (ix2 n d) * Ideal.rsqrt (Ideal.div (∑ k, x (ix2 n k) * x (ix2 n k)) (Ideal.ofBits FTy.f32 1157627904#32) + Ideal.ofBits FTy.f32 897988541#32) * w (ix2 0 d) := by
  unfold pre; pointwise

theorem lin_apply (x : FVec Ideal S8192x2048 .f32) (v : FVec Ideal S1x2048 .f32) (w : FVec Ideal S1x2048x4176 .f32) (n : Fin 8192) (j : Fin 4176) :
    lin x v w (ix2 n j) = ∑ k, pre x v (ix2 n k) * w (ix3 0 k j) := by
  unfold lin
  generalize pre x v = P
  pointwise

theorem colL_apply (y : FVec Ideal S8192x4176 .f32) (n : Fin 8192) (d : Fin 512) : colL y (ix2 n d) = y (ix2 n ⟨512 + d.val, by omega⟩) := by
  unfold colL; pointwise
theorem colQ_apply (y : FVec Ideal S8192x4176 .f32) (n : Fin 8192) (d : Fin 512) : colQ y (ix2 n d) = y (ix2 n ⟨1088 + d.val, by omega⟩) := by
  unfold colQ; pointwise
theorem colK_apply (y : FVec Ideal S8192x4176 .f32) (n : Fin 8192) (d : Fin 512) : colK y (ix2 n d) = y (ix2 n ⟨1600 + d.val, by omega⟩) := by
  unfold colK; pointwise
theorem colV_apply (y : FVec Ideal S8192x4176 .f32) (n : Fin 8192) (d : Fin 1024) : colV y (ix2 n d) = y (ix2 n ⟨2112 + d.val, by omega⟩) := by
  unfold colV; pointwise
theorem colG_apply (y : FVec Ideal S8192x4176 .f32) (n : Fin 8192) (d : Fin 1024) : colG y (ix2 n d) = y (ix2 n ⟨3152 + d.val, by omega⟩) := by
  unfold colG; pointwise

theorem query_apply (y : FVec Ideal S8192x512 .f32) (i : S8192x512.Idx) : query y i = y i * Ideal.ofBits FTy.f32 0x3DB504F3#32 := rfl

theorem latent_apply (y : FVec Ideal S8192x512 .f32) (w : FVec Ideal S1x512 .f32) (n : Fin 8192) (d : Fin 512) :
    latent y w (ix2 n d) = y (ix2 n d) * Ideal.rsqrt (Ideal.div (∑ k, y (ix2 n k) * y (ix2 n k)) (Ideal.ofBits FTy.f32 0x44000000#32) + Ideal.ofBits FTy.f32 897988541#32) * w (ix2 0 d) := by
  unfold latent; pointwise

theorem vals_apply (y : FVec Ideal S8192x512 .f32) (w : FVec Ideal S1x512x8x128 .f32) (n : Fin 8192) (j : Fin 1024) :
    vals y w (ix2 n j) = ∑ k, y (ix2 n k) * w (ix4 0 k ⟨j.val / 128, by omega⟩ ⟨j.val % 128, by omega⟩) := by
  unfold vals; pointwise

end Cert.Proof.ProjRef

end
-- ==== Proof.ProjClaim.lean ====
/-
  The input projections' kernel equals its reference: its blocks and values read at an index, the six result arrays after
  the run, and the certificate's claims about the fourth program pair.
-/
module

public import proofs.«01_k».proof.Defs
public import proofs.«01_k».proof.Proof.ProjRef
public import proofs.«01_k».proof.Proof.Gen.Kernel4.Frame
public import proofs.«01_k».proof.Proof.Gen.Kernel4Ideal.Skeleton
public import proofs.«01_k».proof.Proof.Gen.Kernel4Ideal.Value
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Proj

open Cert.Kernel4Ideal Cert.Kernel4Ideal.Gen
open Idealize.ShloMosaic Idealize.SL.Sem
open Cert.Proof.ProjRef (pre lin colL colQ colK colV colG query latent vals)

/-! ## The body's values at an index -/

/-- The normed rows; -/
theorem pay3_apply (x : Vec Ideal S256x2048 .f32) (n : Vec Ideal S1x2048 .f32) (r : Fin 256) (k : Fin 2048) :
    k0_pay3 x n (ix2 r k) = x (ix2 r k) * Ideal.rsqrt (Ideal.div (∑ j, x (ix2 r j) * x (ix2 r j)) (Ideal.ofBits FTy.f32 1157627904#32) + Ideal.ofBits FTy.f32 897988541#32) * n (ix2 0 k) := by
  unfold k0_pay3; pointwise

/-- their products with a group of columns; -/
theorem pay5_apply (x : Vec Ideal S256x2048 .f32) (n : Vec Ideal S1x2048 .f32) (w : Vec Ideal S2048x512 .bf16) (r : Fin 256) (d : Fin 512) :
    k0_pay5 x n w (ix2 r d) = ∑ k, k0_pay3 x n (ix2 r k) * w (ix2 k d) := by
  unfold k0_pay5; generalize k0_pay3 x n = P; pointwise
theorem pay6_apply (x : Vec Ideal S256x2048 .f32) (n : Vec Ideal S1x2048 .f32) (w : Vec Ideal S2048x512 .bf16) (r : Fin 256) (d : Fin 512) :
    k0_pay6 x n w (ix2 r d) = ∑ k, k0_pay3 x n (ix2 r k) * w (ix2 k d) := pay5_apply x n w r d
theorem pay7_apply (x : Vec Ideal S256x2048 .f32) (n : Vec Ideal S1x2048 .f32) (w : Vec Ideal S2048x512 .bf16) (r : Fin 256) (d : Fin 512) :
    k0_pay7 x n w (ix2 r d) = ∑ k, k0_pay3 x n (ix2 r k) * w (ix2 k d) := pay5_apply x n w r d
theorem pay8_apply (x : Vec Ideal S256x2048 .f32) (n : Vec Ideal S1x2048 .f32) (w : Vec Ideal S2048x1024 .bf16) (r : Fin 256) (d : Fin 1024) :
    k0_pay8 x n w (ix2 r d) = ∑ k, k0_pay3 x n (ix2 r k) * w (ix2 k d) := by
  unfold k0_pay8; generalize k0_pay3 x n = P; pointwise
theorem pay9_apply (x : Vec Ideal S256x2048 .f32) (n : Vec Ideal S1x2048 .f32) (w : Vec Ideal S2048x1024 .bf16) (r : Fin 256) (d : Fin 1024) :
    k0_pay9 x n w (ix2 r d) = ∑ k, k0_pay3 x n (ix2 r k) * w (ix2 k d) := pay8_apply x n w r d

/-- the scaled query; -/
theorem pay2_apply (y : FVec Ideal S256x512 .f32) (i : S256x512.Idx) : k0_pay2 y i = y i * Ideal.ofBits FTy.f32 0x3DB504F3#32 := rfl

/-- the normed latent; -/
theorem pay16_apply (y : FVec Ideal S256x512 .f32) (n : Vec Ideal S1x512 .f32) (r : Fin 256) (d : Fin 512) :
    k0_pay16 y n (ix2 r d) = y (ix2 r d) * Ideal.rsqrt (Ideal.div (∑ k, y (ix2 r k) * y (ix2 r k)) (Ideal.ofBits FTy.f32 0x44000000#32) + Ideal.ofBits FTy.f32 897988541#32) * n (ix2 0 d) := by
  unfold k0_pay16; pointwise

/-- and the values out of it. -/
theorem pay22_apply (y : FVec Ideal S256x512 .f32) (n : Vec Ideal S1x512 .f32) (w : Vec Ideal S512x1024 .bf16) (r : Fin 256) (d : Fin 1024) :
    k0_pay22 (k0_pay21 y n w) (ix2 r d) = ∑ k, k0_pay16 y n (ix2 r k) * w (ix2 k d) := by
  unfold k0_pay22 k0_pay21 k0_pay17; generalize k0_pay16 y n = P; pointwise

/-! ## The weight's column groups -/

/-- Where a column of the groups side by side stands in the weight. -/
def src (j : Fin 4096) : Fin 4176 := ⟨if j.val < 1024 then j.val else if j.val < 2048 + 1024 then j.val + 64 else j.val + 80, by split_ifs <;> omega⟩

/-- The six column groups the kernel reads, side by side. -/
def wcat (w : FVec Ideal S1x2048x4176 .f32) : FVec Ideal S2048x4096 .bf16 :=
  truncf .bf16 (concatenate S2048x4096 1 [⟨S2048x512, shapeCast S2048x512 (extractStridedSlice S1x2048x512 ![0, 0, 0] w slices_S1x2048x4176_S1x2048x512_0_0_0) shapeCasts_S1x2048x512_S2048x512⟩,
    ⟨S2048x512, shapeCast S2048x512 (extractStridedSlice S1x2048x512 ![0, 0, 512] w slices_S1x2048x4176_S1x2048x512_0_0_512) shapeCasts_S1x2048x512_S2048x512⟩,
    ⟨S2048x512, shapeCast S2048x512 (extractStridedSlice S1x2048x512 ![0, 0, 1088] w slices_S1x2048x4176_S1x2048x512_0_0_1088) shapeCasts_S1x2048x512_S2048x512⟩,
    ⟨S2048x512, shapeCast S2048x512 (extractStridedSlice S1x2048x512 ![0, 0, 1600] w slices_S1x2048x4176_S1x2048x512_0_0_1600) shapeCasts_S1x2048x512_S2048x512⟩,
    ⟨S2048x1024, shapeCast S2048x1024 (extractStridedSlice S1x2048x1024 ![0, 0, 2112] w slices_S1x2048x4176_S1x2048x1024_0_0_2112) shapeCasts_S1x2048x1024_S2048x1024⟩,
    ⟨S2048x1024, shapeCast S2048x1024 (extractStridedSlice S1x2048x1024 ![0, 0, 3152] w slices_S1x2048x4176_S1x2048x1024_0_0_3152) shapeCasts_S1x2048x1024_S2048x1024⟩]
    concatenates_S2048x512_S2048x512_S2048x512_S2048x512_S2048x1024_S2048x1024_S2048x4096_d1) bitsLt_bf16_f32

theorem wcat_apply (w : FVec Ideal S1x2048x4176 .f32) (k : Fin 2048) (j : Fin 4096) : wcat w (ix2 k j) = w (ix3 0 k (src j)) := by
  have hj := j.isLt
  unfold wcat
  pointwise
  split_ifs <;> exact congrArg (fun q => w (ix3 0 k q)) (Fin.ext (by simp only [src]; split_ifs <;> omega))

variable (m : (ℓ : Loc nD τ sig) → Buf (Elt Ideal) ℓ) (ρ : Dev nD → PrngReg) (c : Dev nD)

/-- The kernel's argument arrays the compared results read. -/
abbrev kX : S8192x2048.Idx → EReal := m ((c.tc : Thread nD τ).loc main_arg0)
abbrev kN : S1x2048.Idx → EReal := m ((c.tc : Thread nD τ).loc main_arg3)
abbrev kW : S1x2048x4176.Idx → EReal := m ((c.tc : Thread nD τ).loc main_arg4)
abbrev kM : S1x512.Idx → EReal := m ((c.tc : Thread nD τ).loc main_arg7)
abbrev kU : S1x512x8x128.Idx → EReal := m ((c.tc : Thread nD τ).loc main_arg10)

/-- The results, of the argument arrays. -/
abbrev kLin : Cert.Reference4Ideal.S8192x4176.Idx → EReal := lin (kX m c) (kN m c) (kW m c)
def out16 : S8192x512.Idx → EReal := latent (colL (kLin m c)) (kM m c)
def out15 : S8192x1024.Idx → EReal := vals (out16 m c) (kU m c)
def out18 : S8192x512.Idx → EReal := query (colQ (kLin m c))
def out19 : S8192x512.Idx → EReal := colK (kLin m c)
def out20 : S8192x1024.Idx → EReal := colV (kLin m c)
def out22 : S8192x1024.Idx → EReal := colG (kLin m c)

theorem idx (t : Fin cfg0.N) : win0_0.index t = ![t.val, 0] ∧ win0_3.index t = ![0, 0] ∧ win0_4.index t = ![0, 0] ∧ win0_7.index t = ![0, 0]
    ∧ win0_10.index t = ![0, 0] ∧ win0_15.index t = ![t.val, 0] ∧ win0_16.index t = ![t.val, 0] ∧ win0_18.index t = ![t.val, 0]
    ∧ win0_19.index t = ![t.val, 0] ∧ win0_20.index t = ![t.val, 0] ∧ win0_22.index t = ![t.val, 0] :=
  (by decide +kernel : ∀ t : Fin grid0.N, win0_0.index t = ![t.val, 0] ∧ win0_3.index t = ![0, 0] ∧ win0_4.index t = ![0, 0] ∧ win0_7.index t = ![0, 0]
    ∧ win0_10.index t = ![0, 0] ∧ win0_15.index t = ![t.val, 0] ∧ win0_16.index t = ![t.val, 0] ∧ win0_18.index t = ![t.val, 0]
    ∧ win0_19.index t = ![t.val, 0] ∧ win0_20.index t = ![t.val, 0] ∧ win0_22.index t = ![t.val, 0]) t

theorem lt_N (t : Fin cfg0.N) : t.val < 32 := Nat.lt_of_lt_of_eq t.isLt (by decide)

/-- A point's rows. -/
def row (t : Fin cfg0.N) (r : Fin 256) : Fin 8192 := ⟨256 * t.val + r.val, by have := lt_N t; omega⟩

/-- The arrays the region finds. -/
theorem V_n : V m c main_v20 = shapeCast _ (shapeCast _ (kN m c) shapeCasts_S1x2048_S2048) shapeCasts_S2048_S1x2048 := rfl
theorem V_m : V m c main_v26 = shapeCast _ (shapeCast _ (kM m c) shapeCasts_S1x512_S512) shapeCasts_S512_S1x512 := rfl
theorem V_w : V m c main_v21 = wcat (kW m c) := rfl
theorem V_u : V m c main_v18 = shapeCast _ (shapeCast _ (kU m c) shapeCasts_S1x512x8x128_S512x8x128) shapeCasts_S512x8x128_S512x1024 := rfl

/-- The blocks at an index. -/
theorem blkX (t : Fin cfg0.N) (r : Fin 256) (d : Fin 2048) : iblk m c 0 t (ix2 r d) = kX m c (ix2 (row t r) d) := by
  unfold row; blk_ext [iblk, V, idx t]
theorem blkN (t : Fin cfg0.N) (d : Fin 2048) : iblk m c 3 t (ix2 0 d) = kN m c (ix2 0 d) := by
  have e : iblk m c 3 t (ix2 0 d) = V m c main_v20 (ix2 0 d) := by blk_ext [iblk, idx t]
  rw [e, V_n]; pointwise
theorem blkM (t : Fin cfg0.N) (d : Fin 512) : iblk m c 7 t (ix2 0 d) = kM m c (ix2 0 d) := by
  have e : iblk m c 7 t (ix2 0 d) = V m c main_v26 (ix2 0 d) := by blk_ext [iblk, idx t]
  rw [e, V_m]; pointwise
theorem blkW (t : Fin cfg0.N) (k : Fin 2048) (j : Fin 4096) : iblk m c 4 t (ix2 k j) = kW m c (ix3 0 k (src j)) := by
  have e : iblk m c 4 t (ix2 k j) = V m c main_v21 (ix2 k j) := by blk_ext [iblk, idx t]
  rw [e, V_w, wcat_apply]
theorem blkU (t : Fin cfg0.N) (k : Fin 512) (j : Fin 1024) : iblk m c 10 t (ix2 k j) = kU m c (ix4 0 k ⟨j.val / 128, by omega⟩ ⟨j.val % 128, by omega⟩) := by
  have e : iblk m c 10 t (ix2 k j) = V m c main_v18 (ix2 k j) := by blk_ext [iblk, idx t]
  rw [e, V_u]; pointwise

/-- A column group, as the body loads it: 512 columns wide, or 1024. -/
theorem ldN (x : Vec Ideal S2048x4096 .bf16) (o : Nat) (h) (k : Fin 2048) (d : Fin 512) (ho : o + 512 ≤ 4096) :
    View.ld x (Rect.unit (s := S2048x4096) ![0, o] S2048x512.size h) (ix2 k d) = x (ix2 k ⟨o + d.val, by omega⟩) := by
  refine View.ld_unit_apply_of x _ _ _ _ _ fun a => ?_
  match a with
  | 0 => exact (Nat.zero_add _).symm
  | 1 => rfl
theorem ldW (x : Vec Ideal S2048x4096 .bf16) (o : Nat) (h) (k : Fin 2048) (d : Fin 1024) (ho : o + 1024 ≤ 4096) :
    View.ld x (Rect.unit (s := S2048x4096) ![0, o] S2048x1024.size h) (ix2 k d) = x (ix2 k ⟨o + d.val, by omega⟩) := by
  refine View.ld_unit_apply_of x _ _ _ _ _ fun a => ?_
  match a with
  | 0 => exact (Nat.zero_add _).symm
  | 1 => rfl

/-! ## What a point leaves in each result's block -/

/-- A point's normed rows. -/
theorem valA (t : Fin cfg0.N) (r : Fin 256) (k : Fin 2048) : k0_pay3 (iblk m c 0 t) (iblk m c 3 t) (ix2 r k) = pre (kX m c) (kN m c) (ix2 (row t r) k) := by
  refine (pay3_apply _ _ r k).trans (Eq.trans ?_ (ProjRef.pre_apply _ _ _ _).symm)
  rw [blkX, blkN]
  exact congrArg (fun s => kX m c (ix2 (row t r) k) * Ideal.rsqrt (Ideal.div s _ + _) * kN m c (ix2 0 k))
    (Finset.sum_congr rfl fun j _ => congrArg₂ (· * ·) (blkX m c t r j) (blkX m c t r j))

/-- A point's normed rows times a column of the groups: the projection at that column's place in the weight. -/
theorem valLin (t : Fin cfg0.N) (r : Fin 256) (v : Fin 2048 → EReal) (j : Fin 4096) (q : Fin 4176) (hv : ∀ k, v k = iblk m c 4 t (ix2 k j)) (hq : (src j).val = q.val) :
    ∑ k, k0_pay3 (iblk m c 0 t) (iblk m c 3 t) (ix2 r k) * v k = kLin m c (ix2 (row t r) q) := by
  obtain rfl := Fin.ext hq
  refine Eq.trans ?_ (ProjRef.lin_apply _ _ _ _ _).symm
  exact Finset.sum_congr rfl fun k _ => congrArg₂ (· * ·) (valA m c t r k) ((hv k).trans (blkW m c t k j))

theorem val18 (t : Fin cfg0.N) (r : Fin 256) (d : Fin 512) :
    k0_pay2 (k0_pay6 (iblk m c 0 t) (iblk m c 3 t) (View.ld (iblk m c 4 t) r0_4)) (ix2 r d) = out18 m c (ix2 (row t r) d) := by
  unfold out18
  rw [pay2_apply, ProjRef.query_apply, ProjRef.colQ_apply, pay6_apply]
  exact congrArg (· * Ideal.ofBits FTy.f32 0x3DB504F3#32) (valLin m c t r (fun k => View.ld (iblk m c 4 t) r0_4 (ix2 k d)) ⟨1024 + d.val, by omega⟩ _ (fun k => ldN (iblk m c 4 t) 1024 _ k d (by omega)) (by simp only [src]; split_ifs <;> omega))
theorem val19 (t : Fin cfg0.N) (r : Fin 256) (d : Fin 512) :
    k0_pay7 (iblk m c 0 t) (iblk m c 3 t) (View.ld (iblk m c 4 t) r0_5) (ix2 r d) = out19 m c (ix2 (row t r) d) := by
  unfold out19
  rw [ProjRef.colK_apply, pay7_apply]
  exact valLin m c t r (fun k => View.ld (iblk m c 4 t) r0_5 (ix2 k d)) ⟨1536 + d.val, by omega⟩ _ (fun k => ldN (iblk m c 4 t) 1536 _ k d (by omega)) (by simp only [src]; split_ifs <;> omega)
theorem val20 (t : Fin cfg0.N) (r : Fin 256) (d : Fin 1024) :
    k0_pay8 (iblk m c 0 t) (iblk m c 3 t) (View.ld (iblk m c 4 t) r0_6) (ix2 r d) = out20 m c (ix2 (row t r) d) := by
  unfold out20
  rw [ProjRef.colV_apply, pay8_apply]
  exact valLin m c t r (fun k => View.ld (iblk m c 4 t) r0_6 (ix2 k d)) ⟨2048 + d.val, by omega⟩ _ (fun k => ldW (iblk m c 4 t) 2048 _ k d (by omega)) (by simp only [src]; split_ifs <;> omega)
theorem val22 (t : Fin cfg0.N) (r : Fin 256) (d : Fin 1024) :
    k0_pay9 (iblk m c 0 t) (iblk m c 3 t) (View.ld (iblk m c 4 t) r0_7) (ix2 r d) = out22 m c (ix2 (row t r) d) := by
  unfold out22
  rw [ProjRef.colG_apply, pay9_apply]
  exact valLin m c t r (fun k => View.ld (iblk m c 4 t) r0_7 (ix2 k d)) ⟨3072 + d.val, by omega⟩ _ (fun k => ldW (iblk m c 4 t) 3072 _ k d (by omega)) (by simp only [src]; split_ifs <;> omega)

/-- A point's latent before its norm. -/
theorem valL (t : Fin cfg0.N) (r : Fin 256) (d : Fin 512) :
    k0_pay5 (iblk m c 0 t) (iblk m c 3 t) (View.ld (iblk m c 4 t) r0_3) (ix2 r d) = colL (kLin m c) (ix2 (row t r) d) := by
  rw [ProjRef.colL_apply, pay5_apply]
  exact valLin m c t r (fun k => View.ld (iblk m c 4 t) r0_3 (ix2 k d)) ⟨512 + d.val, by omega⟩ _ (fun k => ldN (iblk m c 4 t) 512 _ k d (by omega)) (by simp only [src]; split_ifs <;> omega)

theorem val16 (t : Fin cfg0.N) (r : Fin 256) (d : Fin 512) :
    k0_pay16 (k0_pay5 (iblk m c 0 t) (iblk m c 3 t) (View.ld (iblk m c 4 t) r0_3)) (iblk m c 7 t) (ix2 r d) = out16 m c (ix2 (row t r) d) := by
  unfold out16
  refine (pay16_apply _ _ r d).trans (Eq.trans ?_ (ProjRef.latent_apply _ _ _ _).symm)
  rw [valL, blkM]
  exact congrArg (fun s => colL (kLin m c) (ix2 (row t r) d) * Ideal.rsqrt (Ideal.div s _ + _) * kM m c (ix2 0 d))
    (Finset.sum_congr rfl fun j _ => congrArg₂ (· * ·) (valL m c t r j) (valL m c t r j))

theorem val15 (t : Fin cfg0.N) (r : Fin 256) (d : Fin 1024) :
    k0_pay22 (k0_pay21 (k0_pay5 (iblk m c 0 t) (iblk m c 3 t) (View.ld (iblk m c 4 t) r0_3)) (iblk m c 7 t) (iblk m c 10 t)) (ix2 r d) = out15 m c (ix2 (row t r) d) := by
  unfold out15
  refine (pay22_apply _ _ _ r d).trans (Eq.trans ?_ (ProjRef.vals_apply _ _ _ _).symm)
  exact Finset.sum_congr rfl fun k _ => congrArg₂ (· * ·) (val16 m c t r k) (blkU m c t k d)

/-! ## The result arrays after the run -/

theorem final15 : (dats m 0 c).arrAt 15 cfg0.N = out15 m c := by
  refine (dats m 0 c).arrAt_eq_of_covers 15 (out15 m c) (by decide +kernel) fun t hf y => ?_
  blk_simp
  rw [after0_15]
  obtain ⟨r, d, rfl⟩ : ∃ (r : Fin 256) (d : Fin 1024), y = ix2 r d := ⟨y 0, y 1, eq_ix2 y⟩
  unfold out0_15 k0_pay50
  simp (disch := decide) only [View.ld_unit_lit', View.canon_cons_unit_lit']
  exact (val15 m c t r d).trans
    (show out15 m c ((win0_15.blk t).view.emb (ix2 r d)) = out15 m c (ix2 (row t r) d) by unfold row; blk_ext [idx t]).symm
theorem final16 : (dats m 0 c).arrAt 16 cfg0.N = out16 m c := by
  refine (dats m 0 c).arrAt_eq_of_covers 16 (out16 m c) (by decide +kernel) fun t hf y => ?_
  blk_simp
  rw [after0_16]
  obtain ⟨r, d, rfl⟩ : ∃ (r : Fin 256) (d : Fin 512), y = ix2 r d := ⟨y 0, y 1, eq_ix2 y⟩
  unfold out0_16 k0_pay50
  simp (disch := decide) only [View.ld_unit_lit', View.canon_cons_unit_lit']
  exact (val16 m c t r d).trans
    (show out16 m c ((win0_16.blk t).view.emb (ix2 r d)) = out16 m c (ix2 (row t r) d) by unfold row; blk_ext [idx t]).symm
theorem final18 : (dats m 0 c).arrAt 18 cfg0.N = out18 m c := by
  refine (dats m 0 c).arrAt_eq_of_covers 18 (out18 m c) (by decide +kernel) fun t hf y => ?_
  blk_simp
  rw [after0_18]
  obtain ⟨r, d, rfl⟩ : ∃ (r : Fin 256) (d : Fin 512), y = ix2 r d := ⟨y 0, y 1, eq_ix2 y⟩
  unfold out0_18
  simp (disch := decide) only [View.ld_unit_lit', View.canon_cons_unit_lit']
  exact (val18 m c t r d).trans
    (show out18 m c ((win0_18.blk t).view.emb (ix2 r d)) = out18 m c (ix2 (row t r) d) by unfold row; blk_ext [idx t]).symm
theorem final19 : (dats m 0 c).arrAt 19 cfg0.N = out19 m c := by
  refine (dats m 0 c).arrAt_eq_of_covers 19 (out19 m c) (by decide +kernel) fun t hf y => ?_
  blk_simp
  rw [after0_19]
  obtain ⟨r, d, rfl⟩ : ∃ (r : Fin 256) (d : Fin 512), y = ix2 r d := ⟨y 0, y 1, eq_ix2 y⟩
  unfold out0_19
  simp (disch := decide) only [View.ld_unit_lit', View.canon_cons_unit_lit']
  exact (val19 m c t r d).trans
    (show out19 m c ((win0_19.blk t).view.emb (ix2 r d)) = out19 m c (ix2 (row t r) d) by unfold row; blk_ext [idx t]).symm
theorem final20 : (dats m 0 c).arrAt 20 cfg0.N = out20 m c := by
  refine (dats m 0 c).arrAt_eq_of_covers 20 (out20 m c) (by decide +kernel) fun t hf y => ?_
  blk_simp
  rw [after0_20]
  obtain ⟨r, d, rfl⟩ : ∃ (r : Fin 256) (d : Fin 1024), y = ix2 r d := ⟨y 0, y 1, eq_ix2 y⟩
  unfold out0_20
  simp (disch := decide) only [View.ld_unit_lit', View.canon_cons_unit_lit']
  exact (val20 m c t r d).trans
    (show out20 m c ((win0_20.blk t).view.emb (ix2 r d)) = out20 m c (ix2 (row t r) d) by unfold row; blk_ext [idx t]).symm
theorem final22 : (dats m 0 c).arrAt 22 cfg0.N = out22 m c := by
  refine (dats m 0 c).arrAt_eq_of_covers 22 (out22 m c) (by decide +kernel) fun t hf y => ?_
  blk_simp
  rw [after0_22]
  obtain ⟨r, d, rfl⟩ : ∃ (r : Fin 256) (d : Fin 1024), y = ix2 r d := ⟨y 0, y 1, eq_ix2 y⟩
  unfold out0_22
  simp (disch := decide) only [View.ld_unit_lit', View.canon_cons_unit_lit']
  exact (val22 m c t r d).trans
    (show out22 m c ((win0_22.blk t).view.emb (ix2 r d)) = out22 m c (ix2 (row t r) d) by unfold row; blk_ext [idx t]).symm

/-! ## The claims -/

/-- The kernel's run on the chip's floats: arguments kept, counters at zero. -/
theorem frame_kernel : Cert.quiescent_Kernel4 := fun m ρ _ => Cert.Kernel4.Gen.frame (F := Bits) m ρ

/-- The same at the exact instance. -/
theorem frame_kernelIdeal : Cert.quiescent_Kernel4Ideal := fun m ρ _ => Cert.Kernel4Ideal.Gen.frame (F := Ideal) m ρ

/-- The reference's run: arguments kept, and it has no semaphore. -/
theorem frame_reference : Cert.quiescent_Reference4Ideal := fun m ρ _ =>
  (θ_run Cert.Reference4Ideal.defs _ _).mono (fun r h => ⟨fun c => (h c).2.2.2.2.2.2, sem_eq_zero_of_no_sems rfl r.2⟩) (Cert.Reference4Ideal.Value.run (F := Ideal) m ρ)

/-- The kernel and the reference end with equal results. -/
theorem algebraic : Cert.algebraic_Kernel4Ideal_Reference4Ideal := by
  intro m ρ m' ρ' _ he
  refine ⟨fun c => out15 m c, fun c => out16 m c, fun c => out18 m c, fun c => out19 m c, fun c => out20 m c, fun c => out22 m c,
    (θ_run defs _ _).mono (fun r h c => ?_) (Cert.Kernel4Ideal.Value.run_blocks (F := Ideal) m ρ), ?_⟩
  · obtain ⟨-, -, h15, h16, -, h18, h19, h20, -, h22, hr⟩ := h c
    exact ⟨h15.trans (final15 m c), h16.trans (final16 m c), h18.trans (final18 m c), h19.trans (final19 m c), h20.trans (final20 m c), h22.trans (final22 m c), hr⟩
  refine (θ_run Cert.Reference4Ideal.defs _ _).mono (fun r h c => ?_) (Cert.Reference4Ideal.Value.run (F := Ideal) m' ρ')
  obtain ⟨e0, -, -, e3, e4, -, -, e7, -, -, e10, -, -⟩ := he c
  obtain ⟨h0, h1, h2, h3, h4, h5, hr⟩ := h c
  refine ⟨h0.trans ?_, h1.trans ?_, h2.trans ?_, h3.trans ?_, h4.trans ?_, h5.trans ?_, hr⟩
  · rw [e0, e3, e4, e7, e10]; rfl
  · rw [e0, e3, e4, e7]; rfl
  · rw [e0, e3, e4]; rfl
  · rw [e0, e3, e4]; rfl
  · rw [e0, e3, e4]; rfl
  · rw [e0, e3, e4]; rfl

end Cert.Proof.Proj

end
-- ==== Proof.RopeRef.lean ====
/-
  The rotary key's reference at the exact instance, read at an index; and why a sum of negated products is the negated sum
  when the normed rows and the weight's columns are finite.
-/
module

public import proofs.«01_k».proof.Proof.ProjRef
public import proofs.«01_k».proof.Proof.GlaClaim
public import proofs.«01_k».proof.Proof.Gen.Reference5Ideal.Run
public import proofs.«01_k».proof.Pre_finite_rope

@[expose] public section

set_option maxRecDepth 16384

noncomputable section

namespace Cert.Proof.RopeRef

open Idealize.ShloMosaic Idealize.SL.Sem Cert.Reference5Ideal Cert.Reference5Ideal.Gen Cert.Reference5Ideal.Value
open Idealize.ShloMosaic.StableHlo
open Cert.Proof.GlaCase (IsFin)
open Cert.Proof.ProjRef (pre lin)

/-- The first and the second half of the rotary key's columns; -/
def half1 (y : FVec Ideal S8192x4176 .f32) : FVec Ideal S8192x32 .f32 :=
  extractStridedSlice S8192x32 ![0, 0] (extractStridedSlice S8192x64 ![0, 1024] y slices_S8192x4176_S8192x64_0_1024) slices_S8192x64_S8192x32_0_0
def half2 (y : FVec Ideal S8192x4176 .f32) : FVec Ideal S8192x32 .f32 :=
  extractStridedSlice S8192x32 ![0, 32] (extractStridedSlice S8192x64 ![0, 1024] y slices_S8192x4176_S8192x64_0_1024) slices_S8192x64_S8192x32_0_32

/-- and the two turned by the angles whose cosines and sines are given. -/
def turn (y : FVec Ideal S8192x4176 .f32) (c s : FVec Ideal S8192x32 .f32) : FVec Ideal S8192x64 .f32 :=
  concatenate S8192x64 1 [⟨S8192x32, subf (mulf (half1 y) c) (mulf (half2 y) s)⟩, ⟨S8192x32, addf (mulf (half1 y) s) (mulf (half2 y) c)⟩] concatenates_S8192x32_S8192x32_S8192x64_d1

theorem half1_apply (y : FVec Ideal S8192x4176 .f32) (n : Fin 8192) (d : Fin 32) : half1 y (ix2 n d) = y (ix2 n ⟨1024 + d.val, by omega⟩) := by
  unfold half1; pointwise
theorem half2_apply (y : FVec Ideal S8192x4176 .f32) (n : Fin 8192) (d : Fin 32) : half2 y (ix2 n d) = y (ix2 n ⟨1056 + d.val, by omega⟩) := by
  unfold half2
  pointwise
  exact congrArg (fun q => y (ix2 n q)) (Fin.ext (by simp only []; omega))

/-- The first half of the turned key; -/
theorem turn_low (y : FVec Ideal S8192x4176 .f32) (c s : FVec Ideal S8192x32 .f32) (n : Fin 8192) (d : Fin 32) :
    turn y c s (ix2 n ⟨d.val, by omega⟩) = y (ix2 n ⟨1024 + d.val, by omega⟩) * c (ix2 n d) - y (ix2 n ⟨1056 + d.val, by omega⟩) * s (ix2 n d) := by
  rw [← half1_apply y, ← half2_apply y]
  unfold turn
  generalize half1 y = A
  generalize half2 y = B
  pointwise

/-- and the second. -/
theorem turn_high (y : FVec Ideal S8192x4176 .f32) (c s : FVec Ideal S8192x32 .f32) (n : Fin 8192) (d : Fin 32) :
    turn y c s (ix2 n ⟨32 + d.val, by omega⟩) = y (ix2 n ⟨1024 + d.val, by omega⟩) * s (ix2 n d) + y (ix2 n ⟨1056 + d.val, by omega⟩) * c (ix2 n d) := by
  rw [← half1_apply y, ← half2_apply y]
  unfold turn
  generalize half1 y = A
  generalize half2 y = B
  pointwise

/-- A finite entry is a real. -/
theorem real_of_fin {x : EReal} (h : x ≠ ⊤ ∧ x ≠ ⊥) : ∃ r : ℝ, x = (r : EReal) := ⟨x.toReal, (EReal.coe_toReal h.1 h.2).symm⟩

/-- The constants of the norm are positive reals. -/
theorem two_pos : ∃ r : ℝ, 0 < r ∧ Ideal.ofBits FTy.f32 1157627904#32 = (r : EReal) :=
  ⟨2048, by norm_num, by simp [Ideal.ofBits, Ideal.ieee, -EReal.coe_mul]; norm_num⟩
theorem eps_pos : ∃ r : ℝ, 0 < r ∧ Ideal.ofBits FTy.f32 897988541#32 = (r : EReal) := by
  refine ⟨((8388608 + 407485 : ℝ) * (2 : ℝ) ^ (-43 : ℤ)), by positivity, ?_⟩
  simp [Ideal.ofBits, Ideal.ieee, -EReal.coe_mul]
  norm_num

/-- Rows of finite entries have a finite norm. -/
theorem pre_fin (x : FVec Ideal S8192x2048 .f32) (w : FVec Ideal S1x2048 .f32) (hx : IsFin x) (hw : IsFin w) (n : Fin 8192) (d : Fin 2048) :
    ∃ r : ℝ, pre x w (ix2 n d) = (r : EReal) := by
  choose f hf using fun k => real_of_fin (hx (ix2 n k))
  obtain ⟨b, hb⟩ := real_of_fin (hw (ix2 0 d))
  obtain ⟨t, ht, et⟩ := two_pos
  obtain ⟨e, he, ee⟩ := eps_pos
  have hp : 0 < (∑ k, f k * f k) * (1 / t) + e :=
    add_pos_of_nonneg_of_pos (mul_nonneg (Finset.sum_nonneg fun k _ => mul_self_nonneg _) (by positivity)) he
  refine ⟨f d * (Real.sqrt ((∑ k, f k * f k) * (1 / t) + e))⁻¹ * b, ?_⟩
  rw [ProjRef.pre_apply]
  simp only [hf, hb, et, ee, ← EReal.coe_mul, ← GlaHead.coe_sum]
  rw [Ideal.div_coe ht.ne', ← EReal.coe_mul, ← EReal.coe_add, Ideal.rsqrt_coe, if_neg (not_lt.mpr hp.le), if_neg hp.ne', ← EReal.coe_mul, ← EReal.coe_mul]

/-- The projection on a finite column: with the column's signs turned, the sum's sign turns. -/
theorem sum_neg (a w : Fin 2048 → EReal) (ha : ∀ k, ∃ r : ℝ, a k = (r : EReal)) (hw : ∀ k, ∃ r : ℝ, w k = (r : EReal)) :
    ∑ k, a k * -w k = -∑ k, a k * w k := by
  choose f hf using ha
  choose g hg using hw
  simp only [hf, hg, ← EReal.coe_neg, ← EReal.coe_mul, ← GlaHead.coe_sum]
  exact congrArg _ (by simp [mul_neg, Finset.sum_neg_distrib])

/-- The side conditions of the precondition's shape relations. -/
theorem preFacts : Cert.Pre_finite_rope.Facts where
  slices_S1x2048x4176_S1x2048x64_0_0_1024 := by decide
  shapeCasts_S1x2048x64_S2048x64 := by decide
  transposes_S2048x64_S64x2048_1_0 := by decide
  concatenates_S8192x2048_S1x2048_S64x2048_S8257x2048_d0 := by decide
  bcast_S_S8257x2048 := by decide

/-- What the precondition says: the rows, the norm's weight and the rotary key's columns of the weight are finite. -/
theorem finite_of_pre (x0 : FVec Ideal S8192x2048 .f32) (x1 x2 : FVec Ideal S8192x32 .f32) (x3 : FVec Ideal S1x2048 .f32) (x4 : FVec Ideal S1x2048x4176 .f32)
    (x5 x6 : FVec Ideal Cert.Pre_finite_rope.S1x512 .f32) (x7 : FVec Ideal Cert.Pre_finite_rope.S512x3072 .f32) (x8 x9 : FVec Ideal Cert.Pre_finite_rope.S1x512x8x128 .f32)
    (x10 : FVec Ideal Cert.Pre_finite_rope.S128x512 .f32) (x11 : FVec Ideal Cert.Pre_finite_rope.S1x512 .f32)
    (h : letI := preFacts; Cert.Pre_finite_rope.fn (F := Ideal) x0 x1 x2 x3 x4 x5 x6 x7 x8 x9 x10 x11 = fun _ => 1#1) :
    IsFin x0 ∧ IsFin x3 ∧ ∀ (k : Fin 2048) (d : Fin 64), ∃ r : ℝ, x4 (ix3 0 k ⟨1024 + d.val, by omega⟩) = (r : EReal) := by
  letI := preFacts
  refine ⟨?_, ?_, ?_⟩
  · intro i
    obtain ⟨a, b, rfl⟩ : ∃ (a : Fin 8192) (b : Fin 2048), i = ix2 a b := ⟨i 0, i 1, eq_ix2 i⟩
    have e := congrFun h (ix2 ⟨0 + a.val, by omega⟩ b)
    unfold Cert.Pre_finite_rope.fn at e
    pointwise at e
    exact GlaClaim.of_lt_inf e
  · intro i
    obtain ⟨a, b, rfl⟩ : ∃ (a : Fin 1) (b : Fin 2048), i = ix2 a b := ⟨i 0, i 1, eq_ix2 i⟩
    obtain rfl : a = 0 := Subsingleton.elim _ _
    have e := congrFun h (ix2 ⟨8192, by omega⟩ b)
    unfold Cert.Pre_finite_rope.fn at e
    pointwise at e
    exact GlaClaim.of_lt_inf e
  · intro k d
    have e := congrFun h (ix2 ⟨8193 + d.val, by omega⟩ k)
    unfold Cert.Pre_finite_rope.fn at e
    pointwise at e
    simp (disch := omega) only [dif_pos, dif_neg] at e
    have e' : 8193 + d.val - 8192 - 1 = d.val := by omega
    simp only [e', Fin.eta] at e
    exact real_of_fin (GlaClaim.of_lt_inf e)

end Cert.Proof.RopeRef

end
-- ==== Proof.RopeClaim.lean ====
/-
  The rotary key of the input projections equals its reference on finite arguments: its blocks and values read at an index,
  the result array after the run, and the certificate's claims about the fifth program pair.
-/
module

public import proofs.«01_k».proof.Defs
public import proofs.«01_k».proof.Proof.RopeRef
public import proofs.«01_k».proof.Proof.Gen.Kernel5.Frame
public import proofs.«01_k».proof.Proof.Gen.Kernel5Ideal.Skeleton
public import proofs.«01_k».proof.Proof.Gen.Kernel5Ideal.Value
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Rope

open Cert.Kernel5Ideal Cert.Kernel5Ideal.Gen
open Idealize.ShloMosaic Idealize.SL.Sem
open Cert.Proof.ProjRef (pre lin)
open Cert.Proof.RopeRef (turn)

/-! ## The body's values at an index -/

/-- The normed rows; -/
theorem rows_apply (x : Vec Ideal S256x2048 .f32) (n : Vec Ideal S1x2048 .f32) (r : Fin 256) (k : Fin 2048) :
    k0_pay3 x n (ix2 r k) = x (ix2 r k) * Ideal.rsqrt (Ideal.div (∑ j, x (ix2 r j) * x (ix2 r j)) (Ideal.ofBits FTy.f32 1157627904#32) + Ideal.ofBits FTy.f32 897988541#32) * n (ix2 0 k) := by
  unfold k0_pay3; pointwise

/-- and a column of the turned key, out of the products with a column of each half of the narrow weight. -/
theorem key_apply (A : FVec Ideal S256x2048 .bf16) (u w : Vec Ideal S2048x128 .bf16) (c s : Vec Ideal S256x128 .f32) (r : Fin 256) (d : Fin 64) :
    k0_pay1 (k0_pay21 (k0_pay10 A u) (k0_pay11 A w) (k0_pay12 c) (k0_pay13 s)) (ix2 r d)
      = (∑ k, A (ix2 r k) * u (ix2 k ⟨d.val, by omega⟩)) * c (ix2 r ⟨d.val, by omega⟩) + (∑ k, A (ix2 r k) * w (ix2 k ⟨d.val, by omega⟩)) * s (ix2 r ⟨d.val, by omega⟩) := by
  unfold k0_pay1 k0_pay21 k0_pay10 k0_pay11 k0_pay12 k0_pay13
  pointwise

/-! ## The narrow weight and the tables -/

/-- The rotary key's columns of the weight. -/
def wkr (w : FVec Ideal S1x2048x4176 .f32) : FVec Ideal S2048x64 .f32 :=
  shapeCast S2048x64 (extractStridedSlice S1x2048x64 ![0, 0, 1024] w slices_S1x2048x4176_S1x2048x64_0_0_1024) shapeCasts_S1x2048x64_S2048x64
def wga (w : FVec Ideal S1x2048x4176 .f32) : FVec Ideal S2048x16 .f32 :=
  shapeCast S2048x16 (extractStridedSlice S1x2048x16 ![0, 0, 3136] w slices_S1x2048x4176_S1x2048x16_0_0_3136) shapeCasts_S1x2048x16_S2048x16

/-- The narrow weight: those columns and the gate's, and then the key's halves exchanged, the second with its sign turned. -/
def wnar (w : FVec Ideal S1x2048x4176 .f32) : FVec Ideal S2048x256 .bf16 :=
  truncf .bf16 (concatenate S2048x256 1 [⟨S2048x64, wkr w⟩, ⟨S2048x16, wga w⟩,
    ⟨S2048x48, broadcastInDim S2048x48 ![] bcast_S_S2048x48 (constant (F := Ideal) S_ .f32 0x00000000#32)⟩,
    ⟨S2048x32, Host.negf (extractStridedSlice S2048x32 ![0, 32] (wkr w) slices_S2048x64_S2048x32_0_32)⟩,
    ⟨S2048x32, extractStridedSlice S2048x32 ![0, 0] (wkr w) slices_S2048x64_S2048x32_0_0⟩,
    ⟨S2048x64, broadcastInDim S2048x64 ![] bcast_S_S2048x64 (constant (F := Ideal) S_ .f32 0x00000000#32)⟩]
    concatenates_S2048x64_S2048x16_S2048x48_S2048x32_S2048x32_S2048x64_S2048x256_d1) bitsLt_bf16_f32

theorem wkr_apply (w : FVec Ideal S1x2048x4176 .f32) (k : Fin 2048) (d : Fin 64) : wkr w (ix2 k d) = w (ix3 0 k ⟨1024 + d.val, by omega⟩) := by
  unfold wkr; pointwise

theorem wnar_key (w : FVec Ideal S1x2048x4176 .f32) (k : Fin 2048) (d : Fin 64) : wnar w (ix2 k ⟨d.val, by omega⟩) = w (ix3 0 k ⟨1024 + d.val, by omega⟩) := by
  rw [← wkr_apply w k d]
  unfold wnar
  generalize wkr w = K
  generalize wga w = G
  pointwise
theorem wnar_neg (w : FVec Ideal S1x2048x4176 .f32) (k : Fin 2048) (d : Fin 32) : wnar w (ix2 k ⟨128 + d.val, by omega⟩) = -w (ix3 0 k ⟨1056 + d.val, by omega⟩) := by
  have e := wkr_apply w k ⟨32 + d.val, by omega⟩
  have e' : w (ix3 0 k ⟨1056 + d.val, by omega⟩) = wkr w (ix2 k ⟨32 + d.val, by omega⟩) :=
    (congrArg (fun q => w (ix3 0 k q)) (Fin.ext (by simp only []; omega))).trans e.symm
  rw [e']
  unfold wnar
  generalize wkr w = K
  generalize wga w = G
  pointwise
  simp (disch := omega) only [dif_pos, dif_neg]
  exact congrArg (fun q => -K (ix2 k q)) (Fin.ext (by simp only []; omega))
theorem wnar_pos (w : FVec Ideal S1x2048x4176 .f32) (k : Fin 2048) (d : Fin 32) : wnar w (ix2 k ⟨160 + d.val, by omega⟩) = w (ix3 0 k ⟨1024 + d.val, by omega⟩) := by
  have e : w (ix3 0 k ⟨1024 + d.val, by omega⟩) = wkr w (ix2 k ⟨d.val, by omega⟩) := (wkr_apply w k ⟨d.val, by omega⟩).symm
  rw [e]
  unfold wnar
  generalize wkr w = K
  generalize wga w = G
  pointwise
  simp (disch := omega) only [dif_pos, dif_neg]
  exact congrArg (fun q => K (ix2 k q)) (Fin.ext (by simp only []; omega))

/-- A table of angles twice side by side, and zeros. -/
def tab (x : FVec Ideal S8192x32 .f32) : FVec Ideal S8192x128 .f32 :=
  concatenate S8192x128 1 [⟨S8192x32, x⟩, ⟨S8192x32, x⟩, ⟨S8192x64, broadcastInDim S8192x64 ![] bcast_S_S8192x64 (constant (F := Ideal) S_ .f32 0x00000000#32)⟩]
    concatenates_S8192x32_S8192x32_S8192x64_S8192x128_d1

theorem tab_low (x : FVec Ideal S8192x32 .f32) (n : Fin 8192) (d : Fin 32) : tab x (ix2 n ⟨d.val, by omega⟩) = x (ix2 n d) := by
  unfold tab
  pointwise
theorem tab_high (x : FVec Ideal S8192x32 .f32) (n : Fin 8192) (d : Fin 32) : tab x (ix2 n ⟨32 + d.val, by omega⟩) = x (ix2 n d) := by
  unfold tab
  pointwise

variable (m : (ℓ : Loc nD τ sig) → Buf (Elt Ideal) ℓ) (ρ : Dev nD → PrngReg) (c : Dev nD)

/-- The kernel's argument arrays the compared result reads. -/
abbrev kX : S8192x2048.Idx → EReal := m ((c.tc : Thread nD τ).loc main_arg0)
abbrev kC : S8192x32.Idx → EReal := m ((c.tc : Thread nD τ).loc main_arg1)
abbrev kS : S8192x32.Idx → EReal := m ((c.tc : Thread nD τ).loc main_arg2)
abbrev kN : S1x2048.Idx → EReal := m ((c.tc : Thread nD τ).loc main_arg3)
abbrev kW : S1x2048x4176.Idx → EReal := m ((c.tc : Thread nD τ).loc main_arg4)

/-- The result, of the argument arrays. -/
abbrev kLin : Cert.Reference4Ideal.S8192x4176.Idx → EReal := lin (kX m c) (kN m c) (kW m c)
def out17 : S8192x64.Idx → EReal := turn (kLin m c) (kC m c) (kS m c)

theorem idx (t : Fin cfg0.N) : win0_0.index t = ![t.val, 0] ∧ win0_1.index t = ![t.val, 0] ∧ win0_2.index t = ![t.val, 0] ∧ win0_3.index t = ![0, 0]
    ∧ win0_5.index t = ![0, 0] ∧ win0_17.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_5.index t = ![0, 0] ∧ win0_17.index t = ![t.val, 0]) t

theorem lt_N (t : Fin cfg0.N) : t.val < 32 := Nat.lt_of_lt_of_eq t.isLt (by decide)

/-- A point's rows. -/
def row (t : Fin cfg0.N) (r : Fin 256) : Fin 8192 := ⟨256 * t.val + r.val, by have := lt_N t; omega⟩

/-- The arrays the region finds. -/
theorem V_n : V m c main_v33 = shapeCast _ (shapeCast _ (kN m c) shapeCasts_S1x2048_S2048) shapeCasts_S2048_S1x2048 := rfl
theorem V_t : V m c main_v35 = wnar (kW m c) := rfl
theorem V_c : V m c main_v24 = tab (kC m c) := rfl
theorem V_s : V m c main_v25 = tab (kS m c) := rfl

/-- The blocks at an index. -/
theorem blkX (t : Fin cfg0.N) (r : Fin 256) (d : Fin 2048) : iblk m c 0 t (ix2 r d) = kX m c (ix2 (row t r) d) := by
  unfold row; blk_ext [iblk, V, idx t]
theorem blkC (t : Fin cfg0.N) (r : Fin 256) (d : Fin 128) : iblk m c 1 t (ix2 r d) = tab (kC m c) (ix2 (row t r) d) := by
  have e : iblk m c 1 t (ix2 r d) = V m c main_v24 (ix2 (row t r) d) := by unfold row; blk_ext [iblk, idx t]
  rw [e, V_c]
theorem blkS (t : Fin cfg0.N) (r : Fin 256) (d : Fin 128) : iblk m c 2 t (ix2 r d) = tab (kS m c) (ix2 (row t r) d) := by
  have e : iblk m c 2 t (ix2 r d) = V m c main_v25 (ix2 (row t r) d) := by unfold row; blk_ext [iblk, idx t]
  rw [e, V_s]
theorem blkN (t : Fin cfg0.N) (d : Fin 2048) : iblk m c 3 t (ix2 0 d) = kN m c (ix2 0 d) := by
  have e : iblk m c 3 t (ix2 0 d) = V m c main_v33 (ix2 0 d) := by blk_ext [iblk, idx t]
  rw [e, V_n]; pointwise
theorem blkT (t : Fin cfg0.N) (k : Fin 2048) (j : Fin 256) : iblk m c 5 t (ix2 k j) = wnar (kW m c) (ix2 k j) := by
  have e : iblk m c 5 t (ix2 k j) = V m c main_v35 (ix2 k j) := by blk_ext [iblk, idx t]
  rw [e, V_t]

/-- A half of the narrow weight, as the body loads it. -/
theorem ldT (x : Vec Ideal S2048x256 .bf16) (o : Nat) (h) (k : Fin 2048) (d : Fin 128) (ho : o + 128 ≤ 256) :
    View.ld x (Rect.unit (s := S2048x256) ![0, o] S2048x128.size h) (ix2 k d) = x (ix2 k ⟨o + d.val, by omega⟩) := by
  refine View.ld_unit_apply_of x _ _ _ _ _ fun a => ?_
  match a with
  | 0 => exact (Nat.zero_add _).symm
  | 1 => rfl

/-! ## What a point leaves in the result's block -/

/-- A point's normed rows. -/
theorem valA (t : Fin cfg0.N) (r : Fin 256) (k : Fin 2048) : k0_pay3 (iblk m c 0 t) (iblk m c 3 t) (ix2 r k) = pre (kX m c) (kN m c) (ix2 (row t r) k) := by
  refine (rows_apply _ _ r k).trans (Eq.trans ?_ (ProjRef.pre_apply _ _ _ _).symm)
  rw [blkX, blkN]
  exact congrArg (fun s => kX m c (ix2 (row t r) k) * Ideal.rsqrt (Ideal.div s _ + _) * kN m c (ix2 0 k))
    (Finset.sum_congr rfl fun j _ => congrArg₂ (· * ·) (blkX m c t r j) (blkX m c t r j))

/-- A point's normed rows times a column: the projection on it. -/
theorem valLin (t : Fin cfg0.N) (r : Fin 256) (v : Fin 2048 → EReal) (q : Fin 4176) (hv : ∀ k, v k = kW m c (ix3 0 k q)) :
    ∑ k, k0_pay3 (iblk m c 0 t) (iblk m c 3 t) (ix2 r k) * v k = kLin m c (ix2 (row t r) q) := by
  refine Eq.trans ?_ (ProjRef.lin_apply _ _ _ _ _).symm
  exact Finset.sum_congr rfl fun k _ => congrArg₂ (· * ·) (valA m c t r k) (hv k)

/-- And on a column with its signs turned. -/
theorem valNeg (t : Fin cfg0.N) (r : Fin 256) (v : Fin 2048 → EReal) (q : Fin 4176) (hv : ∀ k, v k = -kW m c (ix3 0 k q))
    (ha : ∀ n k, ∃ x : ℝ, pre (kX m c) (kN m c) (ix2 n k) = (x : EReal)) (hw : ∀ k, ∃ x : ℝ, kW m c (ix3 0 k q) = (x : EReal)) :
    ∑ k, k0_pay3 (iblk m c 0 t) (iblk m c 3 t) (ix2 r k) * v k = -kLin m c (ix2 (row t r) q) := by
  refine Eq.trans ?_ (congrArg (fun z : EReal => -z) (ProjRef.lin_apply (kX m c) (kN m c) (kW m c) (row t r) q).symm)
  refine Eq.trans (Finset.sum_congr rfl fun k _ => congrArg₂ (· * ·) (valA m c t r k) (hv k)) ?_
  exact RopeRef.sum_neg (fun k => pre (kX m c) (kN m c) (ix2 (row t r) k)) (fun k => kW m c (ix3 0 k q)) (ha _) hw

/-- The block's first 32 columns; -/
theorem val_low (t : Fin cfg0.N) (r : Fin 256) (d : Fin 32)
    (ha : ∀ n k, ∃ x : ℝ, pre (kX m c) (kN m c) (ix2 n k) = (x : EReal)) (hw : ∀ (k : Fin 2048) (e : Fin 64), ∃ x : ℝ, kW m c (ix3 0 k ⟨1024 + e.val, by omega⟩) = (x : EReal)) :
    k0_pay1 (k0_pay21 (k0_pay10 (k0_pay3 (iblk m c 0 t) (iblk m c 3 t)) (View.ld (iblk m c 5 t) r0_8)) (k0_pay11 (k0_pay3 (iblk m c 0 t) (iblk m c 3 t)) (View.ld (iblk m c 5 t) r0_9)) (k0_pay12 (iblk m c 1 t)) (k0_pay13 (iblk m c 2 t))) (ix2 r ⟨d.val, by omega⟩)
      = out17 m c (ix2 (row t r) ⟨d.val, by omega⟩) := by
  unfold out17
  refine (key_apply _ _ _ _ _ r ⟨d.val, by omega⟩).trans (Eq.trans ?_ (RopeRef.turn_low _ _ _ _ d).symm)
  have h1 := valLin m c t r (fun k => View.ld (iblk m c 5 t) r0_8 (ix2 k ⟨d.val, by omega⟩)) ⟨1024 + d.val, by omega⟩
    (fun k => (ldT (iblk m c 5 t) 0 _ k ⟨d.val, by omega⟩ (by omega)).trans ((blkT m c t k _).trans
      ((congrArg (fun q => wnar (kW m c) (ix2 k q)) (Fin.ext (by simp only []; omega))).trans (wnar_key (kW m c) k ⟨d.val, by omega⟩))))
  have h2 := valNeg m c t r (fun k => View.ld (iblk m c 5 t) r0_9 (ix2 k ⟨d.val, by omega⟩)) ⟨1056 + d.val, by omega⟩
    (fun k => (ldT (iblk m c 5 t) 128 _ k ⟨d.val, by omega⟩ (by omega)).trans ((blkT m c t k _).trans (wnar_neg (kW m c) k d))) ha
    (fun k => by
      obtain ⟨x, hx⟩ := hw k ⟨32 + d.val, by omega⟩
      exact ⟨x, (congrArg (fun q => kW m c (ix3 0 k q)) (Fin.ext (by simp only []; omega))).trans hx⟩)
  have h3 : iblk m c 1 t (ix2 r ⟨d.val, by omega⟩) = kC m c (ix2 (row t r) d) := (blkC m c t r _).trans (tab_low _ _ _)
  have h4 : iblk m c 2 t (ix2 r ⟨d.val, by omega⟩) = kS m c (ix2 (row t r) d) := (blkS m c t r _).trans (tab_low _ _ _)
  refine (congrArg₂ (· + ·) (congrArg₂ (· * ·) h1 h3) (congrArg₂ (· * ·) h2 h4)).trans ?_
  rw [EReal.neg_mul]
  exact (sub_eq_add_neg _ _).symm

/-- and its last 32. -/
theorem val_high (t : Fin cfg0.N) (r : Fin 256) (d : Fin 32) :
    k0_pay1 (k0_pay21 (k0_pay10 (k0_pay3 (iblk m c 0 t) (iblk m c 3 t)) (View.ld (iblk m c 5 t) r0_8)) (k0_pay11 (k0_pay3 (iblk m c 0 t) (iblk m c 3 t)) (View.ld (iblk m c 5 t) r0_9)) (k0_pay12 (iblk m c 1 t)) (k0_pay13 (iblk m c 2 t))) (ix2 r ⟨32 + d.val, by omega⟩)
      = out17 m c (ix2 (row t r) ⟨32 + d.val, by omega⟩) := by
  unfold out17
  refine (key_apply _ _ _ _ _ r ⟨32 + d.val, by omega⟩).trans (Eq.trans ?_ (RopeRef.turn_high _ _ _ _ d).symm)
  have h1 := valLin m c t r (fun k => View.ld (iblk m c 5 t) r0_8 (ix2 k ⟨32 + d.val, by omega⟩)) ⟨1056 + d.val, by omega⟩
    (fun k => (ldT (iblk m c 5 t) 0 _ k ⟨32 + d.val, by omega⟩ (by omega)).trans ((blkT m c t k _).trans
      ((congrArg (fun q => wnar (kW m c) (ix2 k q)) (Fin.ext (by simp only []; omega))).trans ((wnar_key (kW m c) k ⟨32 + d.val, by omega⟩).trans
        (congrArg (fun q => kW m c (ix3 0 k q)) (Fin.ext (by simp only []; omega)))))))
  have h2 := valLin m c t r (fun k => View.ld (iblk m c 5 t) r0_9 (ix2 k ⟨32 + d.val, by omega⟩)) ⟨1024 + d.val, by omega⟩
    (fun k => (ldT (iblk m c 5 t) 128 _ k ⟨32 + d.val, by omega⟩ (by omega)).trans ((blkT m c t k _).trans
      ((congrArg (fun q => wnar (kW m c) (ix2 k q)) (Fin.ext (by simp only []; omega))).trans (wnar_pos (kW m c) k d))))
  have h3 : iblk m c 1 t (ix2 r ⟨32 + d.val, by omega⟩) = kC m c (ix2 (row t r) d) := (blkC m c t r _).trans (tab_high _ _ _)
  have h4 : iblk m c 2 t (ix2 r ⟨32 + d.val, by omega⟩) = kS m c (ix2 (row t r) d) := (blkS m c t r _).trans (tab_high _ _ _)
  exact (congrArg₂ (· + ·) (congrArg₂ (· * ·) h1 h3) (congrArg₂ (· * ·) h2 h4)).trans (add_comm _ _)

/-! ## The result array after the run -/

theorem final17 (ha : ∀ n k, ∃ x : ℝ, pre (kX m c) (kN m c) (ix2 n k) = (x : EReal)) (hw : ∀ (k : Fin 2048) (e : Fin 64), ∃ x : ℝ, kW m c (ix3 0 k ⟨1024 + e.val, by omega⟩) = (x : EReal)) :
    (dats m 0 c).arrAt 17 cfg0.N = out17 m c := by
  refine (dats m 0 c).arrAt_eq_of_covers 17 (out17 m c) (by decide +kernel) fun t hf y => ?_
  blk_simp
  rw [after0_17]
  obtain ⟨r, d, rfl⟩ : ∃ (r : Fin 256) (d : Fin 64), y = ix2 r d := ⟨y 0, y 1, eq_ix2 y⟩
  unfold out0_17 k0_pay60 k0_pay54 k0_pay55 k0_pay56 k0_pay51
  simp (disch := decide) only [View.ld_unit_lit', View.canon_cons_unit_lit']
  have hr : out17 m c ((win0_17.blk t).view.emb (ix2 r d)) = out17 m c (ix2 (row t r) d) := by unfold row; blk_ext [idx t]
  refine Eq.trans ?_ hr.symm
  by_cases hd : d.val < 32
  · exact val_low m c t r ⟨d.val, hd⟩ ha hw
  · obtain ⟨e, rfl⟩ : ∃ e : Fin 32, d = ⟨32 + e.val, Nat.add_lt_add_left e.isLt 32⟩ := ⟨⟨d.val - 32, by omega⟩, Fin.ext (by simp only []; omega)⟩
    exact val_high m c t r e

/-! ## The claims -/

/-- The kernel's run on the chip's floats: arguments kept, counters at zero. -/
theorem frame_kernel : Cert.quiescent_Kernel5 := fun m ρ _ => Cert.Kernel5.Gen.frame (F := Bits) m ρ

/-- The same at the exact instance. -/
theorem frame_kernelIdeal : Cert.quiescent_Kernel5Ideal := fun m ρ _ => Cert.Kernel5Ideal.Gen.frame (F := Ideal) m ρ

/-- The reference's run: arguments kept, and it has no semaphore. -/
theorem frame_reference : Cert.quiescent_Reference5Ideal := fun m ρ _ =>
  (θ_run Cert.Reference5Ideal.defs _ _).mono (fun r h => ⟨fun c => (h c).2, sem_eq_zero_of_no_sems rfl r.2⟩) (Cert.Reference5Ideal.Value.run (F := Ideal) m ρ)

/-- The same claims under the precondition. -/
theorem frame_kernelIdeal_pre : Cert.quiescent_Kernel5Ideal_pre_finite_rope (hPre_finite_rope := RopeRef.preFacts) := fun m ρ _ => Cert.Kernel5Ideal.Gen.frame (F := Ideal) m ρ

/-- And of the reference. -/
theorem frame_reference_pre : Cert.quiescent_Reference5Ideal_pre_finite_rope (hPre_finite_rope := RopeRef.preFacts) := fun m ρ _ => frame_reference m ρ trivial

/-- The kernel's rotary key and the reference's are equal on finite arguments. -/
theorem algebraic : Cert.algebraic_Kernel5Ideal_Reference5Ideal_pre_finite_rope (hPre_finite_rope := RopeRef.preFacts) := by
  letI := RopeRef.preFacts
  intro m ρ m' ρ' hp he
  have hf := fun c => RopeRef.finite_of_pre _ _ _ _ _ _ _ _ _ _ _ _ (hp c)
  refine ⟨fun c => out17 m c, (θ_run defs _ _).mono (fun r h c => ?_) (Cert.Kernel5Ideal.Value.run_blocks (F := Ideal) m ρ), ?_⟩
  · obtain ⟨-, -, -, -, h17, -, -, -, -, -, hr⟩ := h c
    exact ⟨h17.trans (final17 m c (RopeRef.pre_fin _ _ (hf c).1 (hf c).2.1) (hf c).2.2), hr⟩
  refine (θ_run Cert.Reference5Ideal.defs _ _).mono (fun r h c => ?_) (Cert.Reference5Ideal.Value.run (F := Ideal) m' ρ')
  obtain ⟨e0, e1, e2, e3, e4, -⟩ := he c
  refine ⟨(h c).1.trans ?_, (h c).2⟩
  unfold Cert.Reference5Ideal.Value.res_main_v32
  rw [e0, e1, e2, e3, e4]; rfl

end Cert.Proof.Rope

end
-- ==== Proof.SprojRef.lean ====
/-
  The sample batch's input projections: the reference at the exact instance: its results' composed terms in named steps, each read at an index.
-/
module

public import proofs.«01_k».proof.Proof.Gen.Reference6Ideal.Run
public import Idealize.ShloMosaic.Lib.Pointwise

@[expose] public section

set_option maxRecDepth 16384

noncomputable section

namespace Cert.Proof.SprojRef

open Idealize.ShloMosaic Idealize.SL.Sem Cert.Reference6Ideal Cert.Reference6Ideal.Gen Cert.Reference6Ideal.Value
open Idealize.ShloMosaic.StableHlo

/-- The root-mean-square norm of each input row; -/
def pre (x : FVec Ideal S128x2048 .f32) (w : FVec Ideal S1x2048 .f32) : FVec Ideal S128x2048 .f32 :=
  mulf (mulf x (broadcastInDim S128x2048 ![0, 1] bcast_S128x1_S128x2048_0_1 (Host.rsqrt (addf (Host.divf (broadcastInDim S128x1 ![0] bcast_S128_S128x1_0 (Host.reduceAdd (mulf x x) (constant (F := Ideal) S_ .f32 0x00000000#32) reducesTo_S128x2048_S128_d1 h_S_)) (broadcastInDim S128x1 ![] bcast_S_S128x1 (constant (F := Ideal) S_ .f32 0x45000000#32))) (broadcastInDim S128x1 ![] bcast_S_S128x1 (constant (F := Ideal) S_ .f32 0x358637BD#32)))))) (broadcastInDim S128x2048 ![0, 1] bcast_S1x2048_S128x2048_0_1 (broadcastInDim S1x2048 ![1] bcast_S2048_S1x2048_1 (shapeCast _ w shapeCasts_S1x2048_S2048)))

/-- all the projections of the normed rows side by side; -/
def lin (x : FVec Ideal S128x2048 .f32) (n : FVec Ideal S1x2048 .f32) (w : FVec Ideal S1x2048x4176 .f32) : FVec Ideal S128x4176 .f32 :=
  Host.dotGeneral dot_S128x2048_S2048x4176_S128x4176_1_0_0_1_n_n none (pre x n) (shapeCast _ w shapeCasts_S1x2048x4176_S2048x4176)

/-- the columns of the latent, of the mixer's query, key, value and gate; -/
def colL (y : FVec Ideal S128x4176 .f32) : FVec Ideal S128x512 .f32 := extractStridedSlice S128x512 ![0, 512] y slices_S128x4176_S128x512_0_512
def colQ (y : FVec Ideal S128x4176 .f32) : FVec Ideal S128x512 .f32 := extractStridedSlice S128x512 ![0, 1088] y slices_S128x4176_S128x512_0_1088
def colK (y : FVec Ideal S128x4176 .f32) : FVec Ideal S128x512 .f32 := extractStridedSlice S128x512 ![0, 1600] y slices_S128x4176_S128x512_0_1600
def colV (y : FVec Ideal S128x4176 .f32) : FVec Ideal S128x1024 .f32 := extractStridedSlice S128x1024 ![0, 2112] y slices_S128x4176_S128x1024_0_2112
def colG (y : FVec Ideal S128x4176 .f32) : FVec Ideal S128x1024 .f32 := extractStridedSlice S128x1024 ![0, 3152] y slices_S128x4176_S128x1024_0_3152

/-- the query scaled; -/
def query (y : FVec Ideal S128x512 .f32) : FVec Ideal S128x512 .f32 :=
  mulf y (broadcastInDim S128x512 ![] bcast_S_S128x512 (constant (F := Ideal) S_ .f32 0x3DB504F3#32))

/-- and the latent's norm. -/
def latent (y : FVec Ideal S128x512 .f32) (w : FVec Ideal S1x512 .f32) : FVec Ideal S128x512 .f32 :=
  mulf (mulf y (broadcastInDim S128x512 ![0, 1] bcast_S128x1_S128x512_0_1 (Host.rsqrt (addf (Host.divf (broadcastInDim S128x1 ![0] bcast_S128_S128x1_0 (Host.reduceAdd (mulf y y) (constant (F := Ideal) S_ .f32 0x00000000#32) reducesTo_S128x512_S128_d1 h_S_)) (broadcastInDim S128x1 ![] bcast_S_S128x1 (constant (F := Ideal) S_ .f32 0x44000000#32))) (broadcastInDim S128x1 ![] bcast_S_S128x1 (constant (F := Ideal) S_ .f32 0x358637BD#32)))))) (broadcastInDim S128x512 ![0, 1] bcast_S1x512_S128x512_0_1 (broadcastInDim S1x512 ![1] bcast_S512_S1x512_1 (shapeCast _ w shapeCasts_S1x512_S512)))

theorem pre_apply (x : FVec Ideal S128x2048 .f32) (w : FVec Ideal S1x2048 .f32) (n : Fin 128) (d : Fin 2048) :
    pre x w (ix2 n d) = x (ix2 n d) * Ideal.rsqrt (Ideal.div (∑ k, x (ix2 n k) * x (ix2 n k)) (Ideal.ofBits FTy.f32 1157627904#32) + Ideal.ofBits FTy.f32 897988541#32) * w (ix2 0 d) := by
  unfold pre; pointwise

theorem lin_apply (x : FVec Ideal S128x2048 .f32) (v : FVec Ideal S1x2048 .f32) (w : FVec Ideal S1x2048x4176 .f32) (n : Fin 128) (j : Fin 4176) :
    lin x v w (ix2 n j) = ∑ k, pre x v (ix2 n k) * w (ix3 0 k j) := by
  unfold lin
  generalize pre x v = P
  pointwise

theorem colL_apply (y : FVec Ideal S128x4176 .f32) (n : Fin 128) (d : Fin 512) : colL y (ix2 n d) = y (ix2 n ⟨512 + d.val, by omega⟩) := by
  unfold colL; pointwise
theorem colQ_apply (y : FVec Ideal S128x4176 .f32) (n : Fin 128) (d : Fin 512) : colQ y (ix2 n d) = y (ix2 n ⟨1088 + d.val, by omega⟩) := by
  unfold colQ; pointwise
theorem colK_apply (y : FVec Ideal S128x4176 .f32) (n : Fin 128) (d : Fin 512) : colK y (ix2 n d) = y (ix2 n ⟨1600 + d.val, by omega⟩) := by
  unfold colK; pointwise
theorem colV_apply (y : FVec Ideal S128x4176 .f32) (n : Fin 128) (d : Fin 1024) : colV y (ix2 n d) = y (ix2 n ⟨2112 + d.val, by omega⟩) := by
  unfold colV; pointwise
theorem colG_apply (y : FVec Ideal S128x4176 .f32) (n : Fin 128) (d : Fin 1024) : colG y (ix2 n d) = y (ix2 n ⟨3152 + d.val, by omega⟩) := by
  unfold colG; pointwise

theorem query_apply (y : FVec Ideal S128x512 .f32) (i : S128x512.Idx) : query y i = y i * Ideal.ofBits FTy.f32 0x3DB504F3#32 := rfl

theorem latent_apply (y : FVec Ideal S128x512 .f32) (w : FVec Ideal S1x512 .f32) (n : Fin 128) (d : Fin 512) :
    latent y w (ix2 n d) = y (ix2 n d) * Ideal.rsqrt (Ideal.div (∑ k, y (ix2 n k) * y (ix2 n k)) (Ideal.ofBits FTy.f32 0x44000000#32) + Ideal.ofBits FTy.f32 897988541#32) * w (ix2 0 d) := by
  unfold latent; pointwise

end Cert.Proof.SprojRef

end
-- ==== Proof.SprojClaim.lean ====
/-
  The sample batch's input projections: the kernel equals its reference: its blocks and values read at an index, the five result arrays after
  the run, and the certificate's claims about the sixth program pair.
-/
module

public import proofs.«01_k».proof.Defs
public import proofs.«01_k».proof.Proof.SprojRef
public import proofs.«01_k».proof.Proof.Gen.Kernel6.Frame
public import proofs.«01_k».proof.Proof.Gen.Kernel6Ideal.Skeleton
public import proofs.«01_k».proof.Proof.Gen.Kernel6Ideal.Value
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Sproj

open Cert.Kernel6Ideal Cert.Kernel6Ideal.Gen
open Idealize.ShloMosaic Idealize.SL.Sem
open Cert.Proof.SprojRef (pre lin colL colQ colK colV colG query latent)

/-! ## The body's values at an index -/

/-- The normed rows; -/
theorem pay1_apply (x : Vec Ideal S128x2048 .f32) (n : Vec Ideal S1x2048 .f32) (r : Fin 128) (k : Fin 2048) :
    k0_pay1 x n (ix2 r k) = x (ix2 r k) * Ideal.rsqrt (Ideal.div (∑ j, x (ix2 r j) * x (ix2 r j)) (Ideal.ofBits FTy.f32 1157627904#32) + Ideal.ofBits FTy.f32 897988541#32) * n (ix2 0 k) := by
  unfold k0_pay1; pointwise

/-- their products with a group of columns; -/
theorem pay3_apply (x : Vec Ideal S128x2048 .f32) (n : Vec Ideal S1x2048 .f32) (w : Vec Ideal S2048x512 .bf16) (r : Fin 128) (d : Fin 512) :
    k0_pay3 x n w (ix2 r d) = ∑ k, k0_pay1 x n (ix2 r k) * w (ix2 k d) := by
  unfold k0_pay3; generalize k0_pay1 x n = P; pointwise
theorem pay4_apply (x : Vec Ideal S128x2048 .f32) (n : Vec Ideal S1x2048 .f32) (w : Vec Ideal S2048x512 .bf16) (r : Fin 128) (d : Fin 512) :
    k0_pay4 x n w (ix2 r d) = ∑ k, k0_pay1 x n (ix2 r k) * w (ix2 k d) := pay3_apply x n w r d
theorem pay5_apply (x : Vec Ideal S128x2048 .f32) (n : Vec Ideal S1x2048 .f32) (w : Vec Ideal S2048x512 .bf16) (r : Fin 128) (d : Fin 512) :
    k0_pay5 x n w (ix2 r d) = ∑ k, k0_pay1 x n (ix2 r k) * w (ix2 k d) := pay3_apply x n w r d
theorem pay6_apply (x : Vec Ideal S128x2048 .f32) (n : Vec Ideal S1x2048 .f32) (w : Vec Ideal S2048x1024 .bf16) (r : Fin 128) (d : Fin 1024) :
    k0_pay6 x n w (ix2 r d) = ∑ k, k0_pay1 x n (ix2 r k) * w (ix2 k d) := by
  unfold k0_pay6; generalize k0_pay1 x n = P; pointwise
theorem pay7_apply (x : Vec Ideal S128x2048 .f32) (n : Vec Ideal S1x2048 .f32) (w : Vec Ideal S2048x1024 .bf16) (r : Fin 128) (d : Fin 1024) :
    k0_pay7 x n w (ix2 r d) = ∑ k, k0_pay1 x n (ix2 r k) * w (ix2 k d) := pay6_apply x n w r d

/-- the scaled query; -/
theorem pay36_apply (y : FVec Ideal S128x512 .f32) (i : S128x512.Idx) : k0_pay36 y i = y i * Ideal.ofBits FTy.f32 0x3DB504F3#32 := rfl

/-- and the normed latent. -/
theorem pay14_apply (y : FVec Ideal S128x512 .f32) (n : Vec Ideal S1x512 .f32) (r : Fin 128) (d : Fin 512) :
    k0_pay14 y n (ix2 r d) = y (ix2 r d) * Ideal.rsqrt (Ideal.div (∑ k, y (ix2 r k) * y (ix2 r k)) (Ideal.ofBits FTy.f32 0x44000000#32) + Ideal.ofBits FTy.f32 897988541#32) * n (ix2 0 d) := by
  unfold k0_pay14; pointwise

/-! ## The weight's column groups -/

/-- Where a column of the groups side by side stands in the weight. -/
def src (j : Fin 4096) : Fin 4176 := ⟨if j.val < 1024 then j.val else if j.val < 2048 + 1024 then j.val + 64 else j.val + 80, by split_ifs <;> omega⟩

/-- The six column groups the kernel reads, side by side. -/
def wcat (w : FVec Ideal S1x2048x4176 .f32) : FVec Ideal S2048x4096 .bf16 :=
  truncf .bf16 (concatenate S2048x4096 1 [⟨S2048x512, shapeCast S2048x512 (extractStridedSlice S1x2048x512 ![0, 0, 0] w slices_S1x2048x4176_S1x2048x512_0_0_0) shapeCasts_S1x2048x512_S2048x512⟩,
    ⟨S2048x512, shapeCast S2048x512 (extractStridedSlice S1x2048x512 ![0, 0, 512] w slices_S1x2048x4176_S1x2048x512_0_0_512) shapeCasts_S1x2048x512_S2048x512⟩,
    ⟨S2048x512, shapeCast S2048x512 (extractStridedSlice S1x2048x512 ![0, 0, 1088] w slices_S1x2048x4176_S1x2048x512_0_0_1088) shapeCasts_S1x2048x512_S2048x512⟩,
    ⟨S2048x512, shapeCast S2048x512 (extractStridedSlice S1x2048x512 ![0, 0, 1600] w slices_S1x2048x4176_S1x2048x512_0_0_1600) shapeCasts_S1x2048x512_S2048x512⟩,
    ⟨S2048x1024, shapeCast S2048x1024 (extractStridedSlice S1x2048x1024 ![0, 0, 2112] w slices_S1x2048x4176_S1x2048x1024_0_0_2112) shapeCasts_S1x2048x1024_S2048x1024⟩,
    ⟨S2048x1024, shapeCast S2048x1024 (extractStridedSlice S1x2048x1024 ![0, 0, 3152] w slices_S1x2048x4176_S1x2048x1024_0_0_3152) shapeCasts_S1x2048x1024_S2048x1024⟩]
    concatenates_S2048x512_S2048x512_S2048x512_S2048x512_S2048x1024_S2048x1024_S2048x4096_d1) bitsLt_bf16_f32

theorem wcat_apply (w : FVec Ideal S1x2048x4176 .f32) (k : Fin 2048) (j : Fin 4096) : wcat w (ix2 k j) = w (ix3 0 k (src j)) := by
  have hj := j.isLt
  unfold wcat
  pointwise
  split_ifs <;> exact congrArg (fun q => w (ix3 0 k q)) (Fin.ext (by simp only [src]; split_ifs <;> omega))

variable (m : (ℓ : Loc nD τ sig) → Buf (Elt Ideal) ℓ) (ρ : Dev nD → PrngReg) (c : Dev nD)

/-- The kernel's argument arrays the compared results read. -/
abbrev kX : S128x2048.Idx → EReal := m ((c.tc : Thread nD τ).loc main_arg0)
abbrev kN : S1x2048.Idx → EReal := m ((c.tc : Thread nD τ).loc main_arg3)
abbrev kW : S1x2048x4176.Idx → EReal := m ((c.tc : Thread nD τ).loc main_arg4)
abbrev kM : S1x512.Idx → EReal := m ((c.tc : Thread nD τ).loc main_arg7)

/-- The results, of the argument arrays. -/
abbrev kLin : Cert.Reference6Ideal.S128x4176.Idx → EReal := lin (kX m c) (kN m c) (kW m c)
def out15 : S128x512.Idx → EReal := latent (colL (kLin m c)) (kM m c)
def out17 : S128x512.Idx → EReal := query (colQ (kLin m c))
def out18 : S128x512.Idx → EReal := colK (kLin m c)
def out19 : S128x1024.Idx → EReal := colV (kLin m c)
def out21 : S128x1024.Idx → EReal := colG (kLin m c)

theorem idx (t : Fin cfg0.N) : win0_0.index t = ![t.val, 0] ∧ win0_3.index t = ![0, 0] ∧ win0_4.index t = ![0, 0] ∧ win0_7.index t = ![0, 0]
    ∧ win0_15.index t = ![t.val, 0] ∧ win0_17.index t = ![t.val, 0]
    ∧ win0_18.index t = ![t.val, 0] ∧ win0_19.index t = ![t.val, 0] ∧ win0_21.index t = ![t.val, 0] :=
  (by decide +kernel : ∀ t : Fin grid0.N, win0_0.index t = ![t.val, 0] ∧ win0_3.index t = ![0, 0] ∧ win0_4.index t = ![0, 0] ∧ win0_7.index t = ![0, 0]
    ∧ win0_15.index t = ![t.val, 0] ∧ win0_17.index t = ![t.val, 0]
    ∧ win0_18.index t = ![t.val, 0] ∧ win0_19.index t = ![t.val, 0] ∧ win0_21.index t = ![t.val, 0]) t

theorem lt_N (t : Fin cfg0.N) : t.val < 1 := Nat.lt_of_lt_of_eq t.isLt (by decide)

/-- A point's rows. -/
def row (t : Fin cfg0.N) (r : Fin 128) : Fin 128 := ⟨128 * t.val + r.val, by have := lt_N t; omega⟩

/-- The arrays the region finds. -/
theorem V_n : V m c main_v20 = shapeCast _ (shapeCast _ (kN m c) shapeCasts_S1x2048_S2048) shapeCasts_S2048_S1x2048 := rfl
theorem V_m : V m c main_v26 = shapeCast _ (shapeCast _ (kM m c) shapeCasts_S1x512_S512) shapeCasts_S512_S1x512 := rfl
theorem V_w : V m c main_v21 = wcat (kW m c) := rfl

/-- The blocks at an index. -/
theorem blkX (t : Fin cfg0.N) (r : Fin 128) (d : Fin 2048) : iblk m c 0 t (ix2 r d) = kX m c (ix2 (row t r) d) := by
  unfold row; blk_ext [iblk, V, idx t]
theorem blkN (t : Fin cfg0.N) (d : Fin 2048) : iblk m c 3 t (ix2 0 d) = kN m c (ix2 0 d) := by
  have e : iblk m c 3 t (ix2 0 d) = V m c main_v20 (ix2 0 d) := by blk_ext [iblk, idx t]
  rw [e, V_n]; pointwise
theorem blkM (t : Fin cfg0.N) (d : Fin 512) : iblk m c 7 t (ix2 0 d) = kM m c (ix2 0 d) := by
  have e : iblk m c 7 t (ix2 0 d) = V m c main_v26 (ix2 0 d) := by blk_ext [iblk, idx t]
  rw [e, V_m]; pointwise
theorem blkW (t : Fin cfg0.N) (k : Fin 2048) (j : Fin 4096) : iblk m c 4 t (ix2 k j) = kW m c (ix3 0 k (src j)) := by
  have e : iblk m c 4 t (ix2 k j) = V m c main_v21 (ix2 k j) := by blk_ext [iblk, idx t]
  rw [e, V_w, wcat_apply]
/-- A column group, as the body loads it: 512 columns wide, or 1024. -/
theorem ldN (x : Vec Ideal S2048x4096 .bf16) (o : Nat) (h) (k : Fin 2048) (d : Fin 512) (ho : o + 512 ≤ 4096) :
    View.ld x (Rect.unit (s := S2048x4096) ![0, o] S2048x512.size h) (ix2 k d) = x (ix2 k ⟨o + d.val, by omega⟩) := by
  refine View.ld_unit_apply_of x _ _ _ _ _ fun a => ?_
  match a with
  | 0 => exact (Nat.zero_add _).symm
  | 1 => rfl
theorem ldW (x : Vec Ideal S2048x4096 .bf16) (o : Nat) (h) (k : Fin 2048) (d : Fin 1024) (ho : o + 1024 ≤ 4096) :
    View.ld x (Rect.unit (s := S2048x4096) ![0, o] S2048x1024.size h) (ix2 k d) = x (ix2 k ⟨o + d.val, by omega⟩) := by
  refine View.ld_unit_apply_of x _ _ _ _ _ fun a => ?_
  match a with
  | 0 => exact (Nat.zero_add _).symm
  | 1 => rfl

/-! ## What a point leaves in each result's block -/

/-- A point's normed rows. -/
theorem valA (t : Fin cfg0.N) (r : Fin 128) (k : Fin 2048) : k0_pay1 (iblk m c 0 t) (iblk m c 3 t) (ix2 r k) = pre (kX m c) (kN m c) (ix2 (row t r) k) := by
  refine (pay1_apply _ _ r k).trans (Eq.trans ?_ (SprojRef.pre_apply _ _ _ _).symm)
  rw [blkX, blkN]
  exact congrArg (fun s => kX m c (ix2 (row t r) k) * Ideal.rsqrt (Ideal.div s _ + _) * kN m c (ix2 0 k))
    (Finset.sum_congr rfl fun j _ => congrArg₂ (· * ·) (blkX m c t r j) (blkX m c t r j))

/-- A point's normed rows times a column of the groups: the projection at that column's place in the weight. -/
theorem valLin (t : Fin cfg0.N) (r : Fin 128) (v : Fin 2048 → EReal) (j : Fin 4096) (q : Fin 4176) (hv : ∀ k, v k = iblk m c 4 t (ix2 k j)) (hq : (src j).val = q.val) :
    ∑ k, k0_pay1 (iblk m c 0 t) (iblk m c 3 t) (ix2 r k) * v k = kLin m c (ix2 (row t r) q) := by
  obtain rfl := Fin.ext hq
  refine Eq.trans ?_ (SprojRef.lin_apply _ _ _ _ _).symm
  exact Finset.sum_congr rfl fun k _ => congrArg₂ (· * ·) (valA m c t r k) ((hv k).trans (blkW m c t k j))

theorem val17 (t : Fin cfg0.N) (r : Fin 128) (d : Fin 512) :
    k0_pay36 (k0_pay4 (iblk m c 0 t) (iblk m c 3 t) (View.ld (iblk m c 4 t) r0_4)) (ix2 r d) = out17 m c (ix2 (row t r) d) := by
  unfold out17
  rw [pay36_apply, SprojRef.query_apply, SprojRef.colQ_apply, pay4_apply]
  exact congrArg (· * Ideal.ofBits FTy.f32 0x3DB504F3#32) (valLin m c t r (fun k => View.ld (iblk m c 4 t) r0_4 (ix2 k d)) ⟨1024 + d.val, by omega⟩ _ (fun k => ldN (iblk m c 4 t) 1024 _ k d (by omega)) (by simp only [src]; split_ifs <;> omega))
theorem val18 (t : Fin cfg0.N) (r : Fin 128) (d : Fin 512) :
    k0_pay5 (iblk m c 0 t) (iblk m c 3 t) (View.ld (iblk m c 4 t) r0_5) (ix2 r d) = out18 m c (ix2 (row t r) d) := by
  unfold out18
  rw [SprojRef.colK_apply, pay5_apply]
  exact valLin m c t r (fun k => View.ld (iblk m c 4 t) r0_5 (ix2 k d)) ⟨1536 + d.val, by omega⟩ _ (fun k => ldN (iblk m c 4 t) 1536 _ k d (by omega)) (by simp only [src]; split_ifs <;> omega)
theorem val19 (t : Fin cfg0.N) (r : Fin 128) (d : Fin 1024) :
    k0_pay6 (iblk m c 0 t) (iblk m c 3 t) (View.ld (iblk m c 4 t) r0_6) (ix2 r d) = out19 m c (ix2 (row t r) d) := by
  unfold out19
  rw [SprojRef.colV_apply, pay6_apply]
  exact valLin m c t r (fun k => View.ld (iblk m c 4 t) r0_6 (ix2 k d)) ⟨2048 + d.val, by omega⟩ _ (fun k => ldW (iblk m c 4 t) 2048 _ k d (by omega)) (by simp only [src]; split_ifs <;> omega)
theorem val21 (t : Fin cfg0.N) (r : Fin 128) (d : Fin 1024) :
    k0_pay7 (iblk m c 0 t) (iblk m c 3 t) (View.ld (iblk m c 4 t) r0_7) (ix2 r d) = out21 m c (ix2 (row t r) d) := by
  unfold out21
  rw [SprojRef.colG_apply, pay7_apply]
  exact valLin m c t r (fun k => View.ld (iblk m c 4 t) r0_7 (ix2 k d)) ⟨3072 + d.val, by omega⟩ _ (fun k => ldW (iblk m c 4 t) 3072 _ k d (by omega)) (by simp only [src]; split_ifs <;> omega)

/-- A point's latent before its norm. -/
theorem valL (t : Fin cfg0.N) (r : Fin 128) (d : Fin 512) :
    k0_pay3 (iblk m c 0 t) (iblk m c 3 t) (View.ld (iblk m c 4 t) r0_3) (ix2 r d) = colL (kLin m c) (ix2 (row t r) d) := by
  rw [SprojRef.colL_apply, pay3_apply]
  exact valLin m c t r (fun k => View.ld (iblk m c 4 t) r0_3 (ix2 k d)) ⟨512 + d.val, by omega⟩ _ (fun k => ldN (iblk m c 4 t) 512 _ k d (by omega)) (by simp only [src]; split_ifs <;> omega)

theorem val15 (t : Fin cfg0.N) (r : Fin 128) (d : Fin 512) :
    k0_pay14 (k0_pay3 (iblk m c 0 t) (iblk m c 3 t) (View.ld (iblk m c 4 t) r0_3)) (iblk m c 7 t) (ix2 r d) = out15 m c (ix2 (row t r) d) := by
  unfold out15
  refine (pay14_apply _ _ r d).trans (Eq.trans ?_ (SprojRef.latent_apply _ _ _ _).symm)
  rw [valL, blkM]
  exact congrArg (fun s => colL (kLin m c) (ix2 (row t r) d) * Ideal.rsqrt (Ideal.div s _ + _) * kM m c (ix2 0 d))
    (Finset.sum_congr rfl fun j _ => congrArg₂ (· * ·) (valL m c t r j) (valL m c t r j))

/-! ## The result arrays after the run -/

theorem final15 : (dats m 0 c).arrAt 15 cfg0.N = out15 m c := by
  refine (dats m 0 c).arrAt_eq_of_covers 15 (out15 m c) (by decide +kernel) fun t hf y => ?_
  blk_simp
  rw [after0_15]
  obtain ⟨r, d, rfl⟩ : ∃ (r : Fin 128) (d : Fin 512), y = ix2 r d := ⟨y 0, y 1, eq_ix2 y⟩
  unfold out0_15
  simp (disch := decide) only [View.ld_unit_lit', View.canon_cons_unit_lit']
  exact (val15 m c t r d).trans
    (show out15 m c ((win0_15.blk t).view.emb (ix2 r d)) = out15 m c (ix2 (row t r) d) by unfold row; blk_ext [idx t]).symm
theorem final17 : (dats m 0 c).arrAt 17 cfg0.N = out17 m c := by
  refine (dats m 0 c).arrAt_eq_of_covers 17 (out17 m c) (by decide +kernel) fun t hf y => ?_
  blk_simp
  rw [after0_17]
  obtain ⟨r, d, rfl⟩ : ∃ (r : Fin 128) (d : Fin 512), y = ix2 r d := ⟨y 0, y 1, eq_ix2 y⟩
  unfold out0_17
  simp (disch := decide) only [View.ld_unit_lit', View.canon_cons_unit_lit']
  exact (val17 m c t r d).trans
    (show out17 m c ((win0_17.blk t).view.emb (ix2 r d)) = out17 m c (ix2 (row t r) d) by unfold row; blk_ext [idx t]).symm
theorem final18 : (dats m 0 c).arrAt 18 cfg0.N = out18 m c := by
  refine (dats m 0 c).arrAt_eq_of_covers 18 (out18 m c) (by decide +kernel) fun t hf y => ?_
  blk_simp
  rw [after0_18]
  obtain ⟨r, d, rfl⟩ : ∃ (r : Fin 128) (d : Fin 512), y = ix2 r d := ⟨y 0, y 1, eq_ix2 y⟩
  unfold out0_18
  simp (disch := decide) only [View.ld_unit_lit', View.canon_cons_unit_lit']
  exact (val18 m c t r d).trans
    (show out18 m c ((win0_18.blk t).view.emb (ix2 r d)) = out18 m c (ix2 (row t r) d) by unfold row; blk_ext [idx t]).symm
theorem final19 : (dats m 0 c).arrAt 19 cfg0.N = out19 m c := by
  refine (dats m 0 c).arrAt_eq_of_covers 19 (out19 m c) (by decide +kernel) fun t hf y => ?_
  blk_simp
  rw [after0_19]
  obtain ⟨r, d, rfl⟩ : ∃ (r : Fin 128) (d : Fin 1024), y = ix2 r d := ⟨y 0, y 1, eq_ix2 y⟩
  unfold out0_19
  simp (disch := decide) only [View.ld_unit_lit', View.canon_cons_unit_lit']
  exact (val19 m c t r d).trans
    (show out19 m c ((win0_19.blk t).view.emb (ix2 r d)) = out19 m c (ix2 (row t r) d) by unfold row; blk_ext [idx t]).symm
theorem final21 : (dats m 0 c).arrAt 21 cfg0.N = out21 m c := by
  refine (dats m 0 c).arrAt_eq_of_covers 21 (out21 m c) (by decide +kernel) fun t hf y => ?_
  blk_simp
  rw [after0_21]
  obtain ⟨r, d, rfl⟩ : ∃ (r : Fin 128) (d : Fin 1024), y = ix2 r d := ⟨y 0, y 1, eq_ix2 y⟩
  unfold out0_21
  simp (disch := decide) only [View.ld_unit_lit', View.canon_cons_unit_lit']
  exact (val21 m c t r d).trans
    (show out21 m c ((win0_21.blk t).view.emb (ix2 r d)) = out21 m c (ix2 (row t r) d) by unfold row; blk_ext [idx t]).symm

/-! ## The claims -/

/-- The kernel's run on the chip's floats: arguments kept, counters at zero. -/
theorem frame_kernel : Cert.quiescent_Kernel6 := fun m ρ _ => Cert.Kernel6.Gen.frame (F := Bits) m ρ

/-- The same at the exact instance. -/
theorem frame_kernelIdeal : Cert.quiescent_Kernel6Ideal := fun m ρ _ => Cert.Kernel6Ideal.Gen.frame (F := Ideal) m ρ

/-- The reference's run: arguments kept, and it has no semaphore. -/
theorem frame_reference : Cert.quiescent_Reference6Ideal := fun m ρ _ =>
  (θ_run Cert.Reference6Ideal.defs _ _).mono (fun r h => ⟨fun c => (h c).2.2.2.2.2, sem_eq_zero_of_no_sems rfl r.2⟩) (Cert.Reference6Ideal.Value.run (F := Ideal) m ρ)

/-- The kernel and the reference end with equal results. -/
theorem algebraic : Cert.algebraic_Kernel6Ideal_Reference6Ideal := by
  intro m ρ m' ρ' _ he
  refine ⟨fun c => out15 m c, fun c => out17 m c, fun c => out18 m c, fun c => out19 m c, fun c => out21 m c,
    (θ_run defs _ _).mono (fun r h c => ?_) (Cert.Kernel6Ideal.Value.run_blocks (F := Ideal) m ρ), ?_⟩
  · obtain ⟨-, -, h15, -, h17, h18, h19, -, h21, hr⟩ := h c
    exact ⟨h15.trans (final15 m c), h17.trans (final17 m c), h18.trans (final18 m c), h19.trans (final19 m c), h21.trans (final21 m c), hr⟩
  refine (θ_run Cert.Reference6Ideal.defs _ _).mono (fun r h c => ?_) (Cert.Reference6Ideal.Value.run (F := Ideal) m' ρ')
  obtain ⟨e0, -, -, e3, e4, -, -, e7, -⟩ := he c
  obtain ⟨h0, h1, h2, h3, h4, hr⟩ := h c
  refine ⟨h0.trans ?_, h1.trans ?_, h2.trans ?_, h3.trans ?_, h4.trans ?_, hr⟩
  · rw [e0, e3, e4, e7]; rfl
  · rw [e0, e3, e4]; rfl
  · rw [e0, e3, e4]; rfl
  · rw [e0, e3, e4]; rfl
  · rw [e0, e3, e4]; rfl

end Cert.Proof.Sproj

end
-- ==== Proof.SropeRef.lean ====
/-
  The sample batch's rotary key: the reference at the exact instance, read at an index, and what its precondition says.
-/
module

public import proofs.«01_k».proof.Proof.SprojRef
public import proofs.«01_k».proof.Proof.RopeRef
public import proofs.«01_k».proof.Proof.Gen.Reference7Ideal.Run
public import proofs.«01_k».proof.Pre_finite_ropes

@[expose] public section

set_option maxRecDepth 16384

noncomputable section

namespace Cert.Proof.SropeRef

open Idealize.ShloMosaic Idealize.SL.Sem Cert.Reference7Ideal Cert.Reference7Ideal.Gen Cert.Reference7Ideal.Value
open Idealize.ShloMosaic.StableHlo
open Cert.Proof.GlaCase (IsFin)
open Cert.Proof.RopeRef (real_of_fin two_pos eps_pos)
open Cert.Proof.SprojRef (pre lin)

/-- The first and the second half of the rotary key's columns; -/
def half1 (y : FVec Ideal S128x4176 .f32) : FVec Ideal S128x32 .f32 :=
  extractStridedSlice S128x32 ![0, 0] (extractStridedSlice S128x64 ![0, 1024] y slices_S128x4176_S128x64_0_1024) slices_S128x64_S128x32_0_0
def half2 (y : FVec Ideal S128x4176 .f32) : FVec Ideal S128x32 .f32 :=
  extractStridedSlice S128x32 ![0, 32] (extractStridedSlice S128x64 ![0, 1024] y slices_S128x4176_S128x64_0_1024) slices_S128x64_S128x32_0_32

/-- and the two turned by the angles whose cosines and sines are given. -/
def turn (y : FVec Ideal S128x4176 .f32) (c s : FVec Ideal S128x32 .f32) : FVec Ideal S128x64 .f32 :=
  concatenate S128x64 1 [⟨S128x32, subf (mulf (half1 y) c) (mulf (half2 y) s)⟩, ⟨S128x32, addf (mulf (half1 y) s) (mulf (half2 y) c)⟩] concatenates_S128x32_S128x32_S128x64_d1

theorem half1_apply (y : FVec Ideal S128x4176 .f32) (n : Fin 128) (d : Fin 32) : half1 y (ix2 n d) = y (ix2 n ⟨1024 + d.val, by omega⟩) := by
  unfold half1; pointwise
theorem half2_apply (y : FVec Ideal S128x4176 .f32) (n : Fin 128) (d : Fin 32) : half2 y (ix2 n d) = y (ix2 n ⟨1056 + d.val, by omega⟩) := by
  unfold half2
  pointwise
  exact congrArg (fun q => y (ix2 n q)) (Fin.ext (by simp only []; omega))

/-- The first half of the turned key; -/
theorem turn_low (y : FVec Ideal S128x4176 .f32) (c s : FVec Ideal S128x32 .f32) (n : Fin 128) (d : Fin 32) :
    turn y c s (ix2 n ⟨d.val, by omega⟩) = y (ix2 n ⟨1024 + d.val, by omega⟩) * c (ix2 n d) - y (ix2 n ⟨1056 + d.val, by omega⟩) * s (ix2 n d) := by
  rw [← half1_apply y, ← half2_apply y]
  unfold turn
  generalize half1 y = A
  generalize half2 y = B
  pointwise

/-- and the second. -/
theorem turn_high (y : FVec Ideal S128x4176 .f32) (c s : FVec Ideal S128x32 .f32) (n : Fin 128) (d : Fin 32) :
    turn y c s (ix2 n ⟨32 + d.val, by omega⟩) = y (ix2 n ⟨1024 + d.val, by omega⟩) * s (ix2 n d) + y (ix2 n ⟨1056 + d.val, by omega⟩) * c (ix2 n d) := by
  rw [← half1_apply y, ← half2_apply y]
  unfold turn
  generalize half1 y = A
  generalize half2 y = B
  pointwise

/-- Rows of finite entries have a finite norm. -/
theorem pre_fin (x : FVec Ideal S128x2048 .f32) (w : FVec Ideal S1x2048 .f32) (hx : IsFin x) (hw : IsFin w) (n : Fin 128) (d : Fin 2048) :
    ∃ r : ℝ, pre x w (ix2 n d) = (r : EReal) := by
  choose f hf using fun k => real_of_fin (hx (ix2 n k))
  obtain ⟨b, hb⟩ := real_of_fin (hw (ix2 0 d))
  obtain ⟨t, ht, et⟩ := two_pos
  obtain ⟨e, he, ee⟩ := eps_pos
  have hp : 0 < (∑ k, f k * f k) * (1 / t) + e :=
    add_pos_of_nonneg_of_pos (mul_nonneg (Finset.sum_nonneg fun k _ => mul_self_nonneg _) (by positivity)) he
  refine ⟨f d * (Real.sqrt ((∑ k, f k * f k) * (1 / t) + e))⁻¹ * b, ?_⟩
  rw [SprojRef.pre_apply]
  simp only [hf, hb, et, ee, ← EReal.coe_mul, ← GlaHead.coe_sum]
  rw [Ideal.div_coe ht.ne', ← EReal.coe_mul, ← EReal.coe_add, Ideal.rsqrt_coe, if_neg (not_lt.mpr hp.le), if_neg hp.ne', ← EReal.coe_mul, ← EReal.coe_mul]

/-- The side conditions of the precondition's shape relations. -/
theorem preFacts : Cert.Pre_finite_ropes.Facts where
  slices_S1x2048x4176_S1x2048x64_0_0_1024 := by decide
  shapeCasts_S1x2048x64_S2048x64 := by decide
  transposes_S2048x64_S64x2048_1_0 := by decide
  concatenates_S128x2048_S1x2048_S64x2048_S193x2048_d0 := by decide
  bcast_S_S193x2048 := by decide

/-- What the precondition says: the rows, the norm's weight and the rotary key's columns of the weight are finite. -/
theorem finite_of_pre (x0 : FVec Ideal S128x2048 .f32) (x1 x2 : FVec Ideal S128x32 .f32) (x3 : FVec Ideal S1x2048 .f32) (x4 : FVec Ideal S1x2048x4176 .f32)
    (x5 x6 : FVec Ideal Cert.Pre_finite_ropes.S1x512 .f32) (x7 : FVec Ideal Cert.Pre_finite_ropes.S512x3072 .f32) (x8 x9 : FVec Ideal Cert.Pre_finite_ropes.S1x512x8x128 .f32)
    (x10 : FVec Ideal Cert.Pre_finite_ropes.S128x512 .f32) (x11 : FVec Ideal Cert.Pre_finite_ropes.S1x512 .f32)
    (h : letI := preFacts; Cert.Pre_finite_ropes.fn (F := Ideal) x0 x1 x2 x3 x4 x5 x6 x7 x8 x9 x10 x11 = fun _ => 1#1) :
    IsFin x0 ∧ IsFin x3 ∧ ∀ (k : Fin 2048) (d : Fin 64), ∃ r : ℝ, x4 (ix3 0 k ⟨1024 + d.val, by omega⟩) = (r : EReal) := by
  letI := preFacts
  refine ⟨?_, ?_, ?_⟩
  · intro i
    obtain ⟨a, b, rfl⟩ : ∃ (a : Fin 128) (b : Fin 2048), i = ix2 a b := ⟨i 0, i 1, eq_ix2 i⟩
    have e := congrFun h (ix2 ⟨0 + a.val, by omega⟩ b)
    unfold Cert.Pre_finite_ropes.fn at e
    pointwise at e
    exact GlaClaim.of_lt_inf e
  · intro i
    obtain ⟨a, b, rfl⟩ : ∃ (a : Fin 1) (b : Fin 2048), i = ix2 a b := ⟨i 0, i 1, eq_ix2 i⟩
    obtain rfl : a = 0 := Subsingleton.elim _ _
    have e := congrFun h (ix2 ⟨128, by omega⟩ b)
    unfold Cert.Pre_finite_ropes.fn at e
    pointwise at e
    exact GlaClaim.of_lt_inf e
  · intro k d
    have e := congrFun h (ix2 ⟨129 + d.val, by omega⟩ k)
    unfold Cert.Pre_finite_ropes.fn at e
    pointwise at e
    simp (disch := omega) only [dif_pos, dif_neg] at e
    have e' : 129 + d.val - 128 - 1 = d.val := by omega
    simp only [e', Fin.eta] at e
    exact real_of_fin (GlaClaim.of_lt_inf e)

end Cert.Proof.SropeRef

end
-- ==== Proof.SropeClaim.lean ====
/-
  The sample batch's rotary key equals its reference on finite arguments: its blocks and values read at an index,
  the result array after the run, and the certificate's claims about the seventh program pair.
-/
module

public import proofs.«01_k».proof.Defs
public import proofs.«01_k».proof.Proof.SropeRef
public import proofs.«01_k».proof.Proof.Gen.Kernel7.Frame
public import proofs.«01_k».proof.Proof.Gen.Kernel7Ideal.Skeleton
public import proofs.«01_k».proof.Proof.Gen.Kernel7Ideal.Value
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Srope

open Cert.Kernel7Ideal Cert.Kernel7Ideal.Gen
open Idealize.ShloMosaic Idealize.SL.Sem
open Cert.Proof.SprojRef (pre lin)
open Cert.Proof.SropeRef (turn)

/-! ## The body's values at an index -/

/-- The normed rows; -/
theorem rows_apply (x : Vec Ideal S128x2048 .f32) (n : Vec Ideal S1x2048 .f32) (r : Fin 128) (k : Fin 2048) :
    k0_pay1 x n (ix2 r k) = x (ix2 r k) * Ideal.rsqrt (Ideal.div (∑ j, x (ix2 r j) * x (ix2 r j)) (Ideal.ofBits FTy.f32 1157627904#32) + Ideal.ofBits FTy.f32 897988541#32) * n (ix2 0 k) := by
  unfold k0_pay1; pointwise

/-- and a column of the turned key, out of the products with a column of each half of the narrow weight. -/
theorem key_apply (A : FVec Ideal S128x2048 .bf16) (u w : Vec Ideal S2048x128 .bf16) (c s : Vec Ideal S128x128 .f32) (r : Fin 128) (d : Fin 64) :
    k0_pay39 (k0_pay18 (k0_pay8 A u) (k0_pay9 A w) (k0_pay10 c) (k0_pay11 s)) (ix2 r d)
      = (∑ k, A (ix2 r k) * u (ix2 k ⟨d.val, by omega⟩)) * c (ix2 r ⟨d.val, by omega⟩) + (∑ k, A (ix2 r k) * w (ix2 k ⟨d.val, by omega⟩)) * s (ix2 r ⟨d.val, by omega⟩) := by
  unfold k0_pay39 k0_pay18 k0_pay8 k0_pay9 k0_pay10 k0_pay11
  pointwise

/-! ## The narrow weight and the tables -/

/-- The rotary key's columns of the weight. -/
def wkr (w : FVec Ideal S1x2048x4176 .f32) : FVec Ideal S2048x64 .f32 :=
  shapeCast S2048x64 (extractStridedSlice S1x2048x64 ![0, 0, 1024] w slices_S1x2048x4176_S1x2048x64_0_0_1024) shapeCasts_S1x2048x64_S2048x64
def wga (w : FVec Ideal S1x2048x4176 .f32) : FVec Ideal S2048x16 .f32 :=
  shapeCast S2048x16 (extractStridedSlice S1x2048x16 ![0, 0, 3136] w slices_S1x2048x4176_S1x2048x16_0_0_3136) shapeCasts_S1x2048x16_S2048x16

/-- The narrow weight: those columns and the gate's, and then the key's halves exchanged, the second with its sign turned. -/
def wnar (w : FVec Ideal S1x2048x4176 .f32) : FVec Ideal S2048x256 .bf16 :=
  truncf .bf16 (concatenate S2048x256 1 [⟨S2048x64, wkr w⟩, ⟨S2048x16, wga w⟩,
    ⟨S2048x48, broadcastInDim S2048x48 ![] bcast_S_S2048x48 (constant (F := Ideal) S_ .f32 0x00000000#32)⟩,
    ⟨S2048x32, Host.negf (extractStridedSlice S2048x32 ![0, 32] (wkr w) slices_S2048x64_S2048x32_0_32)⟩,
    ⟨S2048x32, extractStridedSlice S2048x32 ![0, 0] (wkr w) slices_S2048x64_S2048x32_0_0⟩,
    ⟨S2048x64, broadcastInDim S2048x64 ![] bcast_S_S2048x64 (constant (F := Ideal) S_ .f32 0x00000000#32)⟩]
    concatenates_S2048x64_S2048x16_S2048x48_S2048x32_S2048x32_S2048x64_S2048x256_d1) bitsLt_bf16_f32

theorem wkr_apply (w : FVec Ideal S1x2048x4176 .f32) (k : Fin 2048) (d : Fin 64) : wkr w (ix2 k d) = w (ix3 0 k ⟨1024 + d.val, by omega⟩) := by
  unfold wkr; pointwise

theorem wnar_key (w : FVec Ideal S1x2048x4176 .f32) (k : Fin 2048) (d : Fin 64) : wnar w (ix2 k ⟨d.val, by omega⟩) = w (ix3 0 k ⟨1024 + d.val, by omega⟩) := by
  rw [← wkr_apply w k d]
  unfold wnar
  generalize wkr w = K
  generalize wga w = G
  pointwise
theorem wnar_neg (w : FVec Ideal S1x2048x4176 .f32) (k : Fin 2048) (d : Fin 32) : wnar w (ix2 k ⟨128 + d.val, by omega⟩) = -w (ix3 0 k ⟨1056 + d.val, by omega⟩) := by
  have e := wkr_apply w k ⟨32 + d.val, by omega⟩
  have e' : w (ix3 0 k ⟨1056 + d.val, by omega⟩) = wkr w (ix2 k ⟨32 + d.val, by omega⟩) :=
    (congrArg (fun q => w (ix3 0 k q)) (Fin.ext (by simp only []; omega))).trans e.symm
  rw [e']
  unfold wnar
  generalize wkr w = K
  generalize wga w = G
  pointwise
  simp (disch := omega) only [dif_pos, dif_neg]
  exact congrArg (fun q => -K (ix2 k q)) (Fin.ext (by simp only []; omega))
theorem wnar_pos (w : FVec Ideal S1x2048x4176 .f32) (k : Fin 2048) (d : Fin 32) : wnar w (ix2 k ⟨160 + d.val, by omega⟩) = w (ix3 0 k ⟨1024 + d.val, by omega⟩) := by
  have e : w (ix3 0 k ⟨1024 + d.val, by omega⟩) = wkr w (ix2 k ⟨d.val, by omega⟩) := (wkr_apply w k ⟨d.val, by omega⟩).symm
  rw [e]
  unfold wnar
  generalize wkr w = K
  generalize wga w = G
  pointwise
  simp (disch := omega) only [dif_pos, dif_neg]
  exact congrArg (fun q => K (ix2 k q)) (Fin.ext (by simp only []; omega))

/-- A table of angles twice side by side, and zeros. -/
def tab (x : FVec Ideal S128x32 .f32) : FVec Ideal S128x128 .f32 :=
  concatenate S128x128 1 [⟨S128x32, x⟩, ⟨S128x32, x⟩, ⟨S128x64, broadcastInDim S128x64 ![] bcast_S_S128x64 (constant (F := Ideal) S_ .f32 0x00000000#32)⟩]
    concatenates_S128x32_S128x32_S128x64_S128x128_d1

theorem tab_low (x : FVec Ideal S128x32 .f32) (n : Fin 128) (d : Fin 32) : tab x (ix2 n ⟨d.val, by omega⟩) = x (ix2 n d) := by
  unfold tab
  pointwise
theorem tab_high (x : FVec Ideal S128x32 .f32) (n : Fin 128) (d : Fin 32) : tab x (ix2 n ⟨32 + d.val, by omega⟩) = x (ix2 n d) := by
  unfold tab
  pointwise

variable (m : (ℓ : Loc nD τ sig) → Buf (Elt Ideal) ℓ) (ρ : Dev nD → PrngReg) (c : Dev nD)

/-- The kernel's argument arrays the compared result reads. -/
abbrev kX : S128x2048.Idx → EReal := m ((c.tc : Thread nD τ).loc main_arg0)
abbrev kC : S128x32.Idx → EReal := m ((c.tc : Thread nD τ).loc main_arg1)
abbrev kS : S128x32.Idx → EReal := m ((c.tc : Thread nD τ).loc main_arg2)
abbrev kN : S1x2048.Idx → EReal := m ((c.tc : Thread nD τ).loc main_arg3)
abbrev kW : S1x2048x4176.Idx → EReal := m ((c.tc : Thread nD τ).loc main_arg4)

/-- The result, of the argument arrays. -/
abbrev kLin : Cert.Reference6Ideal.S128x4176.Idx → EReal := lin (kX m c) (kN m c) (kW m c)
def out16 : S128x64.Idx → EReal := turn (kLin m c) (kC m c) (kS m c)

theorem idx (t : Fin cfg0.N) : win0_0.index t = ![t.val, 0] ∧ win0_1.index t = ![t.val, 0] ∧ win0_2.index t = ![t.val, 0] ∧ win0_3.index t = ![0, 0]
    ∧ win0_5.index t = ![0, 0] ∧ win0_16.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_5.index t = ![0, 0] ∧ win0_16.index t = ![t.val, 0]) t

theorem lt_N (t : Fin cfg0.N) : t.val < 1 := Nat.lt_of_lt_of_eq t.isLt (by decide)

/-- A point's rows. -/
def row (t : Fin cfg0.N) (r : Fin 128) : Fin 128 := ⟨128 * t.val + r.val, by have := lt_N t; omega⟩

/-- The arrays the region finds. -/
theorem V_n : V m c main_v33 = shapeCast _ (shapeCast _ (kN m c) shapeCasts_S1x2048_S2048) shapeCasts_S2048_S1x2048 := rfl
theorem V_t : V m c main_v35 = wnar (kW m c) := rfl
theorem V_c : V m c main_v24 = tab (kC m c) := rfl
theorem V_s : V m c main_v25 = tab (kS m c) := rfl

/-- The blocks at an index. -/
theorem blkX (t : Fin cfg0.N) (r : Fin 128) (d : Fin 2048) : iblk m c 0 t (ix2 r d) = kX m c (ix2 (row t r) d) := by
  unfold row; blk_ext [iblk, V, idx t]
theorem blkC (t : Fin cfg0.N) (r : Fin 128) (d : Fin 128) : iblk m c 1 t (ix2 r d) = tab (kC m c) (ix2 (row t r) d) := by
  have e : iblk m c 1 t (ix2 r d) = V m c main_v24 (ix2 (row t r) d) := by unfold row; blk_ext [iblk, idx t]
  rw [e, V_c]
theorem blkS (t : Fin cfg0.N) (r : Fin 128) (d : Fin 128) : iblk m c 2 t (ix2 r d) = tab (kS m c) (ix2 (row t r) d) := by
  have e : iblk m c 2 t (ix2 r d) = V m c main_v25 (ix2 (row t r) d) := by unfold row; blk_ext [iblk, idx t]
  rw [e, V_s]
theorem blkN (t : Fin cfg0.N) (d : Fin 2048) : iblk m c 3 t (ix2 0 d) = kN m c (ix2 0 d) := by
  have e : iblk m c 3 t (ix2 0 d) = V m c main_v33 (ix2 0 d) := by blk_ext [iblk, idx t]
  rw [e, V_n]; pointwise
theorem blkT (t : Fin cfg0.N) (k : Fin 2048) (j : Fin 256) : iblk m c 5 t (ix2 k j) = wnar (kW m c) (ix2 k j) := by
  have e : iblk m c 5 t (ix2 k j) = V m c main_v35 (ix2 k j) := by blk_ext [iblk, idx t]
  rw [e, V_t]

/-- A half of the narrow weight, as the body loads it. -/
theorem ldT (x : Vec Ideal S2048x256 .bf16) (o : Nat) (h) (k : Fin 2048) (d : Fin 128) (ho : o + 128 ≤ 256) :
    View.ld x (Rect.unit (s := S2048x256) ![0, o] S2048x128.size h) (ix2 k d) = x (ix2 k ⟨o + d.val, by omega⟩) := by
  refine View.ld_unit_apply_of x _ _ _ _ _ fun a => ?_
  match a with
  | 0 => exact (Nat.zero_add _).symm
  | 1 => rfl

/-! ## What a point leaves in the result's block -/

/-- A point's normed rows. -/
theorem valA (t : Fin cfg0.N) (r : Fin 128) (k : Fin 2048) : k0_pay1 (iblk m c 0 t) (iblk m c 3 t) (ix2 r k) = pre (kX m c) (kN m c) (ix2 (row t r) k) := by
  refine (rows_apply _ _ r k).trans (Eq.trans ?_ (SprojRef.pre_apply _ _ _ _).symm)
  rw [blkX, blkN]
  exact congrArg (fun s => kX m c (ix2 (row t r) k) * Ideal.rsqrt (Ideal.div s _ + _) * kN m c (ix2 0 k))
    (Finset.sum_congr rfl fun j _ => congrArg₂ (· * ·) (blkX m c t r j) (blkX m c t r j))

/-- A point's normed rows times a column: the projection on it. -/
theorem valLin (t : Fin cfg0.N) (r : Fin 128) (v : Fin 2048 → EReal) (q : Fin 4176) (hv : ∀ k, v k = kW m c (ix3 0 k q)) :
    ∑ k, k0_pay1 (iblk m c 0 t) (iblk m c 3 t) (ix2 r k) * v k = kLin m c (ix2 (row t r) q) := by
  refine Eq.trans ?_ (SprojRef.lin_apply _ _ _ _ _).symm
  exact Finset.sum_congr rfl fun k _ => congrArg₂ (· * ·) (valA m c t r k) (hv k)

/-- And on a column with its signs turned. -/
theorem valNeg (t : Fin cfg0.N) (r : Fin 128) (v : Fin 2048 → EReal) (q : Fin 4176) (hv : ∀ k, v k = -kW m c (ix3 0 k q))
    (ha : ∀ n k, ∃ x : ℝ, pre (kX m c) (kN m c) (ix2 n k) = (x : EReal)) (hw : ∀ k, ∃ x : ℝ, kW m c (ix3 0 k q) = (x : EReal)) :
    ∑ k, k0_pay1 (iblk m c 0 t) (iblk m c 3 t) (ix2 r k) * v k = -kLin m c (ix2 (row t r) q) := by
  refine Eq.trans ?_ (congrArg (fun z : EReal => -z) (SprojRef.lin_apply (kX m c) (kN m c) (kW m c) (row t r) q).symm)
  refine Eq.trans (Finset.sum_congr rfl fun k _ => congrArg₂ (· * ·) (valA m c t r k) (hv k)) ?_
  exact Cert.Proof.RopeRef.sum_neg (fun k => pre (kX m c) (kN m c) (ix2 (row t r) k)) (fun k => kW m c (ix3 0 k q)) (ha _) hw

/-- The block's first 32 columns; -/
theorem val_low (t : Fin cfg0.N) (r : Fin 128) (d : Fin 32)
    (ha : ∀ n k, ∃ x : ℝ, pre (kX m c) (kN m c) (ix2 n k) = (x : EReal)) (hw : ∀ (k : Fin 2048) (e : Fin 64), ∃ x : ℝ, kW m c (ix3 0 k ⟨1024 + e.val, by omega⟩) = (x : EReal)) :
    k0_pay39 (k0_pay18 (k0_pay8 (k0_pay1 (iblk m c 0 t) (iblk m c 3 t)) (View.ld (iblk m c 5 t) r0_8)) (k0_pay9 (k0_pay1 (iblk m c 0 t) (iblk m c 3 t)) (View.ld (iblk m c 5 t) r0_9)) (k0_pay10 (iblk m c 1 t)) (k0_pay11 (iblk m c 2 t))) (ix2 r ⟨d.val, by omega⟩)
      = out16 m c (ix2 (row t r) ⟨d.val, by omega⟩) := by
  unfold out16
  refine (key_apply _ _ _ _ _ r ⟨d.val, by omega⟩).trans (Eq.trans ?_ (SropeRef.turn_low _ _ _ _ d).symm)
  have h1 := valLin m c t r (fun k => View.ld (iblk m c 5 t) r0_8 (ix2 k ⟨d.val, by omega⟩)) ⟨1024 + d.val, by omega⟩
    (fun k => (ldT (iblk m c 5 t) 0 _ k ⟨d.val, by omega⟩ (by omega)).trans ((blkT m c t k _).trans
      ((congrArg (fun q => wnar (kW m c) (ix2 k q)) (Fin.ext (by simp only []; omega))).trans (wnar_key (kW m c) k ⟨d.val, by omega⟩))))
  have h2 := valNeg m c t r (fun k => View.ld (iblk m c 5 t) r0_9 (ix2 k ⟨d.val, by omega⟩)) ⟨1056 + d.val, by omega⟩
    (fun k => (ldT (iblk m c 5 t) 128 _ k ⟨d.val, by omega⟩ (by omega)).trans ((blkT m c t k _).trans (wnar_neg (kW m c) k d))) ha
    (fun k => by
      obtain ⟨x, hx⟩ := hw k ⟨32 + d.val, by omega⟩
      exact ⟨x, (congrArg (fun q => kW m c (ix3 0 k q)) (Fin.ext (by simp only []; omega))).trans hx⟩)
  have h3 : iblk m c 1 t (ix2 r ⟨d.val, by omega⟩) = kC m c (ix2 (row t r) d) := (blkC m c t r _).trans (tab_low _ _ _)
  have h4 : iblk m c 2 t (ix2 r ⟨d.val, by omega⟩) = kS m c (ix2 (row t r) d) := (blkS m c t r _).trans (tab_low _ _ _)
  refine (congrArg₂ (· + ·) (congrArg₂ (· * ·) h1 h3) (congrArg₂ (· * ·) h2 h4)).trans ?_
  rw [EReal.neg_mul]
  exact (sub_eq_add_neg _ _).symm

/-- and its last 32. -/
theorem val_high (t : Fin cfg0.N) (r : Fin 128) (d : Fin 32) :
    k0_pay39 (k0_pay18 (k0_pay8 (k0_pay1 (iblk m c 0 t) (iblk m c 3 t)) (View.ld (iblk m c 5 t) r0_8)) (k0_pay9 (k0_pay1 (iblk m c 0 t) (iblk m c 3 t)) (View.ld (iblk m c 5 t) r0_9)) (k0_pay10 (iblk m c 1 t)) (k0_pay11 (iblk m c 2 t))) (ix2 r ⟨32 + d.val, by omega⟩)
      = out16 m c (ix2 (row t r) ⟨32 + d.val, by omega⟩) := by
  unfold out16
  refine (key_apply _ _ _ _ _ r ⟨32 + d.val, by omega⟩).trans (Eq.trans ?_ (SropeRef.turn_high _ _ _ _ d).symm)
  have h1 := valLin m c t r (fun k => View.ld (iblk m c 5 t) r0_8 (ix2 k ⟨32 + d.val, by omega⟩)) ⟨1056 + d.val, by omega⟩
    (fun k => (ldT (iblk m c 5 t) 0 _ k ⟨32 + d.val, by omega⟩ (by omega)).trans ((blkT m c t k _).trans
      ((congrArg (fun q => wnar (kW m c) (ix2 k q)) (Fin.ext (by simp only []; omega))).trans ((wnar_key (kW m c) k ⟨32 + d.val, by omega⟩).trans
        (congrArg (fun q => kW m c (ix3 0 k q)) (Fin.ext (by simp only []; omega)))))))
  have h2 := valLin m c t r (fun k => View.ld (iblk m c 5 t) r0_9 (ix2 k ⟨32 + d.val, by omega⟩)) ⟨1024 + d.val, by omega⟩
    (fun k => (ldT (iblk m c 5 t) 128 _ k ⟨32 + d.val, by omega⟩ (by omega)).trans ((blkT m c t k _).trans
      ((congrArg (fun q => wnar (kW m c) (ix2 k q)) (Fin.ext (by simp only []; omega))).trans (wnar_pos (kW m c) k d))))
  have h3 : iblk m c 1 t (ix2 r ⟨32 + d.val, by omega⟩) = kC m c (ix2 (row t r) d) := (blkC m c t r _).trans (tab_high _ _ _)
  have h4 : iblk m c 2 t (ix2 r ⟨32 + d.val, by omega⟩) = kS m c (ix2 (row t r) d) := (blkS m c t r _).trans (tab_high _ _ _)
  exact (congrArg₂ (· + ·) (congrArg₂ (· * ·) h1 h3) (congrArg₂ (· * ·) h2 h4)).trans (add_comm _ _)

/-! ## The result array after the run -/

theorem final16 (ha : ∀ n k, ∃ x : ℝ, pre (kX m c) (kN m c) (ix2 n k) = (x : EReal)) (hw : ∀ (k : Fin 2048) (e : Fin 64), ∃ x : ℝ, kW m c (ix3 0 k ⟨1024 + e.val, by omega⟩) = (x : EReal)) :
    (dats m 0 c).arrAt 16 cfg0.N = out16 m c := by
  refine (dats m 0 c).arrAt_eq_of_covers 16 (out16 m c) (by decide +kernel) fun t hf y => ?_
  blk_simp
  rw [after0_16]
  obtain ⟨r, d, rfl⟩ : ∃ (r : Fin 128) (d : Fin 64), y = ix2 r d := ⟨y 0, y 1, eq_ix2 y⟩
  unfold out0_16 k0_pay43 k0_pay44 k0_pay45 k0_pay41
  simp (disch := decide) only [View.ld_unit_lit', View.canon_cons_unit_lit']
  have hr : out16 m c ((win0_16.blk t).view.emb (ix2 r d)) = out16 m c (ix2 (row t r) d) := by unfold row; blk_ext [idx t]
  refine Eq.trans ?_ hr.symm
  by_cases hd : d.val < 32
  · exact val_low m c t r ⟨d.val, hd⟩ ha hw
  · obtain ⟨e, rfl⟩ : ∃ e : Fin 32, d = ⟨32 + e.val, Nat.add_lt_add_left e.isLt 32⟩ := ⟨⟨d.val - 32, by omega⟩, Fin.ext (by simp only []; omega)⟩
    exact val_high m c t r e

/-! ## The claims -/

/-- The kernel's run on the chip's floats: arguments kept, counters at zero. -/
theorem frame_kernel : Cert.quiescent_Kernel7 := fun m ρ _ => Cert.Kernel7.Gen.frame (F := Bits) m ρ

/-- The same at the exact instance. -/
theorem frame_kernelIdeal : Cert.quiescent_Kernel7Ideal := fun m ρ _ => Cert.Kernel7Ideal.Gen.frame (F := Ideal) m ρ

/-- The reference's run: arguments kept, and it has no semaphore. -/
theorem frame_reference : Cert.quiescent_Reference7Ideal := fun m ρ _ =>
  (θ_run Cert.Reference7Ideal.defs _ _).mono (fun r h => ⟨fun c => (h c).2, sem_eq_zero_of_no_sems rfl r.2⟩) (Cert.Reference7Ideal.Value.run (F := Ideal) m ρ)

/-- The same claims under the precondition. -/
theorem frame_kernelIdeal_pre : Cert.quiescent_Kernel7Ideal_pre_finite_ropes (hPre_finite_ropes := SropeRef.preFacts) := fun m ρ _ => Cert.Kernel7Ideal.Gen.frame (F := Ideal) m ρ

/-- And of the reference. -/
theorem frame_reference_pre : Cert.quiescent_Reference7Ideal_pre_finite_ropes (hPre_finite_ropes := SropeRef.preFacts) := fun m ρ _ => frame_reference m ρ trivial

/-- The kernel's rotary key and the reference's are equal on finite arguments. -/
theorem algebraic : Cert.algebraic_Kernel7Ideal_Reference7Ideal_pre_finite_ropes (hPre_finite_ropes := SropeRef.preFacts) := by
  letI := SropeRef.preFacts
  intro m ρ m' ρ' hp he
  have hf := fun c => SropeRef.finite_of_pre _ _ _ _ _ _ _ _ _ _ _ _ (hp c)
  refine ⟨fun c => out16 m c, (θ_run defs _ _).mono (fun r h c => ?_) (Cert.Kernel7Ideal.Value.run_blocks (F := Ideal) m ρ), ?_⟩
  · obtain ⟨-, -, -, h16, -, -, -, -, -, hr⟩ := h c
    exact ⟨h16.trans (final16 m c (SropeRef.pre_fin _ _ (hf c).1 (hf c).2.1) (hf c).2.2), hr⟩
  refine (θ_run Cert.Reference7Ideal.defs _ _).mono (fun r h c => ?_) (Cert.Reference7Ideal.Value.run (F := Ideal) m' ρ')
  obtain ⟨e0, e1, e2, e3, e4, -⟩ := he c
  refine ⟨(h c).1.trans ?_, (h c).2⟩
  unfold Cert.Reference7Ideal.Value.res_main_v32
  rw [e0, e1, e2, e3, e4]; rfl

end Cert.Proof.Srope

end
-- ==== Proof.SffnRef.lean ====
/-
  The sample batch's feed-forward reference at the exact instance: its results' composed terms in four named steps, each read at an index.
-/
module

public import proofs.«01_k».proof.Proof.Gen.Reference8Ideal.Run
public import Idealize.ShloMosaic.Lib.Pointwise

@[expose] public section

set_option maxRecDepth 16384

noncomputable section

namespace Cert.Proof.SffnRef

open Idealize.ShloMosaic Idealize.SL.Sem Cert.Reference8Ideal Cert.Reference8Ideal.Gen Cert.Reference8Ideal.Value
open Idealize.ShloMosaic.StableHlo

/-- The up projection; -/
def up (a : FVec Ideal S128x2048 .f32) (w : FVec Ideal S1x2048x11264 .f32) : FVec Ideal S128x11264 .f32 :=
  Host.dotGeneral dot_S128x2048_S2048x11264_S128x11264_1_0_0_1_n_n none a (shapeCast _ w shapeCasts_S1x2048x11264_S2048x11264)

/-- the two rows of the state above the projection; -/
def ext (h : FVec Ideal S1x128x2x11264 .f32) (u : FVec Ideal S128x11264 .f32) : FVec Ideal S128x3x11264 .f32 :=
  concatenate S128x3x11264 1 [⟨S128x2x11264, (shapeCast _ h shapeCasts_S1x128x2x11264_S128x2x11264)⟩, ⟨S128x1x11264, (broadcastInDim S128x1x11264 ![0, 2] bcast_S128x11264_S128x1x11264_0_2 u)⟩] concatenates_S128x2x11264_S128x1x11264_S128x3x11264_d1

/-- one of the convolution's taps along every row; -/
def tapRow (w : FVec Ideal S1x1x11264 .f32) : FVec Ideal S128x1x11264 .f32 :=
  broadcastInDim S128x1x11264 ![0, 1, 2] bcast_S1x1x11264_S128x1x11264_0_1_2 (broadcastInDim S1x1x11264 ![2] bcast_S11264_S1x1x11264_2 (shapeCast _ w shapeCasts_S1x1x11264_S11264))

/-- the convolution; -/
def conv (U : FVec Ideal S128x3x11264 .f32) (w : FVec Ideal S1x3x11264 .f32) (b : FVec Ideal S1x11264 .f32) : FVec Ideal S128x11264 .f32 :=
  shapeCast _ (addf (addf (addf (broadcastInDim S128x1x11264 ![0, 1, 2] bcast_S1x1x11264_S128x1x11264_0_1_2 (broadcastInDim S1x1x11264 ![2] bcast_S11264_S1x1x11264_2 (shapeCast _ b shapeCasts_S1x11264_S11264)))
    (mulf (extractStridedSlice S128x1x11264 ![0, 0, 0] U slices_S128x3x11264_S128x1x11264_0_0_0) (tapRow (extractStridedSlice S1x1x11264 ![0, 0, 0] w slices_S1x3x11264_S1x1x11264_0_0_0))))
    (mulf (extractStridedSlice S128x1x11264 ![0, 1, 0] U slices_S128x3x11264_S128x1x11264_0_1_0) (tapRow (extractStridedSlice S1x1x11264 ![0, 1, 0] w slices_S1x3x11264_S1x1x11264_0_1_0))))
    (mulf (extractStridedSlice S128x1x11264 ![0, 2, 0] U slices_S128x3x11264_S128x1x11264_0_2_0) (tapRow (extractStridedSlice S1x1x11264 ![0, 2, 0] w slices_S1x3x11264_S1x1x11264_0_2_0)))) shapeCasts_S128x1x11264_S128x11264

/-- the gated values, the gate through the activation; -/
def gated (g v : FVec Ideal S128x5632 .f32) : FVec Ideal S128x5632 .f32 :=
  mulf (mulf g (mulf (broadcastInDim S128x5632 ![] bcast_S_S128x5632 (constant (F := Ideal) S_ .f32 0x3F000000#32)) (addf (broadcastInDim S128x5632 ![] bcast_S_S128x5632 (constant (F := Ideal) S_ .f32 0x3F800000#32)) (Host.tanh (mulf (broadcastInDim S128x5632 ![] bcast_S_S128x5632 (constant (F := Ideal) S_ .f32 0x3F4C422A#32)) (addf g (mulf (broadcastInDim S128x5632 ![] bcast_S_S128x5632 (constant (F := Ideal) S_ .f32 0x3D372713#32)) (mulf (mulf g g) g)))))))) v

/-- the down projection; -/
def down (g : FVec Ideal S128x5632 .f32) (w : FVec Ideal S1x5632x2048 .f32) : FVec Ideal S128x2048 .f32 :=
  Host.dotGeneral dot_S128x5632_S5632x2048_S128x2048_1_0_0_1_n_n none g (shapeCast _ w shapeCasts_S1x5632x2048_S5632x2048)

/-- the residual plus the normed projection. -/
def normed (h f : FVec Ideal S128x2048 .f32) (w : FVec Ideal S1x2048 .f32) : FVec Ideal S128x2048 .f32 :=
  addf h (mulf (mulf f (broadcastInDim S128x2048 ![0, 1] bcast_S128x1_S128x2048_0_1 (Host.rsqrt (addf (Host.divf (broadcastInDim S128x1 ![0] bcast_S128_S128x1_0 (Host.reduceAdd (mulf f f) (constant (F := Ideal) S_ .f32 0x00000000#32) reducesTo_S128x2048_S128_d1 h_S_)) (broadcastInDim S128x1 ![] bcast_S_S128x1 (constant (F := Ideal) S_ .f32 0x45000000#32))) (broadcastInDim S128x1 ![] bcast_S_S128x1 (constant (F := Ideal) S_ .f32 0x358637BD#32)))))) (broadcastInDim S128x2048 ![0, 1] bcast_S1x2048_S128x2048_0_1 (broadcastInDim S1x2048 ![1] bcast_S2048_S1x2048_1 (shapeCast _ w shapeCasts_S1x2048_S2048))))

theorem up_apply (a : FVec Ideal S128x2048 .f32) (w : FVec Ideal S1x2048x11264 .f32) (n : Fin 128) (j : Fin 11264) :
    up a w (ix2 n j) = ∑ k : Fin 2048, a (ix2 n k) * w (ix3 0 k j) := by
  unfold up; pointwise

theorem ext_apply (h : FVec Ideal S1x128x2x11264 .f32) (u : FVec Ideal S128x11264 .f32) (n : Fin 128) (j : Fin 11264) :
    ext h u (ix3 n 0 j) = h (ix4 0 n 0 j) ∧ ext h u (ix3 n 1 j) = h (ix4 0 n 1 j) ∧ ext h u (ix3 n 2 j) = u (ix2 n j) := by
  refine ⟨?_, ?_, ?_⟩ <;> (unfold ext; pointwise)

theorem conv_apply (U : FVec Ideal S128x3x11264 .f32) (w : FVec Ideal S1x3x11264 .f32) (b : FVec Ideal S1x11264 .f32) (n : Fin 128) (j : Fin 11264) :
    conv U w b (ix2 n j) = b (ix2 0 j) + U (ix3 n 0 j) * w (ix3 0 0 j) + U (ix3 n 1 j) * w (ix3 0 1 j) + U (ix3 n 2 j) * w (ix3 0 2 j) := by
  unfold conv; pointwise [tapRow]

theorem gated_apply (g v : FVec Ideal S128x5632 .f32) (i : S128x5632.Idx) : gated g v i =
    g i * (Ideal.ofBits FTy.f32 1056964608#32 * (1 + Ideal.tanh (Ideal.ofBits FTy.f32 1061962282#32 * (g i + Ideal.ofBits FTy.f32 1027024659#32 * (g i * g i * g i))))) * v i := by
  unfold gated; pointwise

theorem down_apply (g : FVec Ideal S128x5632 .f32) (w : FVec Ideal S1x5632x2048 .f32) (n : Fin 128) (d : Fin 2048) :
    down g w (ix2 n d) = ∑ k : Fin 5632, g (ix2 n k) * w (ix3 0 k d) := by
  unfold down; pointwise

theorem normed_apply (h f : FVec Ideal S128x2048 .f32) (w : FVec Ideal S1x2048 .f32) (n : Fin 128) (d : Fin 2048) :
    normed h f w (ix2 n d) =
    h (ix2 n d) + f (ix2 n d) * Ideal.rsqrt (Ideal.div (∑ x, f (ix2 n x) * f (ix2 n x)) (Ideal.ofBits FTy.f32 1157627904#32) + Ideal.ofBits FTy.f32 897988541#32) * w (ix2 0 d) := by
  unfold normed; pointwise

/-- The new rows of the extended projection, its first half of the columns and its second. -/
def newG (U : FVec Ideal S128x3x11264 .f32) : FVec Ideal S128x5632 .f32 :=
  shapeCast _ (extractStridedSlice S128x1x5632 ![0, 2, 0] U slices_S128x3x11264_S128x1x5632_0_2_0) shapeCasts_S128x1x5632_S128x5632
def newU (U : FVec Ideal S128x3x11264 .f32) : FVec Ideal S128x5632 .f32 :=
  shapeCast _ (extractStridedSlice S128x1x5632 ![0, 2, 5632] U slices_S128x3x11264_S128x1x5632_0_2_5632) shapeCasts_S128x1x5632_S128x5632

theorem newG_apply (U : FVec Ideal S128x3x11264 .f32) (n : Fin 128) (j : Fin 5632) : newG U (ix2 n j) = U (ix3 n 2 ⟨j.val, by omega⟩) := by
  unfold newG; pointwise
theorem newU_apply (U : FVec Ideal S128x3x11264 .f32) (n : Fin 128) (j : Fin 5632) : newU U (ix2 n j) = U (ix3 n 2 ⟨5632 + j.val, by omega⟩) := by
  unfold newU; pointwise

variable (m : (ℓ : Loc nD τ sig) → Buf (Elt Ideal) ℓ) (c : Dev nD)

theorem res_eq : res_main_v62 m c = normed (m ((c.tc : Thread nD τ).loc main_arg1))
    (down (gated (extractStridedSlice S128x5632 ![0, 0] (conv (ext (m ((c.tc : Thread nD τ).loc main_arg2)) (up (m ((c.tc : Thread nD τ).loc main_arg0)) (m ((c.tc : Thread nD τ).loc main_arg3)))) (m ((c.tc : Thread nD τ).loc main_arg4)) (m ((c.tc : Thread nD τ).loc main_arg5))) slices_S128x11264_S128x5632_0_0)
      (extractStridedSlice S128x5632 ![0, 5632] (conv (ext (m ((c.tc : Thread nD τ).loc main_arg2)) (up (m ((c.tc : Thread nD τ).loc main_arg0)) (m ((c.tc : Thread nD τ).loc main_arg3)))) (m ((c.tc : Thread nD τ).loc main_arg4)) (m ((c.tc : Thread nD τ).loc main_arg5))) slices_S128x11264_S128x5632_0_5632))
      (m ((c.tc : Thread nD τ).loc main_arg6))) (m ((c.tc : Thread nD τ).loc main_arg7)) := by
  unfold res_main_v62; rfl

end Cert.Proof.SffnRef

end
-- ==== Proof.SffnVal.lean ====
/-
  The sample batch's feed-forward kernel: its blocks and values read at an index, the accumulator as
  a sum over the column blocks, and the three result arrays after the run.
-/
module

public import proofs.«01_k».proof.Defs
public import proofs.«01_k».proof.Proof.SffnRef
public import proofs.«01_k».proof.Proof.Gen.Kernel8Ideal.Skeleton
public import proofs.«01_k».proof.Proof.Gen.Kernel8Ideal.Value
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Sffn

open Cert.Kernel8Ideal Cert.Kernel8Ideal.Gen
open Idealize.ShloMosaic Idealize.SL.Sem
open Cert.Proof.SffnRef (up ext conv gated down normed newG newU)

/-! ## The body's values at an index -/

theorem pay5_apply (x : Vec Ideal S128x2048 .bf16) (w : Vec Ideal S2048x512 .bf16) (r : Fin 128) (cc : Fin 512) :
    k0_pay5 x w (ix2 r cc) = ∑ k : Fin 2048, x (ix2 r k) * w (ix2 k cc) := by
  unfold k0_pay5; pointwise [k0_pay4]
theorem pay7_apply (x : Vec Ideal S128x2048 .bf16) (w : Vec Ideal S2048x512 .bf16) (r : Fin 128) (cc : Fin 512) :
    k0_pay7 (k0_pay4 x) w (ix2 r cc) = ∑ k : Fin 2048, x (ix2 r k) * w (ix2 k cc) := by
  unfold k0_pay7; pointwise [k0_pay4]
theorem pay6_apply (x : Vec Ideal S128x2048 .bf16) (w : Vec Ideal S2048x512 .bf16) (h0 h1 : Vec Ideal S1x128x512 .f32) (t0 t1 t2 b : Vec Ideal S1x512 .f32) (r : Fin 128) (cc : Fin 512) :
    k0_pay6 x w h0 t0 h1 t1 t2 b (ix2 r cc) = h0 (ix3 0 r cc) * t0 (ix2 0 cc) + h1 (ix3 0 r cc) * t1 (ix2 0 cc) + k0_pay5 x w (ix2 r cc) * t2 (ix2 0 cc) + b (ix2 0 cc) := by
  unfold k0_pay6
  generalize k0_pay5 x w = u
  pointwise
theorem pay8_apply (x : FVec Ideal S128x2048 .bf16) (w : Vec Ideal S2048x512 .bf16) (h0 h1 : Vec Ideal S1x128x512 .f32) (t0 t1 t2 b : Vec Ideal S1x512 .f32) (r : Fin 128) (cc : Fin 512) :
    k0_pay8 x w h0 t0 h1 t1 t2 b (ix2 r cc) = h0 (ix3 0 r cc) * t0 (ix2 0 cc) + h1 (ix3 0 r cc) * t1 (ix2 0 cc) + k0_pay7 x w (ix2 r cc) * t2 (ix2 0 cc) + b (ix2 0 cc) := by
  unfold k0_pay8
  generalize k0_pay7 x w = u
  pointwise
theorem pay9_apply (g : FVec Ideal S128x512 .f32) (i : S128x512.Idx) : k0_pay9 g i =
    Ideal.ofBits FTy.f32 1056964608#32 * g i * (1 + Ideal.tanh (Ideal.ofBits FTy.f32 1061962282#32 * (g i + Ideal.ofBits FTy.f32 1027024659#32 * (g i * g i * g i)))) := by
  unfold k0_pay9; pointwise
theorem pay3_apply (i : S128x2048.Idx) : k0_pay3 (F := Ideal) i = 0 := by
  unfold k0_pay3; pointwise
theorem pay1_apply (v g : FVec Ideal S128x512 .f32) (acc : Vec Ideal S128x2048 .f32) (wd : Vec Ideal S512x2048 .bf16) (r : Fin 128) (d : Fin 2048) :
    k0_pay1 v g acc wd (ix2 r d) = acc (ix2 r d) + ∑ a : Fin 512, g (ix2 r a) * v (ix2 r a) * wd (ix2 a d) := by
  unfold k0_pay1; pointwise
theorem pay2_apply (h x : Vec Ideal S128x2048 .f32) (w : Vec Ideal S1x2048 .f32) (r : Fin 128) (d : Fin 2048) : k0_pay2 h x w (ix2 r d) =
   h (ix2 r d) + x (ix2 r d) * Ideal.rsqrt (Ideal.div (∑ k, x (ix2 r k) * x (ix2 r k)) (Ideal.ofBits FTy.f32 1157627904#32) + Ideal.ofBits FTy.f32 897988541#32) * w (ix2 0 d) := by
  unfold k0_pay2; pointwise

/-! ## The blocks -/

variable (m : (ℓ : Loc nD τ sig) → Buf (Elt Ideal) ℓ) (ρ : Dev nD → PrngReg) (c : Dev nD)

/-- The kernel's argument arrays. -/
abbrev kA : S128x2048.Idx → EReal := m ((c.tc : Thread nD τ).loc main_arg0)
abbrev kH : S128x2048.Idx → EReal := m ((c.tc : Thread nD τ).loc main_arg1)
abbrev kQ : S1x128x2x11264.Idx → EReal := m ((c.tc : Thread nD τ).loc main_arg2)
abbrev kW : S1x2048x11264.Idx → EReal := m ((c.tc : Thread nD τ).loc main_arg3)
abbrev kT : S1x3x11264.Idx → EReal := m ((c.tc : Thread nD τ).loc main_arg4)
abbrev kB : S1x11264.Idx → EReal := m ((c.tc : Thread nD τ).loc main_arg5)
abbrev kD : S1x5632x2048.Idx → EReal := m ((c.tc : Thread nD τ).loc main_arg6)
abbrev kN : S1x2048.Idx → EReal := m ((c.tc : Thread nD τ).loc main_arg7)

theorem idx (t : Fin cfg0.N) : win0_0.index t = ![0, 0] ∧ win0_1.index t = ![0, 0] ∧ win0_2.index t = ![0, 0, t.val] ∧ win0_3.index t = ![1, 0, t.val]
    ∧ win0_4.index t = ![0, 0, 11 + t.val] ∧ win0_5.index t = ![1, 0, 11 + t.val] ∧ win0_6.index t = ![0, t.val] ∧ win0_7.index t = ![0, 11 + t.val]
    ∧ win0_8.index t = ![0, t.val] ∧ win0_9.index t = ![0, 11 + t.val] ∧ win0_10.index t = ![0, t.val] ∧ win0_11.index t = ![0, 11 + t.val]
    ∧ win0_12.index t = ![t.val, 0] ∧ win0_13.index t = ![0, 0] ∧ win0_14.index t = ![0, 0] ∧ win0_15.index t = ![0, t.val] ∧ win0_16.index t = ![0, t.val] :=
  (by decide +kernel : ∀ t : Fin grid0.N, win0_0.index t = ![0, 0] ∧ win0_1.index t = ![0, 0] ∧ win0_2.index t = ![0, 0, t.val] ∧ win0_3.index t = ![1, 0, t.val]
    ∧ win0_4.index t = ![0, 0, 11 + t.val] ∧ win0_5.index t = ![1, 0, 11 + t.val] ∧ win0_6.index t = ![0, t.val] ∧ win0_7.index t = ![0, 11 + t.val]
    ∧ win0_8.index t = ![0, t.val] ∧ win0_9.index t = ![0, 11 + t.val] ∧ win0_10.index t = ![0, t.val] ∧ win0_11.index t = ![0, 11 + t.val]
    ∧ win0_12.index t = ![t.val, 0] ∧ win0_13.index t = ![0, 0] ∧ win0_14.index t = ![0, 0] ∧ win0_15.index t = ![0, t.val] ∧ win0_16.index t = ![0, t.val]) t

theorem lt_N (t : Fin cfg0.N) : t.val < 11 := Nat.lt_of_lt_of_eq t.isLt (by decide)

/-- A point's columns of the gate, of the values and of the down projection. -/
def colG (t : Fin cfg0.N) (a : Fin 512) : Fin 11264 := ⟨512 * t.val + a.val, by have := lt_N t; omega⟩
def colU (t : Fin cfg0.N) (a : Fin 512) : Fin 11264 := ⟨512 * (11 + t.val) + a.val, by have := lt_N t; omega⟩
def colD (t : Fin cfg0.N) (a : Fin 512) : Fin 5632 := ⟨512 * t.val + a.val, by have := lt_N t; omega⟩

/-- The arrays the region finds. -/
theorem V_up : V m c main_v1 = shapeCast _ (kW m c) shapeCasts_S1x2048x11264_S2048x11264 := rfl
theorem V_down : V m c main_v3 = shapeCast _ (kD m c) shapeCasts_S1x5632x2048_S5632x2048 := rfl
theorem V_state : V m c main_v5 = transpose S2x128x11264 [1, 0, 2] (shapeCast S128x2x11264 (kQ m c) shapeCasts_S1x128x2x11264_S128x2x11264) transposes_S128x2x11264_S2x128x11264_1_0_2 := rfl
theorem V_taps : V m c main_v7 = shapeCast _ (kT m c) shapeCasts_S1x3x11264_S3x11264 := rfl
theorem V_bias : V m c main_v11 = shapeCast _ (shapeCast _ (kB m c) shapeCasts_S1x11264_S11264) shapeCasts_S11264_S1x11264 := rfl
theorem V_norm : V m c main_v10 = shapeCast _ (shapeCast _ (kN m c) shapeCasts_S1x2048_S2048) shapeCasts_S2048_S1x2048 := rfl

/-- The state's array at an index. -/
theorem state_apply (q : Fin 2) (r : Fin 128) (j : Fin 11264) : V m c main_v5 (ix3 q r j) = kQ m c (ix4 0 r q j) := by
  rw [V_state]
  pointwise

/-- The blocks at an index. -/
theorem blkA (t : Fin cfg0.N) (r : Fin 128) (a : Fin 2048) : iblk m c 0 t (ix2 r a) = kA m c (ix2 r a) := by
  blk_ext [iblk, V, idx t]
theorem blkH (t : Fin cfg0.N) (r : Fin 128) (a : Fin 2048) : iblk m c 1 t (ix2 r a) = kH m c (ix2 r a) := by
  blk_ext [iblk, V, idx t]
theorem blkG0 (t : Fin cfg0.N) (r : Fin 128) (a : Fin 512) : iblk m c 2 t (ix3 0 r a) = kQ m c (ix4 0 r 0 (colG t a)) := by
  have e : iblk m c 2 t (ix3 0 r a) = V m c main_v5 (ix3 0 r (colG t a)) := by unfold colG; blk_ext [iblk, idx t]
  rw [e, state_apply]
theorem blkG1 (t : Fin cfg0.N) (r : Fin 128) (a : Fin 512) : iblk m c 3 t (ix3 0 r a) = kQ m c (ix4 0 r 1 (colG t a)) := by
  have e : iblk m c 3 t (ix3 0 r a) = V m c main_v5 (ix3 1 r (colG t a)) := by unfold colG; blk_ext [iblk, idx t]
  rw [e, state_apply]
theorem blkU0 (t : Fin cfg0.N) (r : Fin 128) (a : Fin 512) : iblk m c 4 t (ix3 0 r a) = kQ m c (ix4 0 r 0 (colU t a)) := by
  have e : iblk m c 4 t (ix3 0 r a) = V m c main_v5 (ix3 0 r (colU t a)) := by unfold colU; blk_ext [iblk, idx t]
  rw [e, state_apply]
theorem blkU1 (t : Fin cfg0.N) (r : Fin 128) (a : Fin 512) : iblk m c 5 t (ix3 0 r a) = kQ m c (ix4 0 r 1 (colU t a)) := by
  have e : iblk m c 5 t (ix3 0 r a) = V m c main_v5 (ix3 1 r (colU t a)) := by unfold colU; blk_ext [iblk, idx t]
  rw [e, state_apply]
theorem blkG (t : Fin cfg0.N) (k : Fin 2048) (a : Fin 512) : iblk m c 6 t (ix2 k a) = kW m c (ix3 0 k (colG t a)) := by
  have e : iblk m c 6 t (ix2 k a) = V m c main_v1 (ix2 k (colG t a)) := by unfold colG; blk_ext [iblk, idx t]
  rw [e, V_up]; pointwise
theorem blkU (t : Fin cfg0.N) (k : Fin 2048) (a : Fin 512) : iblk m c 7 t (ix2 k a) = kW m c (ix3 0 k (colU t a)) := by
  have e : iblk m c 7 t (ix2 k a) = V m c main_v1 (ix2 k (colU t a)) := by unfold colU; blk_ext [iblk, idx t]
  rw [e, V_up]; pointwise
theorem blkTg (t : Fin cfg0.N) (k : Fin 3) (a : Fin 512) : iblk m c 8 t (ix2 k a) = kT m c (ix3 0 k (colG t a)) := by
  have e : iblk m c 8 t (ix2 k a) = V m c main_v7 (ix2 k (colG t a)) := by unfold colG; blk_ext [iblk, idx t]
  rw [e, V_taps]; pointwise
theorem blkTu (t : Fin cfg0.N) (k : Fin 3) (a : Fin 512) : iblk m c 9 t (ix2 k a) = kT m c (ix3 0 k (colU t a)) := by
  have e : iblk m c 9 t (ix2 k a) = V m c main_v7 (ix2 k (colU t a)) := by unfold colU; blk_ext [iblk, idx t]
  rw [e, V_taps]; pointwise
theorem blkBg (t : Fin cfg0.N) (a : Fin 512) : iblk m c 10 t (ix2 0 a) = kB m c (ix2 0 (colG t a)) := by
  have e : iblk m c 10 t (ix2 0 a) = V m c main_v11 (ix2 0 (colG t a)) := by unfold colG; blk_ext [iblk, idx t]
  rw [e, V_bias]; pointwise
theorem blkBu (t : Fin cfg0.N) (a : Fin 512) : iblk m c 11 t (ix2 0 a) = kB m c (ix2 0 (colU t a)) := by
  have e : iblk m c 11 t (ix2 0 a) = V m c main_v11 (ix2 0 (colU t a)) := by unfold colU; blk_ext [iblk, idx t]
  rw [e, V_bias]; pointwise
theorem blkD (t : Fin cfg0.N) (a : Fin 512) (d : Fin 2048) : iblk m c 12 t (ix2 a d) = kD m c (ix3 0 (colD t a) d) := by
  have e : iblk m c 12 t (ix2 a d) = V m c main_v3 (ix2 (colD t a) d) := by unfold colD; blk_ext [iblk, idx t]
  rw [e, V_down]; pointwise
theorem blkN (t : Fin cfg0.N) (d : Fin 2048) : iblk m c 13 t (ix2 0 d) = kN m c (ix2 0 d) := by
  have e : iblk m c 13 t (ix2 0 d) = V m c main_v10 (ix2 0 d) := by blk_ext [iblk, idx t]
  rw [e, V_norm]; pointwise

/-- A row of the taps, as the body loads it. -/
theorem ldT (x : Vec Ideal S3x512 .f32) (o : Fin 3) (h) (a : Fin 512) :
    View.ld x (Rect.unit (s := S3x512) ![o.val, 0] S1x512.size h) (ix2 0 a) = x (ix2 o a) := by
  refine View.ld_unit_apply_of x _ _ _ _ _ fun b => ?_
  match b with
  | 0 => rfl
  | 1 => exact (Nat.zero_add _).symm

/-! ## What a point computes -/

/-- The point's gate values and its other values, after the convolution, and the gate's after the activation. -/
def gateAt (t : Fin cfg0.N) : FVec Ideal S128x512 .f32 :=
  k0_pay6 (iblk m c 0 t) (iblk m c 6 t) (iblk m c 2 t) (View.ld (iblk m c 8 t) (Rect.unit (s := S3x512) ![0, 0] S1x512.size inb_S3x512_S1x512_0_0))
    (iblk m c 3 t) (View.ld (iblk m c 8 t) (Rect.unit (s := S3x512) ![1, 0] S1x512.size inb_S3x512_S1x512_1_0))
    (View.ld (iblk m c 8 t) (Rect.unit (s := S3x512) ![2, 0] S1x512.size inb_S3x512_S1x512_2_0)) (iblk m c 10 t)
def valAt (t : Fin cfg0.N) : FVec Ideal S128x512 .f32 :=
  k0_pay8 (k0_pay4 (iblk m c 0 t)) (iblk m c 7 t) (iblk m c 4 t) (View.ld (iblk m c 9 t) (Rect.unit (s := S3x512) ![0, 0] S1x512.size inb_S3x512_S1x512_0_0))
    (iblk m c 5 t) (View.ld (iblk m c 9 t) (Rect.unit (s := S3x512) ![1, 0] S1x512.size inb_S3x512_S1x512_1_0))
    (View.ld (iblk m c 9 t) (Rect.unit (s := S3x512) ![2, 0] S1x512.size inb_S3x512_S1x512_2_0)) (iblk m c 11 t)

/-- The reference's steps at the kernel's arguments. -/
def kUp : FVec Ideal Cert.Reference8Ideal.S128x11264 .f32 := up (kA m c) (kW m c)
def kConv : FVec Ideal Cert.Reference8Ideal.S128x11264 .f32 := conv (ext (kQ m c) (kUp m c)) (kT m c) (kB m c)
def kGate : FVec Ideal Cert.Reference8Ideal.S128x5632 .f32 :=
  gated (extractStridedSlice Cert.Reference8Ideal.S128x5632 ![0, 0] (kConv m c) Cert.Reference8Ideal.Gen.slices_S128x11264_S128x5632_0_0)
    (extractStridedSlice Cert.Reference8Ideal.S128x5632 ![0, 5632] (kConv m c) Cert.Reference8Ideal.Gen.slices_S128x11264_S128x5632_0_5632)
def kDown : FVec Ideal S128x2048 .f32 := down (kGate m c) (kD m c)

/-- A point's products. -/
theorem upG (t : Fin cfg0.N) (r : Fin 128) (a : Fin 512) : k0_pay5 (iblk m c 0 t) (iblk m c 6 t) (ix2 r a) = kUp m c (ix2 r (colG t a)) := by
  refine (pay5_apply _ _ r a).trans (Eq.trans ?_ (SffnRef.up_apply _ _ _ _).symm)
  exact Finset.sum_congr rfl fun k _ => congrArg₂ (· * ·) (blkA m c t r k) (blkG m c t k a)
theorem upU (t : Fin cfg0.N) (r : Fin 128) (a : Fin 512) : k0_pay7 (k0_pay4 (iblk m c 0 t)) (iblk m c 7 t) (ix2 r a) = kUp m c (ix2 r (colU t a)) := by
  refine (pay7_apply _ _ r a).trans (Eq.trans ?_ (SffnRef.up_apply _ _ _ _).symm)
  exact Finset.sum_congr rfl fun k _ => congrArg₂ (· * ·) (blkA m c t r k) (blkU m c t k a)

/-- The kernel adds the bias last. -/
theorem bias_last (x y z b : EReal) : x + y + z + b = b + x + y + z := by ac_rfl

/-- The reference's convolution at an index. -/
theorem conv_at (r : Fin 128) (j : Fin 11264) : kConv m c (ix2 r j) =
    kB m c (ix2 0 j) + kQ m c (ix4 0 r 0 j) * kT m c (ix3 0 0 j) + kQ m c (ix4 0 r 1 j) * kT m c (ix3 0 1 j) + kUp m c (ix2 r j) * kT m c (ix3 0 2 j) := by
  obtain ⟨h0, h1, h2⟩ := SffnRef.ext_apply (kQ m c) (kUp m c) r j
  unfold kConv
  rw [SffnRef.conv_apply, h0, h1, h2]

theorem gateAt_apply (t : Fin cfg0.N) (r : Fin 128) (a : Fin 512) : gateAt m c t (ix2 r a) = kConv m c (ix2 r (colG t a)) := by
  unfold gateAt
  refine (pay6_apply _ _ _ _ _ _ _ _ r a).trans (Eq.trans ?_ (conv_at m c r (colG t a)).symm)
  refine Eq.trans ?_ (bias_last _ _ _ _)
  refine congrArg₂ (· + ·) (congrArg₂ (· + ·) (congrArg₂ (· + ·) (congrArg₂ (· * ·) (blkG0 m c t r a) ?_) (congrArg₂ (· * ·) (blkG1 m c t r a) ?_)) (congrArg₂ (· * ·) (upG m c t r a) ?_)) (blkBg m c t a)
  · exact (ldT (iblk m c 8 t) 0 _ a).trans (blkTg m c t 0 a)
  · exact (ldT (iblk m c 8 t) 1 _ a).trans (blkTg m c t 1 a)
  · exact (ldT (iblk m c 8 t) 2 _ a).trans (blkTg m c t 2 a)
theorem valAt_apply (t : Fin cfg0.N) (r : Fin 128) (a : Fin 512) : valAt m c t (ix2 r a) = kConv m c (ix2 r (colU t a)) := by
  unfold valAt
  refine (pay8_apply _ _ _ _ _ _ _ _ r a).trans (Eq.trans ?_ (conv_at m c r (colU t a)).symm)
  refine Eq.trans ?_ (bias_last _ _ _ _)
  refine congrArg₂ (· + ·) (congrArg₂ (· + ·) (congrArg₂ (· + ·) (congrArg₂ (· * ·) (blkU0 m c t r a) ?_) (congrArg₂ (· * ·) (blkU1 m c t r a) ?_)) (congrArg₂ (· * ·) (upU m c t r a) ?_)) (blkBu m c t a)
  · exact (ldT (iblk m c 9 t) 0 _ a).trans (blkTu m c t 0 a)
  · exact (ldT (iblk m c 9 t) 1 _ a).trans (blkTu m c t 1 a)
  · exact (ldT (iblk m c 9 t) 2 _ a).trans (blkTu m c t 2 a)

/-- The reference's gated value at a point's row and column. -/
theorem gate_apply (t : Fin cfg0.N) (n : Fin 128) (a : Fin 512) : kGate m c (ix2 n (colD t a)) =
    kConv m c (ix2 n (colG t a)) * (Ideal.ofBits FTy.f32 1056964608#32 * (1 + Ideal.tanh (Ideal.ofBits FTy.f32 1061962282#32 * (kConv m c (ix2 n (colG t a)) + Ideal.ofBits FTy.f32 1027024659#32 * (kConv m c (ix2 n (colG t a)) * kConv m c (ix2 n (colG t a)) * kConv m c (ix2 n (colG t a)))))))
      * kConv m c (ix2 n (colU t a)) := by
  have e1 : extractStridedSlice Cert.Reference8Ideal.S128x5632 ![0, 0] (kConv m c) Cert.Reference8Ideal.Gen.slices_S128x11264_S128x5632_0_0 (ix2 n (colD t a)) = kConv m c (ix2 n (colG t a)) := by
    pointwise
    congr 2 <;> exact Fin.ext (by simp [colD, colG])
  have e2 : extractStridedSlice Cert.Reference8Ideal.S128x5632 ![0, 5632] (kConv m c) Cert.Reference8Ideal.Gen.slices_S128x11264_S128x5632_0_5632 (ix2 n (colD t a)) = kConv m c (ix2 n (colU t a)) := by
    pointwise
    congr 2 <;> exact Fin.ext (by simp [colD, colU]; omega)
  rw [kGate, SffnRef.gated_apply, e1, e2]

/-- A point's part of the down projection, over an accumulator. -/
theorem part_apply (t : Fin cfg0.N) (acc : Vec Ideal S128x2048 .f32) (r : Fin 128) (d : Fin 2048) :
    k0_pay1 (valAt m c t) (k0_pay9 (gateAt m c t)) acc (iblk m c 12 t) (ix2 r d) = acc (ix2 r d) + ∑ a : Fin 512, kGate m c (ix2 r (colD t a)) * kD m c (ix3 0 (colD t a) d) := by
  refine (pay1_apply _ _ _ _ r d).trans (congrArg (acc (ix2 r d) + ·) (Finset.sum_congr rfl fun a _ => ?_))
  refine congrArg₂ (· * ·) ?_ (blkD m c t a d)
  rw [pay9_apply, gateAt_apply, valAt_apply, gate_apply, mul_comm (Ideal.ofBits FTy.f32 1056964608#32) (kConv m c (ix2 r (colG t a))), mul_assoc (kConv m c (ix2 r (colG t a)))]

/-- A term of the reference's down projection, by its number. -/
def term (n : Fin 128) (d : Fin 2048) (k : ℕ) : EReal := if h : k < 5632 then kGate m c (ix2 n ⟨k, h⟩) * kD m c (ix3 0 ⟨k, h⟩ d) else 0

theorem part_range (t : Fin cfg0.N) (acc : Vec Ideal S128x2048 .f32) (r : Fin 128) (d : Fin 2048) :
    k0_pay1 (valAt m c t) (k0_pay9 (gateAt m c t)) acc (iblk m c 12 t) (ix2 r d) = acc (ix2 r d) + ∑ a ∈ Finset.range 512, term m c r d (512 * t.val + a) := by
  refine (part_apply m c t acc r d).trans (congrArg (acc (ix2 r d) + ·) ?_)
  rw [Finset.sum_range]
  exact Finset.sum_congr rfl fun a _ => by rw [term, dif_pos (by have := lt_N t; omega)]; rfl

/-! ## The accumulator and the results after a point -/

theorem s_A (t : Fin cfg0.N) (h0 : t.val % 11 = 0) (h1 : ¬t.val % 11 = 10) :
    (outsAt0 m c t.val t.isLt).2.2.2 = k0_pay1 (valAt m c t) (k0_pay9 (gateAt m c t)) (k0_pay3 (F := Ideal)) (iblk m c 12 t) := by
  rw [outsAt0_A m c t h0 h1]
  frame_out
  rfl
theorem s_B (t : Fin cfg0.N) (h0 : ¬t.val % 11 = 0) (h1 : ¬t.val % 11 = 10) :
    (outsAt0 m c t.val t.isLt).2.2.2 = k0_pay1 (valAt m c t) (k0_pay9 (gateAt m c t)) (outsAt0 m c (t.val - 1) (Nat.lt_of_le_of_lt (Nat.sub_le _ _) t.isLt)).2.2.2 (iblk m c 12 t) := by
  rw [outsAt0_B m c t h0 h1]
  frame_out
  simp only [read_unread_whole]
  rfl
theorem o_C (t : Fin cfg0.N) (h0 : ¬t.val % 11 = 0) (h1 : t.val % 11 = 10) :
    (outsAt0 m c t.val t.isLt).1 = k0_pay2 (iblk m c 1 t) (k0_pay1 (valAt m c t) (k0_pay9 (gateAt m c t)) (outsAt0 m c (t.val - 1) (Nat.lt_of_le_of_lt (Nat.sub_le _ _) t.isLt)).2.2.2 (iblk m c 12 t)) (iblk m c 13 t) := by
  rw [outsAt0_C m c t h0 h1]
  frame_out
  simp only [read_unread_whole]
  rfl

/-- The new rows' blocks, at every point. -/
theorem o15 (t : Fin cfg0.N) : (outsAt0 m c t.val t.isLt).2.1 = k0_pay5 (iblk m c 0 t) (iblk m c 6 t) := by
  by_cases h0 : t.val % 11 = 0
  · rw [outsAt0_A m c t h0 (by omega)]
    frame_out
  · by_cases h1 : t.val % 11 = 10
    · rw [outsAt0_C m c t h0 h1]
      frame_out
    · rw [outsAt0_B m c t h0 h1]
      frame_out
theorem o16 (t : Fin cfg0.N) : (outsAt0 m c t.val t.isLt).2.2.1 = k0_pay7 (k0_pay4 (iblk m c 0 t)) (iblk m c 7 t) := by
  by_cases h0 : t.val % 11 = 0
  · rw [outsAt0_A m c t h0 (by omega)]
    frame_out
  · by_cases h1 : t.val % 11 = 10
    · rw [outsAt0_C m c t h0 h1]
      frame_out
    · rw [outsAt0_B m c t h0 h1]
      frame_out

/-- The accumulator after a point before the last: the terms of the column blocks so far. -/
theorem acc_range : ∀ (n : ℕ) (hn : n < cfg0.N), n < 10 → ∀ (r : Fin 128) (d : Fin 2048),
    (outsAt0 m c n hn).2.2.2 (ix2 r d) = ∑ k ∈ Finset.range (512 * (n + 1)), term m c r d k
  | 0, hn, _, r, d => by
    refine (congrFun (s_A m c ⟨0, hn⟩ rfl (by show ¬ 0 % 11 = 10; omega)) (ix2 r d)).trans ?_
    rw [part_range, pay3_apply, zero_add]
    exact Finset.sum_congr rfl fun a _ => by rw [show 512 * (⟨0, hn⟩ : Fin cfg0.N).val + a = a from Nat.zero_add a]
  | n + 1, hn, h, r, d => by
    refine (congrFun (s_B m c ⟨n + 1, hn⟩ (by show ¬ (n + 1) % 11 = 0; omega) (by show ¬ (n + 1) % 11 = 10; omega)) (ix2 r d)).trans ?_
    rw [part_range, Nat.mul_succ 512 (n + 1), Finset.sum_range_add]
    exact congrArg (· + _) (acc_range n _ (by omega) r d)

/-- After the last column block, the reference's down projection. -/
theorem acc_last (t : Fin cfg0.N) (h : t.val = 10) (r : Fin 128) (d : Fin 2048) :
    k0_pay1 (valAt m c t) (k0_pay9 (gateAt m c t)) (outsAt0 m c (t.val - 1) (Nat.lt_of_le_of_lt (Nat.sub_le _ _) t.isLt)).2.2.2 (iblk m c 12 t) (ix2 r d) = kDown m c (ix2 r d) := by
  have e := acc_range m c (t.val - 1) (Nat.lt_of_le_of_lt (Nat.sub_le _ _) t.isLt) (by omega) r d
  have s : ∑ k ∈ Finset.range (512 * (10 - 1 + 1)), term m c r d k + ∑ a ∈ Finset.range 512, term m c r d (512 * 10 + a) = ∑ k ∈ Finset.range 5632, term m c r d k :=
    (Finset.sum_range_add (fun k => term m c r d k) 5120 512).symm
  rw [part_range, e, h, s, kDown, SffnRef.down_apply, Finset.sum_range]
  exact Finset.sum_congr rfl fun k _ => by rw [term, dif_pos k.isLt]

/-! ## The result arrays after the run -/

/-- The result, and the new rows of the state: the gate's columns and the values'. -/
def out14 : S128x2048.Idx → EReal := normed (kH m c) (kDown m c) (kN m c)
def out15 : S128x5632.Idx → EReal := newG (ext (kQ m c) (kUp m c))
def out16 : S128x5632.Idx → EReal := newU (ext (kQ m c) (kUp m c))

theorem out_last (t : Fin cfg0.N) (h : t.val = 10) (r : Fin 128) (d : Fin 2048) : (outsAt0 m c t.val t.isLt).1 (ix2 r d) = out14 m c (ix2 r d) := by
  have e := acc_last m c t h r
  refine (congrFun (o_C m c t (by omega) (by omega)) (ix2 r d)).trans ?_
  generalize k0_pay1 (valAt m c t) (k0_pay9 (gateAt m c t)) (outsAt0 m c (t.val - 1) (Nat.lt_of_le_of_lt (Nat.sub_le _ _) t.isLt)).2.2.2 (iblk m c 12 t) = x at e ⊢
  unfold out14
  rw [pay2_apply, SffnRef.normed_apply, blkH, blkN]
  simp only [e]

theorem final14 : (dats m 0 c).arrAt 14 cfg0.N = out14 m c := by
  refine (dats m 0 c).arrAt_eq_of_covers 14 (out14 m c) (by decide +kernel) fun t hf y => ?_
  have ht : t.val = 10 := by
    have := lt_N t
    have := (flush0_14 t).mp hf
    omega
  blk_simp
  rw [after0_14]
  obtain ⟨r, d, rfl⟩ : ∃ (r : Fin 128) (d : Fin 2048), y = ix2 r d := ⟨y 0, y 1, eq_ix2 y⟩
  exact (out_last m c t ht r d).trans
    (show out14 m c ((win0_14.blk t).view.emb (ix2 r d)) = out14 m c (ix2 r d) by blk_ext [idx t]).symm

theorem out15_apply (t : Fin cfg0.N) (r : Fin 128) (a : Fin 512) : out15 m c (ix2 r (colD t a)) = kUp m c (ix2 r (colG t a)) := by
  unfold out15
  rw [SffnRef.newG_apply]
  exact (SffnRef.ext_apply _ _ _ _).2.2
theorem out16_apply (t : Fin cfg0.N) (r : Fin 128) (a : Fin 512) : out16 m c (ix2 r (colD t a)) = kUp m c (ix2 r (colU t a)) := by
  unfold out16
  rw [SffnRef.newU_apply]
  refine (SffnRef.ext_apply _ _ _ _).2.2.trans (congrArg (fun q => kUp m c (ix2 r q)) (Fin.ext ?_))
  simp only [colD, colU]; omega

theorem final15 : (dats m 0 c).arrAt 15 cfg0.N = out15 m c := by
  refine (dats m 0 c).arrAt_eq_of_covers 15 (out15 m c) (by decide +kernel) fun t hf y => ?_
  blk_simp
  rw [after0_15, o15]
  obtain ⟨r, a, rfl⟩ : ∃ (r : Fin 128) (a : Fin 512), y = ix2 r a := ⟨y 0, y 1, eq_ix2 y⟩
  exact (upG m c t r a).trans ((out15_apply m c t r a).symm.trans
    (show out15 m c ((win0_15.blk t).view.emb (ix2 r a)) = out15 m c (ix2 r (colD t a)) by unfold colD; blk_ext [idx t]).symm)
theorem final16 : (dats m 0 c).arrAt 16 cfg0.N = out16 m c := by
  refine (dats m 0 c).arrAt_eq_of_covers 16 (out16 m c) (by decide +kernel) fun t hf y => ?_
  blk_simp
  rw [after0_16, o16]
  obtain ⟨r, a, rfl⟩ : ∃ (r : Fin 128) (a : Fin 512), y = ix2 r a := ⟨y 0, y 1, eq_ix2 y⟩
  exact (upU m c t r a).trans ((out16_apply m c t r a).symm.trans
    (show out16 m c ((win0_16.blk t).view.emb (ix2 r a)) = out16 m c (ix2 r (colD t a)) by unfold colD; blk_ext [idx t]).symm)

end Cert.Proof.Sffn

end
-- ==== Proof.SffnClaim.lean ====
/-
  The certificate's claims about the eighth program pair: the sample batch's feed-forward kernel and its reference.
-/
module

public import proofs.«01_k».proof.Defs
public import proofs.«01_k».proof.Proof.SffnVal
public import proofs.«01_k».proof.Proof.Gen.Kernel8.Frame
public import Idealize.ShloMosaic.Lib.Claim

@[expose] public section

set_option maxRecDepth 16384

noncomputable section

namespace Cert.Proof.Sffn

open Cert.Kernel8Ideal Cert.Kernel8Ideal.Gen
open Idealize.ShloMosaic Idealize.SL.Sem

/-! ## The claims -/

/-- The kernel's run on the chip's floats: arguments kept, counters at zero. -/
theorem frame_kernel : Cert.quiescent_Kernel8 := fun m ρ _ => Cert.Kernel8.Gen.frame (F := Bits) m ρ

/-- The same at the exact instance. -/
theorem frame_kernelIdeal : Cert.quiescent_Kernel8Ideal := fun m ρ _ => Cert.Kernel8Ideal.Gen.frame (F := Ideal) m ρ

/-- The reference's run: arguments kept, and it has no semaphore. -/
theorem frame_reference : Cert.quiescent_Reference8Ideal := fun m ρ _ =>
  (θ_run Cert.Reference8Ideal.defs _ _).mono (fun r h => ⟨fun c => (h c).2.2.2, sem_eq_zero_of_no_sems rfl r.2⟩) (Cert.Reference8Ideal.Value.run (F := Ideal) m ρ)

/-- The kernel and the reference end with equal results. -/
theorem algebraic : Cert.algebraic_Kernel8Ideal_Reference8Ideal := by
  intro m ρ m' ρ' _ he
  refine ⟨fun c => out14 m c, fun c => out15 m c, fun c => out16 m c, (θ_run defs _ _).mono (fun r h c => ?_) (Cert.Kernel8Ideal.Value.run_blocks (F := Ideal) m ρ), ?_⟩
  · obtain ⟨h0, h1, h2, hr⟩ := h c
    exact ⟨h0.trans (final14 m c), h1.trans (final15 m c), h2.trans (final16 m c), hr⟩
  refine (θ_run Cert.Reference8Ideal.defs _ _).mono (fun r h c => ?_) (Cert.Reference8Ideal.Value.run (F := Ideal) m' ρ')
  obtain ⟨e0, e1, e2, e3, e4, e5, e6, e7⟩ := he c
  obtain ⟨h0, h1, h2, hr⟩ := h c
  refine ⟨h0.trans ?_, h1.trans ?_, h2.trans ?_, hr⟩
  · rw [SffnRef.res_eq, e0, e1, e2, e3, e4, e5, e6, e7]; rfl
  · rw [e0, e2, e3]; rfl
  · rw [e0, e2, e3]; rfl

end Cert.Proof.Sffn

end
-- ==== Proof.lean ====
/- The proof of the certificate's claims, assembled from the modules of this directory. -/
module

public import proofs.«01_k».proof.Defs
public import proofs.«01_k».proof.Proof.Gen.KernelIdeal.Value
public import proofs.«01_k».proof.Proof.Gen.ReferenceIdeal.Run
public import proofs.«01_k».proof.Proof.Gen.Pre_finite
public import proofs.«01_k».proof.Proof.GlaClaim
public import proofs.«01_k».proof.Proof.Gen.Kernel3.Frame
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Kernel2Ideal.Value
public import proofs.«01_k».proof.Proof.Gen.Kernel4.Frame
public import proofs.«01_k».proof.Proof.Gen.Kernel4Ideal.Frame
public import proofs.«01_k».proof.Proof.Gen.Kernel4Ideal.Skeleton
public import proofs.«01_k».proof.Proof.Gen.Kernel4Ideal.Value
public import proofs.«01_k».proof.Proof.Gen.Reference2Ideal.Run
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Skeleton
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Skeleton
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Skeleton
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Skeleton
public import proofs.«01_k».proof.Proof.Gen.Kernel8Ideal.Value
public import proofs.«01_k».proof.Proof.Gen.Reference8Ideal.Run
public import proofs.«01_k».proof.Proof.PostClaim
public import proofs.«01_k».proof.Proof.FfnClaim
public import proofs.«01_k».proof.Proof.ProjClaim
public import proofs.«01_k».proof.Proof.RopeClaim
public import proofs.«01_k».proof.Proof.SprojClaim
public import proofs.«01_k».proof.Proof.SropeClaim
public import proofs.«01_k».proof.Proof.SffnClaim
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, GlaClaim.preFacts, RopeRef.preFacts, SropeRef.preFacts,
  GlaClaim.frame_kernel, GlaClaim.frame_kernelIdeal, GlaClaim.frame_kernelIdeal_pre, GlaClaim.frame_reference, GlaClaim.frame_reference_pre,
  Post.frame_kernel, Post.frame_kernelIdeal, Post.frame_reference, Ffn.frame_kernel, Ffn.frame_kernelIdeal, Ffn.frame_reference,
  Proj.frame_kernel, Proj.frame_kernelIdeal, Proj.frame_reference,
  Rope.frame_kernel, Rope.frame_kernelIdeal, Rope.frame_kernelIdeal_pre, Rope.frame_reference, Rope.frame_reference_pre,
  Sproj.frame_kernel, Sproj.frame_kernelIdeal, Sproj.frame_reference,
  Srope.frame_kernel, Srope.frame_kernelIdeal, Srope.frame_kernelIdeal_pre, Srope.frame_reference, Srope.frame_reference_pre,
  Sffn.frame_kernel, Sffn.frame_kernelIdeal, Sffn.frame_reference,
  trivial, GlaClaim.algebraic, trivial, Post.algebraic, trivial, Ffn.algebraic, trivial, Proj.algebraic, trivial, Rope.algebraic,
  trivial, Sproj.algebraic, trivial, Srope.algebraic, trivial, Sffn.algebraic⟩

end Cert.Proof

end
